-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 8192]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x256 : Shape := ⟨2, ![4096, 256]⟩
abbrev S32 : Shape := ⟨1, ![32]⟩
abbrev S_ : Shape := ⟨0, ![]⟩
abbrev S32x1 : Shape := ⟨2, ![32, 1]⟩
abbrev S1 : Shape := ⟨1, ![1]⟩
abbrev S16 : Shape := ⟨1, ![16]⟩
abbrev S16x1 : Shape := ⟨2, ![16, 1]⟩
abbrev S15 : Shape := ⟨1, ![15]⟩
abbrev S15x1 : Shape := ⟨2, ![15, 1]⟩
abbrev S3 : Shape := ⟨1, ![3]⟩
abbrev S34 : Shape := ⟨1, ![34]⟩
abbrev S2x64x4096 : Shape := ⟨3, ![2, 64, 4096]⟩
abbrev S4x2x64x4096 : Shape := ⟨4, ![4, 2, 64, 4096]⟩
abbrev S4x2 : Shape := ⟨2, ![4, 2]⟩
abbrev S1x1 : Shape := ⟨2, ![1, 1]⟩
abbrev S1x1x64x4096 : Shape := ⟨4, ![1, 1, 64, 4096]⟩
abbrev S64x4096 : Shape := ⟨2, ![64, 4096]⟩
abbrev S1x64x4096 : Shape := ⟨3, ![1, 64, 4096]⟩
abbrev S128x256 : Shape := ⟨2, ![128, 256]⟩
abbrev S1x2x64x4096 : Shape := ⟨4, ![1, 2, 64, 4096]⟩

abbrev nBuf : Space → Nat
  | .hbm => 161
  | .vmem => 5
  | .smem => 1
  | _ => 0

abbrev hbmTy0_0 (i : Nat) : BufTy := match i % 128 with
  | 0 => ⟨S128x4096, .f32⟩
  | 1 => ⟨S4096x256, .f32⟩
  | 2 => ⟨S32, .i32⟩
  | 3 => ⟨S_, .i32⟩
  | 4 => ⟨S32, .i32⟩
  | 5 => ⟨S32, .i32⟩
  | 6 => ⟨S_, .i32⟩
  | 7 => ⟨S32, .i32⟩
  | 8 => ⟨S32, .i1⟩
  | 9 => ⟨S_, .i32⟩
  | 10 => ⟨S32, .i32⟩
  | 11 => ⟨S32, .i32⟩
  | 12 => ⟨S32, .i32⟩
  | 13 => ⟨S32x1, .i32⟩
  | 14 => ⟨S32, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S1, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i1⟩
  | 41 => ⟨S_, .i32⟩
  | 42 => ⟨S_, .i1⟩
  | 43 => ⟨S_, .i1⟩
  | 44 => ⟨S_, .i1⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S1, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i1⟩
  | 67 => ⟨S_, .i32⟩
  | 68 => ⟨S_, .i1⟩
  | 69 => ⟨S_, .i1⟩
  | 70 => ⟨S_, .i1⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S1, .i32⟩
  | 79 => ⟨S_, .i32⟩
  | 80 => ⟨S_, .i32⟩
  | 81 => ⟨S_, .i32⟩
  | 82 => ⟨S16, .i32⟩
  | 83 => ⟨S16, .i32⟩
  | 84 => ⟨S16, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S16, .i32⟩
  | 92 => ⟨S16, .i32⟩
  | 93 => ⟨S_, .i32⟩
  | 94 => ⟨S16, .i32⟩
  | 95 => ⟨S16, .i1⟩
  | 96 => ⟨S_, .i32⟩
  | 97 => ⟨S16, .i32⟩
  | 98 => ⟨S16, .i1⟩
  | 99 => ⟨S_, .i32⟩
  | 100 => ⟨S_, .i1⟩
  | 101 => ⟨S16, .i1⟩
  | 102 => ⟨S16, .i1⟩
  | 103 => ⟨S16, .i1⟩
  | 104 => ⟨S16, .i32⟩
  | 105 => ⟨S16, .i32⟩
  | 106 => ⟨S16, .i32⟩
  | 107 => ⟨S_, .i32⟩
  | 108 => ⟨S16, .i32⟩
  | 109 => ⟨S16, .i1⟩
  | 110 => ⟨S_, .i32⟩
  | 111 => ⟨S16, .i32⟩
  | 112 => ⟨S16, .i32⟩
  | 113 => ⟨S16, .i32⟩
  | 114 => ⟨S16x1, .i32⟩
  | 115 => ⟨S16, .i32⟩
  | 116 => ⟨S_, .i32⟩
  | 117 => ⟨S_, .i32⟩
  | 118 => ⟨S15, .i32⟩
  | 119 => ⟨S15, .i32⟩
  | 120 => ⟨S15, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S15, .i32⟩
  | _ => ⟨S128x4096, .f32⟩

abbrev hbmTy0_1 (i : Nat) : BufTy := match i % 128 with
  | 0 => ⟨S15, .i32⟩
  | 1 => ⟨S_, .i32⟩
  | 2 => ⟨S15, .i32⟩
  | 3 => ⟨S15, .i1⟩
  | 4 => ⟨S_, .i32⟩
  | 5 => ⟨S15, .i32⟩
  | 6 => ⟨S15, .i1⟩
  | 7 => ⟨S_, .i32⟩
  | 8 => ⟨S_, .i1⟩
  | 9 => ⟨S15, .i1⟩
  | 10 => ⟨S15, .i1⟩
  | 11 => ⟨S15, .i1⟩
  | 12 => ⟨S15, .i32⟩
  | 13 => ⟨S15, .i32⟩
  | 14 => ⟨S15, .i32⟩
  | 15 => ⟨S_, .i32⟩
  | 16 => ⟨S15, .i32⟩
  | 17 => ⟨S15, .i1⟩
  | 18 => ⟨S_, .i32⟩
  | 19 => ⟨S15, .i32⟩
  | 20 => ⟨S15, .i32⟩
  | 21 => ⟨S15, .i32⟩
  | 22 => ⟨S15x1, .i32⟩
  | 23 => ⟨S15, .i32⟩
  | 24 => ⟨S1, .i32⟩
  | 25 => ⟨S1, .i32⟩
  | 26 => ⟨S1, .i32⟩
  | 27 => ⟨S3, .i32⟩
  | 28 => ⟨S34, .i32⟩
  | 29 => ⟨S128x4096, .bf16⟩
  | 30 => ⟨S2x64x4096, .bf16⟩
  | 31 => ⟨S4096x256, .bf16⟩
  | 32 => ⟨S4096x256, .f32⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | .local _ .vmem, ⟨0, _⟩ => ⟨S2x64x4096, .bf16⟩
  | .local _ .vmem, ⟨1, _⟩ => ⟨S4096x256, .bf16⟩
  | .local _ .vmem, ⟨2, _⟩ => ⟨S4096x256, .f32⟩
  | .local _ .vmem, ⟨3, _⟩ => ⟨S4x2x64x4096, .bf16⟩
  | .local _ .vmem, ⟨4, _⟩ => ⟨S4x2x64x4096, .bf16⟩
  | .local _ .smem, ⟨0, _⟩ => ⟨S34, .i32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 3 → Bool
  | ⟨0, _⟩ => true
  | ⟨1, _⟩ => true
  | ⟨2, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 3 36 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_5 : Ref sig .tc := ⟨.hbm, 21, rfl⟩
abbrev main_v14 : Ref sig .tc := ⟨.hbm, 22, rfl⟩
abbrev main_c_6 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_7 : Ref sig .tc := ⟨.hbm, 28, rfl⟩
abbrev main_v19 : Ref sig .tc := ⟨.hbm, 29, rfl⟩
abbrev main_c_8 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_c_1 : Ref sig .tc := ⟨.hbm, 37, rfl⟩
abbrev main_call0_v4 : Ref sig .tc := ⟨.hbm, 38, rfl⟩
abbrev main_call0_c_2 : Ref sig .tc := ⟨.hbm, 39, rfl⟩
abbrev main_call0_v5 : Ref sig .tc := ⟨.hbm, 40, rfl⟩
abbrev main_call0_c_3 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_v20 : Ref sig .tc := ⟨.hbm, 46, rfl⟩
abbrev main_c_9 : Ref sig .tc := ⟨.hbm, 47, rfl⟩
abbrev main_v21 : Ref sig .tc := ⟨.hbm, 48, rfl⟩
abbrev main_c_10 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_11 : Ref sig .tc := ⟨.hbm, 54, rfl⟩
abbrev main_v26 : Ref sig .tc := ⟨.hbm, 55, rfl⟩
abbrev main_c_12 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_c_1 : Ref sig .tc := ⟨.hbm, 63, rfl⟩
abbrev main_call1_v4 : Ref sig .tc := ⟨.hbm, 64, rfl⟩
abbrev main_call1_c_2 : Ref sig .tc := ⟨.hbm, 65, rfl⟩
abbrev main_call1_v5 : Ref sig .tc := ⟨.hbm, 66, rfl⟩
abbrev main_call1_c_3 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_v27 : Ref sig .tc := ⟨.hbm, 72, rfl⟩
abbrev main_c_13 : Ref sig .tc := ⟨.hbm, 73, rfl⟩
abbrev main_v28 : Ref sig .tc := ⟨.hbm, 74, rfl⟩
abbrev main_c_14 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_c_15 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_16 : Ref sig .tc := ⟨.hbm, 85, rfl⟩
abbrev main_call2_v0 : Ref sig .tc := ⟨.hbm, 86, rfl⟩
abbrev main_call2_c : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_c_1 : Ref sig .tc := ⟨.hbm, 93, rfl⟩
abbrev main_call2_v5 : Ref sig .tc := ⟨.hbm, 94, rfl⟩
abbrev main_call2_v6 : Ref sig .tc := ⟨.hbm, 95, rfl⟩
abbrev main_call2_c_2 : Ref sig .tc := ⟨.hbm, 96, rfl⟩
abbrev main_call2_v7 : Ref sig .tc := ⟨.hbm, 97, rfl⟩
abbrev main_call2_v8 : Ref sig .tc := ⟨.hbm, 98, rfl⟩
abbrev main_call2_c_3 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_v37 : Ref sig .tc := ⟨.hbm, 106, rfl⟩
abbrev main_c_17 : Ref sig .tc := ⟨.hbm, 107, rfl⟩
abbrev main_v38 : Ref sig .tc := ⟨.hbm, 108, rfl⟩
abbrev main_v39 : Ref sig .tc := ⟨.hbm, 109, rfl⟩
abbrev main_c_18 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_c_19 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_c_20 : Ref sig .tc := ⟨.hbm, 121, rfl⟩
abbrev main_call3_v0 : Ref sig .tc := ⟨.hbm, 122, rfl⟩
abbrev main_call3_c : Ref sig .tc := ⟨.hbm, 123, rfl⟩
abbrev main_call3_v1 : Ref sig .tc := ⟨.hbm, 124, rfl⟩
abbrev main_call3_c_0 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_c_1 : Ref sig .tc := ⟨.hbm, 129, rfl⟩
abbrev main_call3_v5 : Ref sig .tc := ⟨.hbm, 130, rfl⟩
abbrev main_call3_v6 : Ref sig .tc := ⟨.hbm, 131, rfl⟩
abbrev main_call3_c_2 : Ref sig .tc := ⟨.hbm, 132, rfl⟩
abbrev main_call3_v7 : Ref sig .tc := ⟨.hbm, 133, rfl⟩
abbrev main_call3_v8 : Ref sig .tc := ⟨.hbm, 134, rfl⟩
abbrev main_call3_c_3 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_v12 : Ref sig .tc := ⟨.hbm, 139, rfl⟩
abbrev main_call3_v13 : Ref sig .tc := ⟨.hbm, 140, rfl⟩
abbrev main_call3_v14 : Ref sig .tc := ⟨.hbm, 141, rfl⟩
abbrev main_v49 : Ref sig .tc := ⟨.hbm, 142, rfl⟩
abbrev main_c_21 : Ref sig .tc := ⟨.hbm, 143, rfl⟩
abbrev main_v50 : Ref sig .tc := ⟨.hbm, 144, rfl⟩
abbrev main_v51 : Ref sig .tc := ⟨.hbm, 145, rfl⟩
abbrev main_c_22 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_v60 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_0 : BitVec 32 := 1#32
  let v4 : BitVec 32 := Scalar.muli v1 c1_i32_0
  let v5 : BitVec 32 := Scalar.addi c0_i32 v4
  v5.toNat

def k0_dev2 (v2 : BitVec 32) : Nat :=
  let c0_i32_3 : BitVec 32 := 0#32
  let c1_i32_2 : BitVec 32 := 1#32
  let v6 : BitVec 32 := Scalar.muli v2 c1_i32_2
  let v7 : BitVec 32 := Scalar.addi c0_i32_3 v6
  v7.toNat

def k0_dev3 (v2 : BitVec 32) : Nat :=
  let c0_i32_12 : BitVec 32 := 0#32
  let c1_i32_11 : BitVec 32 := 1#32
  let v8 : BitVec 32 := Scalar.muli v2 c1_i32_11
  let v9 : BitVec 32 := Scalar.addi c0_i32_12 v8
  v9.toNat
def k0_dev4 (v1 : BitVec 32) : Nat :=
  let c0_i32_25 : BitVec 32 := 0#32
  let c1_i32_24 : BitVec 32 := 1#32
  let v18 : BitVec 32 := Scalar.muli v1 c1_i32_24
  let v19 : BitVec 32 := Scalar.addi c0_i32_25 v18
  v19.toNat
def k0_dev5 (v2 : BitVec 32) : Nat :=
  let c0_i32_38 : BitVec 32 := 0#32
  let c1_i32_37 : BitVec 32 := 1#32
  let v28 : BitVec 32 := Scalar.muli v2 c1_i32_37
  let v29 : BitVec 32 := Scalar.addi c0_i32_38 v28
  v29.toNat
def k0_dev6 (v1 : BitVec 32) : Nat :=
  let c0_i32_51 : BitVec 32 := 0#32
  let c1_i32_50 : BitVec 32 := 1#32
  let v38 : BitVec 32 := Scalar.muli v1 c1_i32_50
  let v39 : BitVec 32 := Scalar.addi c0_i32_51 v38
  v39.toNat
def k0_off1 (v0 : BitVec 32) : Fin 2 → Nat :=
  let c128_i32 : BitVec 32 := 128#32
  let v56 : BitVec 32 := Scalar.muli v0 c128_i32
  let v57 : Index := Scalar.indexCast v56
  let c0_62 : Index := 0#32
  ![v57.toNat, 0]

def k0_chk3 (v0 : BitVec 32) : Prop :=
  (∀ a, (k0_off1 v0) a + S128x256.size a ≤ S4096x256.size a)
theorem k0_off1_inb : ∀ (v0 : BitVec 32) (k0_hw3 : k0_chk3 v0), ∀ a, (k0_off1 v0) a + S128x256.size a ≤ S4096x256.size a := fun v0 k0_hw3 => k0_hw3

def k0_dev7 (v2 : BitVec 32) : Nat :=
  let c0_i32_85 : BitVec 32 := 0#32
  let c1_i32_84 : BitVec 32 := 1#32
  let v67 : BitVec 32 := Scalar.muli v2 c1_i32_84
  let v68 : BitVec 32 := Scalar.addi c0_i32_85 v67
  v68.toNat
def k0_dev8 (v2 : BitVec 32) : Nat :=
  let c0_i32_112 : BitVec 32 := 0#32
  let c1_i32_111 : BitVec 32 := 1#32
  let v85 : BitVec 32 := Scalar.muli v2 c1_i32_111
  let v86 : BitVec 32 := Scalar.addi c0_i32_112 v85
  v86.toNat
def k0_dev9 (v1 : BitVec 32) : Nat :=
  let c0_i32_139 : BitVec 32 := 0#32
  let c1_i32_138 : BitVec 32 := 1#32
  let v103 : BitVec 32 := Scalar.muli v1 c1_i32_138
  let v104 : BitVec 32 := Scalar.addi c0_i32_139 v103
  v104.toNat
def k0_dev10 (v1 : BitVec 32) : Nat :=
  let c0_i32_166 : BitVec 32 := 0#32
  let c1_i32_165 : BitVec 32 := 1#32
  let v121 : BitVec 32 := Scalar.muli v1 c1_i32_165
  let v122 : BitVec 32 := Scalar.addi c0_i32_166 v121
  v122.toNat
def k0_off2 (v131 : BitVec 32) : Fin 2 → Nat :=
  let c128_i32_179 : BitVec 32 := 128#32
  let v140 : BitVec 32 := Scalar.muli v131 c128_i32_179
  let v141 : Index := Scalar.indexCast v140
  let c0_180 : Index := 0#32
  ![v141.toNat, 0]

def k0_chk4 (v131 : BitVec 32) : Prop :=
  (∀ a, (k0_off2 v131) a + S128x256.size a ≤ S4096x256.size a)
theorem k0_off2_inb : ∀ (v131 : BitVec 32) (k0_hw4 : k0_chk4 v131), ∀ a, (k0_off2 v131) a + S128x256.size a ≤ S4096x256.size a := fun v131 k0_hw4 => k0_hw4

def k0_off3 (v143 : BitVec 32) : Fin 2 → Nat :=
  let c128_i32_189 : BitVec 32 := 128#32
  let v152 : BitVec 32 := Scalar.muli v143 c128_i32_189
  let v153 : Index := Scalar.indexCast v152
  let c0_190 : Index := 0#32
  ![v153.toNat, 0]

def k0_chk5 (v143 : BitVec 32) : Prop :=
  (∀ a, (k0_off3 v143) a + S128x256.size a ≤ S4096x256.size a)
theorem k0_off3_inb : ∀ (v143 : BitVec 32) (k0_hw5 : k0_chk5 v143), ∀ a, (k0_off3 v143) a + S128x256.size a ≤ S4096x256.size a := fun v143 k0_hw5 => k0_hw5

def k0_dev11 (v2 : BitVec 32) : Nat :=
  let c0_i32_261 : BitVec 32 := 0#32
  let c1_i32_260 : BitVec 32 := 1#32
  let v187 : BitVec 32 := Scalar.muli v2 c1_i32_260
  let v188 : BitVec 32 := Scalar.addi c0_i32_261 v187
  v188.toNat
def k0_dev12 (v2 : BitVec 32) : Nat :=
  let c0_i32_288 : BitVec 32 := 0#32
  let c1_i32_287 : BitVec 32 := 1#32
  let v205 : BitVec 32 := Scalar.muli v2 c1_i32_287
  let v206 : BitVec 32 := Scalar.addi c0_i32_288 v205
  v206.toNat
def k0_dev13 (v1 : BitVec 32) : Nat :=
  let c0_i32_315 : BitVec 32 := 0#32
  let c1_i32_314 : BitVec 32 := 1#32
  let v223 : BitVec 32 := Scalar.muli v1 c1_i32_314
  let v224 : BitVec 32 := Scalar.addi c0_i32_315 v223
  v224.toNat
def k0_dev14 (v1 : BitVec 32) : Nat :=
  let c0_i32_342 : BitVec 32 := 0#32
  let c1_i32_341 : BitVec 32 := 1#32
  let v241 : BitVec 32 := Scalar.muli v1 c1_i32_341
  let v242 : BitVec 32 := Scalar.addi c0_i32_342 v241
  v242.toNat
def k0_off4 (v251 : BitVec 32) : Fin 2 → Nat :=
  let c128_i32_355 : BitVec 32 := 128#32
  let v260 : BitVec 32 := Scalar.muli v251 c128_i32_355
  let v261 : Index := Scalar.indexCast v260
  let c0_356 : Index := 0#32
  ![v261.toNat, 0]

def k0_chk6 (v251 : BitVec 32) : Prop :=
  (∀ a, (k0_off4 v251) a + S128x256.size a ≤ S4096x256.size a)
theorem k0_off4_inb : ∀ (v251 : BitVec 32) (k0_hw6 : k0_chk6 v251), ∀ a, (k0_off4 v251) a + S128x256.size a ≤ S4096x256.size a := fun v251 k0_hw6 => k0_hw6

def k0_off5 (v263 : BitVec 32) : Fin 2 → Nat :=
  let c128_i32_365 : BitVec 32 := 128#32
  let v272 : BitVec 32 := Scalar.muli v263 c128_i32_365
  let v273 : Index := Scalar.indexCast v272
  let c0_366 : Index := 0#32
  ![v273.toNat, 0]

def k0_chk7 (v263 : BitVec 32) : Prop :=
  (∀ a, (k0_off5 v263) a + S128x256.size a ≤ S4096x256.size a)
theorem k0_off5_inb : ∀ (v263 : BitVec 32) (k0_hw7 : k0_chk7 v263), ∀ a, (k0_off5 v263) a + S128x256.size a ≤ S4096x256.size a := fun v263 k0_hw7 => k0_hw7

def k0_dev15 (v1 : BitVec 32) : Nat :=
  let c0_i32_421 : BitVec 32 := 0#32
  let c1_i32_420 : BitVec 32 := 1#32
  let v299 : BitVec 32 := Scalar.muli v1 c1_i32_420
  let v300 : BitVec 32 := Scalar.addi c0_i32_421 v299
  v300.toNat
def k0_dev16 (v2 : BitVec 32) : Nat :=
  let c0_i32_424 : BitVec 32 := 0#32
  let c1_i32_423 : BitVec 32 := 1#32
  let v301 : BitVec 32 := Scalar.muli v2 c1_i32_423
  let v302 : BitVec 32 := Scalar.addi c0_i32_424 v301
  v302.toNat
def k0_dev17 (v2 : BitVec 32) : Nat :=
  let c0_i32_446 : BitVec 32 := 0#32
  let c1_i32_445 : BitVec 32 := 1#32
  let v311 : BitVec 32 := Scalar.muli v2 c1_i32_445
  let v312 : BitVec 32 := Scalar.addi c0_i32_446 v311
  v312.toNat
def k0_dev18 (v2 : BitVec 32) : Nat :=
  let c0_i32_473 : BitVec 32 := 0#32
  let c1_i32_472 : BitVec 32 := 1#32
  let v329 : BitVec 32 := Scalar.muli v2 c1_i32_472
  let v330 : BitVec 32 := Scalar.addi c0_i32_473 v329
  v330.toNat
def k0_dev19 (v1 : BitVec 32) : Nat :=
  let c0_i32_500 : BitVec 32 := 0#32
  let c1_i32_499 : BitVec 32 := 1#32
  let v347 : BitVec 32 := Scalar.muli v1 c1_i32_499
  let v348 : BitVec 32 := Scalar.addi c0_i32_500 v347
  v348.toNat
def k0_dev20 (v1 : BitVec 32) : Nat :=
  let c0_i32_527 : BitVec 32 := 0#32
  let c1_i32_526 : BitVec 32 := 1#32
  let v365 : BitVec 32 := Scalar.muli v1 c1_i32_526
  let v366 : BitVec 32 := Scalar.addi c0_i32_527 v365
  v366.toNat
def k0_off6 (v375 : BitVec 32) : Fin 2 → Nat :=
  let c128_i32_540 : BitVec 32 := 128#32
  let v384 : BitVec 32 := Scalar.muli v375 c128_i32_540
  let v385 : Index := Scalar.indexCast v384
  let c0_541 : Index := 0#32
  ![v385.toNat, 0]

def k0_chk8 (v375 : BitVec 32) : Prop :=
  (∀ a, (k0_off6 v375) a + S128x256.size a ≤ S4096x256.size a)
theorem k0_off6_inb : ∀ (v375 : BitVec 32) (k0_hw8 : k0_chk8 v375), ∀ a, (k0_off6 v375) a + S128x256.size a ≤ S4096x256.size a := fun v375 k0_hw8 => k0_hw8

def k0_off7 (v387 : BitVec 32) : Fin 2 → Nat :=
  let c128_i32_550 : BitVec 32 := 128#32
  let v396 : BitVec 32 := Scalar.muli v387 c128_i32_550
  let v397 : Index := Scalar.indexCast v396
  let c0_551 : Index := 0#32
  ![v397.toNat, 0]

def k0_chk9 (v387 : BitVec 32) : Prop :=
  (∀ a, (k0_off7 v387) a + S128x256.size a ≤ S4096x256.size a)
theorem k0_off7_inb : ∀ (v387 : BitVec 32) (k0_hw9 : k0_chk9 v387), ∀ a, (k0_off7 v387) a + S128x256.size a ≤ S4096x256.size a := fun v387 k0_hw9 => k0_hw9

def k0_dev21 (v1 : BitVec 32) : Nat :=
  let c0_i32_606 : BitVec 32 := 0#32
  let c1_i32_605 : BitVec 32 := 1#32
  let v423 : BitVec 32 := Scalar.muli v1 c1_i32_605
  let v424 : BitVec 32 := Scalar.addi c0_i32_606 v423
  v424.toNat
def k0_dev22 (v2 : BitVec 32) : Nat :=
  let c0_i32_609 : BitVec 32 := 0#32
  let c1_i32_608 : BitVec 32 := 1#32
  let v425 : BitVec 32 := Scalar.muli v2 c1_i32_608
  let v426 : BitVec 32 := Scalar.addi c0_i32_609 v425
  v426.toNat
def k0_dev23 (v2 : BitVec 32) : Nat :=
  let c0_i32_634 : BitVec 32 := 0#32
  let c1_i32_633 : BitVec 32 := 1#32
  let v435 : BitVec 32 := Scalar.muli v2 c1_i32_633
  let v436 : BitVec 32 := Scalar.addi c0_i32_634 v435
  v436.toNat
def k0_dev24 (v2 : BitVec 32) : Nat :=
  let c0_i32_661 : BitVec 32 := 0#32
  let c1_i32_660 : BitVec 32 := 1#32
  let v453 : BitVec 32 := Scalar.muli v2 c1_i32_660
  let v454 : BitVec 32 := Scalar.addi c0_i32_661 v453
  v454.toNat
def k0_dev25 (v1 : BitVec 32) : Nat :=
  let c0_i32_690 : BitVec 32 := 0#32
  let c1_i32_689 : BitVec 32 := 1#32
  let v471 : BitVec 32 := Scalar.muli v1 c1_i32_689
  let v472 : BitVec 32 := Scalar.addi c0_i32_690 v471
  v472.toNat
def k0_dev26 (v1 : BitVec 32) : Nat :=
  let c0_i32_717 : BitVec 32 := 0#32
  let c1_i32_716 : BitVec 32 := 1#32
  let v489 : BitVec 32 := Scalar.muli v1 c1_i32_716
  let v490 : BitVec 32 := Scalar.addi c0_i32_717 v489
  v490.toNat
def k0_off8 (v499 : BitVec 32) : Fin 2 → Nat :=
  let c128_i32_730 : BitVec 32 := 128#32
  let v508 : BitVec 32 := Scalar.muli v499 c128_i32_730
  let v509 : Index := Scalar.indexCast v508
  let c0_731 : Index := 0#32
  ![v509.toNat, 0]

def k0_chk10 (v499 : BitVec 32) : Prop :=
  (∀ a, (k0_off8 v499) a + S128x256.size a ≤ S4096x256.size a)
theorem k0_off8_inb : ∀ (v499 : BitVec 32) (k0_hw10 : k0_chk10 v499), ∀ a, (k0_off8 v499) a + S128x256.size a ≤ S4096x256.size a := fun v499 k0_hw10 => k0_hw10

def k0_off9 (v511 : BitVec 32) : Fin 2 → Nat :=
  let c128_i32_740 : BitVec 32 := 128#32
  let v520 : BitVec 32 := Scalar.muli v511 c128_i32_740
  let v521 : Index := Scalar.indexCast v520
  let c0_741 : Index := 0#32
  ![v521.toNat, 0]

def k0_chk11 (v511 : BitVec 32) : Prop :=
  (∀ a, (k0_off9 v511) a + S128x256.size a ≤ S4096x256.size a)
theorem k0_off9_inb : ∀ (v511 : BitVec 32) (k0_hw11 : k0_chk11 v511), ∀ a, (k0_off9 v511) a + S128x256.size a ≤ S4096x256.size a := fun v511 k0_hw11 => k0_hw11

def k0_dev27 (v1 : BitVec 32) : Nat :=
  let c0_i32_796 : BitVec 32 := 0#32
  let c1_i32_795 : BitVec 32 := 1#32
  let v547 : BitVec 32 := Scalar.muli v1 c1_i32_795
  let v548 : BitVec 32 := Scalar.addi c0_i32_796 v547
  v548.toNat
def k0_dev28 (v2 : BitVec 32) : Nat :=
  let c0_i32_799 : BitVec 32 := 0#32
  let c1_i32_798 : BitVec 32 := 1#32
  let v549 : BitVec 32 := Scalar.muli v2 c1_i32_798
  let v550 : BitVec 32 := Scalar.addi c0_i32_799 v549
  v550.toNat
def k0_dev29 (v2 : BitVec 32) : Nat :=
  let c0_i32_824 : BitVec 32 := 0#32
  let c1_i32_823 : BitVec 32 := 1#32
  let v559 : BitVec 32 := Scalar.muli v2 c1_i32_823
  let v560 : BitVec 32 := Scalar.addi c0_i32_824 v559
  v560.toNat
def k0_dev30 (v2 : BitVec 32) : Nat :=
  let c0_i32_851 : BitVec 32 := 0#32
  let c1_i32_850 : BitVec 32 := 1#32
  let v577 : BitVec 32 := Scalar.muli v2 c1_i32_850
  let v578 : BitVec 32 := Scalar.addi c0_i32_851 v577
  v578.toNat
def k0_dev31 (v1 : BitVec 32) : Nat :=
  let c0_i32_880 : BitVec 32 := 0#32
  let c1_i32_879 : BitVec 32 := 1#32
  let v595 : BitVec 32 := Scalar.muli v1 c1_i32_879
  let v596 : BitVec 32 := Scalar.addi c0_i32_880 v595
  v596.toNat
def k0_dev32 (v1 : BitVec 32) : Nat :=
  let c0_i32_907 : BitVec 32 := 0#32
  let c1_i32_906 : BitVec 32 := 1#32
  let v613 : BitVec 32 := Scalar.muli v1 c1_i32_906
  let v614 : BitVec 32 := Scalar.addi c0_i32_907 v613
  v614.toNat
def k0_off10 (v623 : BitVec 32) : Fin 2 → Nat :=
  let c128_i32_920 : BitVec 32 := 128#32
  let v632 : BitVec 32 := Scalar.muli v623 c128_i32_920
  let v633 : Index := Scalar.indexCast v632
  let c0_921 : Index := 0#32
  ![v633.toNat, 0]

def k0_chk12 (v623 : BitVec 32) : Prop :=
  (∀ a, (k0_off10 v623) a + S128x256.size a ≤ S4096x256.size a)
theorem k0_off10_inb : ∀ (v623 : BitVec 32) (k0_hw12 : k0_chk12 v623), ∀ a, (k0_off10 v623) a + S128x256.size a ≤ S4096x256.size a := fun v623 k0_hw12 => k0_hw12

def k0_off11 (v635 : BitVec 32) : Fin 2 → Nat :=
  let c128_i32_930 : BitVec 32 := 128#32
  let v644 : BitVec 32 := Scalar.muli v635 c128_i32_930
  let v645 : Index := Scalar.indexCast v644
  let c0_931 : Index := 0#32
  ![v645.toNat, 0]

def k0_chk13 (v635 : BitVec 32) : Prop :=
  (∀ a, (k0_off11 v635) a + S128x256.size a ≤ S4096x256.size a)
theorem k0_off11_inb : ∀ (v635 : BitVec 32) (k0_hw13 : k0_chk13 v635), ∀ a, (k0_off11 v635) a + S128x256.size a ≤ S4096x256.size a := fun v635 k0_hw13 => k0_hw13

def k0_dev33 (v1 : BitVec 32) : Nat :=
  let c0_i32_986 : BitVec 32 := 0#32
  let c1_i32_985 : BitVec 32 := 1#32
  let v671 : BitVec 32 := Scalar.muli v1 c1_i32_985
  let v672 : BitVec 32 := Scalar.addi c0_i32_986 v671
  v672.toNat
def k0_dev34 (v2 : BitVec 32) : Nat :=
  let c0_i32_989 : BitVec 32 := 0#32
  let c1_i32_988 : BitVec 32 := 1#32
  let v673 : BitVec 32 := Scalar.muli v2 c1_i32_988
  let v674 : BitVec 32 := Scalar.addi c0_i32_989 v673
  v674.toNat
def k0_dev35 (v2 : BitVec 32) : Nat :=
  let c0_i32_1014 : BitVec 32 := 0#32
  let c1_i32_1013 : BitVec 32 := 1#32
  let v683 : BitVec 32 := Scalar.muli v2 c1_i32_1013
  let v684 : BitVec 32 := Scalar.addi c0_i32_1014 v683
  v684.toNat
def k0_dev36 (v2 : BitVec 32) : Nat :=
  let c0_i32_1041 : BitVec 32 := 0#32
  let c1_i32_1040 : BitVec 32 := 1#32
  let v701 : BitVec 32 := Scalar.muli v2 c1_i32_1040
  let v702 : BitVec 32 := Scalar.addi c0_i32_1041 v701
  v702.toNat
def k0_dev37 (v1 : BitVec 32) : Nat :=
  let c0_i32_1070 : BitVec 32 := 0#32
  let c1_i32_1069 : BitVec 32 := 1#32
  let v719 : BitVec 32 := Scalar.muli v1 c1_i32_1069
  let v720 : BitVec 32 := Scalar.addi c0_i32_1070 v719
  v720.toNat
def k0_dev38 (v1 : BitVec 32) : Nat :=
  let c0_i32_1097 : BitVec 32 := 0#32
  let c1_i32_1096 : BitVec 32 := 1#32
  let v737 : BitVec 32 := Scalar.muli v1 c1_i32_1096
  let v738 : BitVec 32 := Scalar.addi c0_i32_1097 v737
  v738.toNat
def k0_off12 (v747 : BitVec 32) : Fin 2 → Nat :=
  let c128_i32_1110 : BitVec 32 := 128#32
  let v756 : BitVec 32 := Scalar.muli v747 c128_i32_1110
  let v757 : Index := Scalar.indexCast v756
  let c0_1111 : Index := 0#32
  ![v757.toNat, 0]

def k0_chk14 (v747 : BitVec 32) : Prop :=
  (∀ a, (k0_off12 v747) a + S128x256.size a ≤ S4096x256.size a)
theorem k0_off12_inb : ∀ (v747 : BitVec 32) (k0_hw14 : k0_chk14 v747), ∀ a, (k0_off12 v747) a + S128x256.size a ≤ S4096x256.size a := fun v747 k0_hw14 => k0_hw14

def k0_off13 (v759 : BitVec 32) : Fin 2 → Nat :=
  let c128_i32_1120 : BitVec 32 := 128#32
  let v768 : BitVec 32 := Scalar.muli v759 c128_i32_1120
  let v769 : Index := Scalar.indexCast v768
  let c0_1121 : Index := 0#32
  ![v769.toNat, 0]

def k0_chk15 (v759 : BitVec 32) : Prop :=
  (∀ a, (k0_off13 v759) a + S128x256.size a ≤ S4096x256.size a)
theorem k0_off13_inb : ∀ (v759 : BitVec 32) (k0_hw15 : k0_chk15 v759), ∀ a, (k0_off13 v759) a + S128x256.size a ≤ S4096x256.size a := fun v759 k0_hw15 => k0_hw15

def k0_dev39 (v1 : BitVec 32) : Nat :=
  let c0_i32_1176 : BitVec 32 := 0#32
  let c1_i32_1175 : BitVec 32 := 1#32
  let v795 : BitVec 32 := Scalar.muli v1 c1_i32_1175
  let v796 : BitVec 32 := Scalar.addi c0_i32_1176 v795
  v796.toNat
def k0_dev40 (v2 : BitVec 32) : Nat :=
  let c0_i32_1179 : BitVec 32 := 0#32
  let c1_i32_1178 : BitVec 32 := 1#32
  let v797 : BitVec 32 := Scalar.muli v2 c1_i32_1178
  let v798 : BitVec 32 := Scalar.addi c0_i32_1179 v797
  v798.toNat
def k0_dev41 (v2 : BitVec 32) : Nat :=
  let c0_i32_1204 : BitVec 32 := 0#32
  let c1_i32_1203 : BitVec 32 := 1#32
  let v807 : BitVec 32 := Scalar.muli v2 c1_i32_1203
  let v808 : BitVec 32 := Scalar.addi c0_i32_1204 v807
  v808.toNat
def k0_dev42 (v2 : BitVec 32) : Nat :=
  let c0_i32_1231 : BitVec 32 := 0#32
  let c1_i32_1230 : BitVec 32 := 1#32
  let v825 : BitVec 32 := Scalar.muli v2 c1_i32_1230
  let v826 : BitVec 32 := Scalar.addi c0_i32_1231 v825
  v826.toNat
def k0_dev43 (v1 : BitVec 32) : Nat :=
  let c0_i32_1260 : BitVec 32 := 0#32
  let c1_i32_1259 : BitVec 32 := 1#32
  let v843 : BitVec 32 := Scalar.muli v1 c1_i32_1259
  let v844 : BitVec 32 := Scalar.addi c0_i32_1260 v843
  v844.toNat
def k0_dev44 (v1 : BitVec 32) : Nat :=
  let c0_i32_1287 : BitVec 32 := 0#32
  let c1_i32_1286 : BitVec 32 := 1#32
  let v861 : BitVec 32 := Scalar.muli v1 c1_i32_1286
  let v862 : BitVec 32 := Scalar.addi c0_i32_1287 v861
  v862.toNat
def k0_off14 (v871 : BitVec 32) : Fin 2 → Nat :=
  let c128_i32_1300 : BitVec 32 := 128#32
  let v880 : BitVec 32 := Scalar.muli v871 c128_i32_1300
  let v881 : Index := Scalar.indexCast v880
  let c0_1301 : Index := 0#32
  ![v881.toNat, 0]

def k0_chk16 (v871 : BitVec 32) : Prop :=
  (∀ a, (k0_off14 v871) a + S128x256.size a ≤ S4096x256.size a)
theorem k0_off14_inb : ∀ (v871 : BitVec 32) (k0_hw16 : k0_chk16 v871), ∀ a, (k0_off14 v871) a + S128x256.size a ≤ S4096x256.size a := fun v871 k0_hw16 => k0_hw16

def k0_off15 (v883 : BitVec 32) : Fin 2 → Nat :=
  let c128_i32_1310 : BitVec 32 := 128#32
  let v892 : BitVec 32 := Scalar.muli v883 c128_i32_1310
  let v893 : Index := Scalar.indexCast v892
  let c0_1311 : Index := 0#32
  ![v893.toNat, 0]

def k0_chk17 (v883 : BitVec 32) : Prop :=
  (∀ a, (k0_off15 v883) a + S128x256.size a ≤ S4096x256.size a)
theorem k0_off15_inb : ∀ (v883 : BitVec 32) (k0_hw17 : k0_chk17 v883), ∀ a, (k0_off15 v883) a + S128x256.size a ≤ S4096x256.size a := fun v883 k0_hw17 => k0_hw17

def k0_dev45 (v1 : BitVec 32) : Nat :=
  let c0_i32_1366 : BitVec 32 := 0#32
  let c1_i32_1365 : BitVec 32 := 1#32
  let v919 : BitVec 32 := Scalar.muli v1 c1_i32_1365
  let v920 : BitVec 32 := Scalar.addi c0_i32_1366 v919
  v920.toNat
def k0_dev46 (v2 : BitVec 32) : Nat :=
  let c0_i32_1369 : BitVec 32 := 0#32
  let c1_i32_1368 : BitVec 32 := 1#32
  let v921 : BitVec 32 := Scalar.muli v2 c1_i32_1368
  let v922 : BitVec 32 := Scalar.addi c0_i32_1369 v921
  v922.toNat
def k0_dev47 (v2 : BitVec 32) : Nat :=
  let c0_i32_1394 : BitVec 32 := 0#32
  let c1_i32_1393 : BitVec 32 := 1#32
  let v931 : BitVec 32 := Scalar.muli v2 c1_i32_1393
  let v932 : BitVec 32 := Scalar.addi c0_i32_1394 v931
  v932.toNat
def k0_dev48 (v2 : BitVec 32) : Nat :=
  let c0_i32_1421 : BitVec 32 := 0#32
  let c1_i32_1420 : BitVec 32 := 1#32
  let v949 : BitVec 32 := Scalar.muli v2 c1_i32_1420
  let v950 : BitVec 32 := Scalar.addi c0_i32_1421 v949
  v950.toNat
def k0_dev49 (v1 : BitVec 32) : Nat :=
  let c0_i32_1450 : BitVec 32 := 0#32
  let c1_i32_1449 : BitVec 32 := 1#32
  let v967 : BitVec 32 := Scalar.muli v1 c1_i32_1449
  let v968 : BitVec 32 := Scalar.addi c0_i32_1450 v967
  v968.toNat
def k0_dev50 (v1 : BitVec 32) : Nat :=
  let c0_i32_1477 : BitVec 32 := 0#32
  let c1_i32_1476 : BitVec 32 := 1#32
  let v985 : BitVec 32 := Scalar.muli v1 c1_i32_1476
  let v986 : BitVec 32 := Scalar.addi c0_i32_1477 v985
  v986.toNat
def k0_off16 (v995 : BitVec 32) : Fin 2 → Nat :=
  let c128_i32_1490 : BitVec 32 := 128#32
  let v1004 : BitVec 32 := Scalar.muli v995 c128_i32_1490
  let v1005 : Index := Scalar.indexCast v1004
  let c0_1491 : Index := 0#32
  ![v1005.toNat, 0]

def k0_chk18 (v995 : BitVec 32) : Prop :=
  (∀ a, (k0_off16 v995) a + S128x256.size a ≤ S4096x256.size a)
theorem k0_off16_inb : ∀ (v995 : BitVec 32) (k0_hw18 : k0_chk18 v995), ∀ a, (k0_off16 v995) a + S128x256.size a ≤ S4096x256.size a := fun v995 k0_hw18 => k0_hw18

def k0_off17 (v1007 : BitVec 32) : Fin 2 → Nat :=
  let c128_i32_1500 : BitVec 32 := 128#32
  let v1016 : BitVec 32 := Scalar.muli v1007 c128_i32_1500
  let v1017 : Index := Scalar.indexCast v1016
  let c0_1501 : Index := 0#32
  ![v1017.toNat, 0]

def k0_chk19 (v1007 : BitVec 32) : Prop :=
  (∀ a, (k0_off17 v1007) a + S128x256.size a ≤ S4096x256.size a)
theorem k0_off17_inb : ∀ (v1007 : BitVec 32) (k0_hw19 : k0_chk19 v1007), ∀ a, (k0_off17 v1007) a + S128x256.size a ≤ S4096x256.size a := fun v1007 k0_hw19 => k0_hw19

def k0_dev51 (v1 : BitVec 32) : Nat :=
  let c0_i32_1556 : BitVec 32 := 0#32
  let c1_i32_1555 : BitVec 32 := 1#32
  let v1043 : BitVec 32 := Scalar.muli v1 c1_i32_1555
  let v1044 : BitVec 32 := Scalar.addi c0_i32_1556 v1043
  v1044.toNat
def k0_dev52 (v2 : BitVec 32) : Nat :=
  let c0_i32_1559 : BitVec 32 := 0#32
  let c1_i32_1558 : BitVec 32 := 1#32
  let v1045 : BitVec 32 := Scalar.muli v2 c1_i32_1558
  let v1046 : BitVec 32 := Scalar.addi c0_i32_1559 v1045
  v1046.toNat
def k0_dev53 (v2 : BitVec 32) : Nat :=
  let c0_i32_1584 : BitVec 32 := 0#32
  let c1_i32_1583 : BitVec 32 := 1#32
  let v1055 : BitVec 32 := Scalar.muli v2 c1_i32_1583
  let v1056 : BitVec 32 := Scalar.addi c0_i32_1584 v1055
  v1056.toNat
def k0_dev54 (v2 : BitVec 32) : Nat :=
  let c0_i32_1611 : BitVec 32 := 0#32
  let c1_i32_1610 : BitVec 32 := 1#32
  let v1073 : BitVec 32 := Scalar.muli v2 c1_i32_1610
  let v1074 : BitVec 32 := Scalar.addi c0_i32_1611 v1073
  v1074.toNat
def k0_dev55 (v1 : BitVec 32) : Nat :=
  let c0_i32_1640 : BitVec 32 := 0#32
  let c1_i32_1639 : BitVec 32 := 1#32
  let v1091 : BitVec 32 := Scalar.muli v1 c1_i32_1639
  let v1092 : BitVec 32 := Scalar.addi c0_i32_1640 v1091
  v1092.toNat
def k0_dev56 (v1 : BitVec 32) : Nat :=
  let c0_i32_1667 : BitVec 32 := 0#32
  let c1_i32_1666 : BitVec 32 := 1#32
  let v1109 : BitVec 32 := Scalar.muli v1 c1_i32_1666
  let v1110 : BitVec 32 := Scalar.addi c0_i32_1667 v1109
  v1110.toNat
def k0_off18 (v1119 : BitVec 32) : Fin 2 → Nat :=
  let c128_i32_1680 : BitVec 32 := 128#32
  let v1128 : BitVec 32 := Scalar.muli v1119 c128_i32_1680
  let v1129 : Index := Scalar.indexCast v1128
  let c0_1681 : Index := 0#32
  ![v1129.toNat, 0]

def k0_chk20 (v1119 : BitVec 32) : Prop :=
  (∀ a, (k0_off18 v1119) a + S128x256.size a ≤ S4096x256.size a)
theorem k0_off18_inb : ∀ (v1119 : BitVec 32) (k0_hw20 : k0_chk20 v1119), ∀ a, (k0_off18 v1119) a + S128x256.size a ≤ S4096x256.size a := fun v1119 k0_hw20 => k0_hw20

def k0_off19 (v1131 : BitVec 32) : Fin 2 → Nat :=
  let c128_i32_1690 : BitVec 32 := 128#32
  let v1140 : BitVec 32 := Scalar.muli v1131 c128_i32_1690
  let v1141 : Index := Scalar.indexCast v1140
  let c0_1691 : Index := 0#32
  ![v1141.toNat, 0]

def k0_chk21 (v1131 : BitVec 32) : Prop :=
  (∀ a, (k0_off19 v1131) a + S128x256.size a ≤ S4096x256.size a)
theorem k0_off19_inb : ∀ (v1131 : BitVec 32) (k0_hw21 : k0_chk21 v1131), ∀ a, (k0_off19 v1131) a + S128x256.size a ≤ S4096x256.size a := fun v1131 k0_hw21 => k0_hw21

def k0_dev57 (v1 : BitVec 32) : Nat :=
  let c0_i32_1746 : BitVec 32 := 0#32
  let c1_i32_1745 : BitVec 32 := 1#32
  let v1167 : BitVec 32 := Scalar.muli v1 c1_i32_1745
  let v1168 : BitVec 32 := Scalar.addi c0_i32_1746 v1167
  v1168.toNat
def k0_dev58 (v2 : BitVec 32) : Nat :=
  let c0_i32_1749 : BitVec 32 := 0#32
  let c1_i32_1748 : BitVec 32 := 1#32
  let v1169 : BitVec 32 := Scalar.muli v2 c1_i32_1748
  let v1170 : BitVec 32 := Scalar.addi c0_i32_1749 v1169
  v1170.toNat
def k0_dev59 (v2 : BitVec 32) : Nat :=
  let c0_i32_1774 : BitVec 32 := 0#32
  let c1_i32_1773 : BitVec 32 := 1#32
  let v1179 : BitVec 32 := Scalar.muli v2 c1_i32_1773
  let v1180 : BitVec 32 := Scalar.addi c0_i32_1774 v1179
  v1180.toNat
def k0_dev60 (v2 : BitVec 32) : Nat :=
  let c0_i32_1801 : BitVec 32 := 0#32
  let c1_i32_1800 : BitVec 32 := 1#32
  let v1197 : BitVec 32 := Scalar.muli v2 c1_i32_1800
  let v1198 : BitVec 32 := Scalar.addi c0_i32_1801 v1197
  v1198.toNat
def k0_dev61 (v1 : BitVec 32) : Nat :=
  let c0_i32_1830 : BitVec 32 := 0#32
  let c1_i32_1829 : BitVec 32 := 1#32
  let v1215 : BitVec 32 := Scalar.muli v1 c1_i32_1829
  let v1216 : BitVec 32 := Scalar.addi c0_i32_1830 v1215
  v1216.toNat
def k0_dev62 (v1 : BitVec 32) : Nat :=
  let c0_i32_1857 : BitVec 32 := 0#32
  let c1_i32_1856 : BitVec 32 := 1#32
  let v1233 : BitVec 32 := Scalar.muli v1 c1_i32_1856
  let v1234 : BitVec 32 := Scalar.addi c0_i32_1857 v1233
  v1234.toNat
def k0_off20 (v1243 : BitVec 32) : Fin 2 → Nat :=
  let c128_i32_1870 : BitVec 32 := 128#32
  let v1252 : BitVec 32 := Scalar.muli v1243 c128_i32_1870
  let v1253 : Index := Scalar.indexCast v1252
  let c0_1871 : Index := 0#32
  ![v1253.toNat, 0]

def k0_chk22 (v1243 : BitVec 32) : Prop :=
  (∀ a, (k0_off20 v1243) a + S128x256.size a ≤ S4096x256.size a)
theorem k0_off20_inb : ∀ (v1243 : BitVec 32) (k0_hw22 : k0_chk22 v1243), ∀ a, (k0_off20 v1243) a + S128x256.size a ≤ S4096x256.size a := fun v1243 k0_hw22 => k0_hw22

def k0_off21 (v1255 : BitVec 32) : Fin 2 → Nat :=
  let c128_i32_1880 : BitVec 32 := 128#32
  let v1264 : BitVec 32 := Scalar.muli v1255 c128_i32_1880
  let v1265 : Index := Scalar.indexCast v1264
  let c0_1881 : Index := 0#32
  ![v1265.toNat, 0]

def k0_chk23 (v1255 : BitVec 32) : Prop :=
  (∀ a, (k0_off21 v1255) a + S128x256.size a ≤ S4096x256.size a)
theorem k0_off21_inb : ∀ (v1255 : BitVec 32) (k0_hw23 : k0_chk23 v1255), ∀ a, (k0_off21 v1255) a + S128x256.size a ≤ S4096x256.size a := fun v1255 k0_hw23 => k0_hw23

def k0_dev63 (v1 : BitVec 32) : Nat :=
  let c0_i32_1936 : BitVec 32 := 0#32
  let c1_i32_1935 : BitVec 32 := 1#32
  let v1291 : BitVec 32 := Scalar.muli v1 c1_i32_1935
  let v1292 : BitVec 32 := Scalar.addi c0_i32_1936 v1291
  v1292.toNat
def k0_dev64 (v2 : BitVec 32) : Nat :=
  let c0_i32_1939 : BitVec 32 := 0#32
  let c1_i32_1938 : BitVec 32 := 1#32
  let v1293 : BitVec 32 := Scalar.muli v2 c1_i32_1938
  let v1294 : BitVec 32 := Scalar.addi c0_i32_1939 v1293
  v1294.toNat
def k0_dev65 (v2 : BitVec 32) : Nat :=
  let c0_i32_1964 : BitVec 32 := 0#32
  let c1_i32_1963 : BitVec 32 := 1#32
  let v1303 : BitVec 32 := Scalar.muli v2 c1_i32_1963
  let v1304 : BitVec 32 := Scalar.addi c0_i32_1964 v1303
  v1304.toNat
def k0_dev66 (v2 : BitVec 32) : Nat :=
  let c0_i32_1991 : BitVec 32 := 0#32
  let c1_i32_1990 : BitVec 32 := 1#32
  let v1321 : BitVec 32 := Scalar.muli v2 c1_i32_1990
  let v1322 : BitVec 32 := Scalar.addi c0_i32_1991 v1321
  v1322.toNat
def k0_dev67 (v1 : BitVec 32) : Nat :=
  let c0_i32_2020 : BitVec 32 := 0#32
  let c1_i32_2019 : BitVec 32 := 1#32
  let v1339 : BitVec 32 := Scalar.muli v1 c1_i32_2019
  let v1340 : BitVec 32 := Scalar.addi c0_i32_2020 v1339
  v1340.toNat
def k0_dev68 (v1 : BitVec 32) : Nat :=
  let c0_i32_2047 : BitVec 32 := 0#32
  let c1_i32_2046 : BitVec 32 := 1#32
  let v1357 : BitVec 32 := Scalar.muli v1 c1_i32_2046
  let v1358 : BitVec 32 := Scalar.addi c0_i32_2047 v1357
  v1358.toNat
def k0_off22 (v1367 : BitVec 32) : Fin 2 → Nat :=
  let c128_i32_2060 : BitVec 32 := 128#32
  let v1376 : BitVec 32 := Scalar.muli v1367 c128_i32_2060
  let v1377 : Index := Scalar.indexCast v1376
  let c0_2061 : Index := 0#32
  ![v1377.toNat, 0]

def k0_chk24 (v1367 : BitVec 32) : Prop :=
  (∀ a, (k0_off22 v1367) a + S128x256.size a ≤ S4096x256.size a)
theorem k0_off22_inb : ∀ (v1367 : BitVec 32) (k0_hw24 : k0_chk24 v1367), ∀ a, (k0_off22 v1367) a + S128x256.size a ≤ S4096x256.size a := fun v1367 k0_hw24 => k0_hw24

def k0_off23 (v1379 : BitVec 32) : Fin 2 → Nat :=
  let c128_i32_2070 : BitVec 32 := 128#32
  let v1388 : BitVec 32 := Scalar.muli v1379 c128_i32_2070
  let v1389 : Index := Scalar.indexCast v1388
  let c0_2071 : Index := 0#32
  ![v1389.toNat, 0]

def k0_chk25 (v1379 : BitVec 32) : Prop :=
  (∀ a, (k0_off23 v1379) a + S128x256.size a ≤ S4096x256.size a)
theorem k0_off23_inb : ∀ (v1379 : BitVec 32) (k0_hw25 : k0_chk25 v1379), ∀ a, (k0_off23 v1379) a + S128x256.size a ≤ S4096x256.size a := fun v1379 k0_hw25 => k0_hw25

def k0_dev69 (v1 : BitVec 32) : Nat :=
  let c0_i32_2126 : BitVec 32 := 0#32
  let c1_i32_2125 : BitVec 32 := 1#32
  let v1415 : BitVec 32 := Scalar.muli v1 c1_i32_2125
  let v1416 : BitVec 32 := Scalar.addi c0_i32_2126 v1415
  v1416.toNat
def k0_dev70 (v2 : BitVec 32) : Nat :=
  let c0_i32_2129 : BitVec 32 := 0#32
  let c1_i32_2128 : BitVec 32 := 1#32
  let v1417 : BitVec 32 := Scalar.muli v2 c1_i32_2128
  let v1418 : BitVec 32 := Scalar.addi c0_i32_2129 v1417
  v1418.toNat
def k0_dev71 (v2 : BitVec 32) : Nat :=
  let c0_i32_2154 : BitVec 32 := 0#32
  let c1_i32_2153 : BitVec 32 := 1#32
  let v1427 : BitVec 32 := Scalar.muli v2 c1_i32_2153
  let v1428 : BitVec 32 := Scalar.addi c0_i32_2154 v1427
  v1428.toNat
def k0_dev72 (v2 : BitVec 32) : Nat :=
  let c0_i32_2181 : BitVec 32 := 0#32
  let c1_i32_2180 : BitVec 32 := 1#32
  let v1445 : BitVec 32 := Scalar.muli v2 c1_i32_2180
  let v1446 : BitVec 32 := Scalar.addi c0_i32_2181 v1445
  v1446.toNat
def k0_dev73 (v1 : BitVec 32) : Nat :=
  let c0_i32_2210 : BitVec 32 := 0#32
  let c1_i32_2209 : BitVec 32 := 1#32
  let v1463 : BitVec 32 := Scalar.muli v1 c1_i32_2209
  let v1464 : BitVec 32 := Scalar.addi c0_i32_2210 v1463
  v1464.toNat
def k0_dev74 (v1 : BitVec 32) : Nat :=
  let c0_i32_2237 : BitVec 32 := 0#32
  let c1_i32_2236 : BitVec 32 := 1#32
  let v1481 : BitVec 32 := Scalar.muli v1 c1_i32_2236
  let v1482 : BitVec 32 := Scalar.addi c0_i32_2237 v1481
  v1482.toNat
def k0_off24 (v1491 : BitVec 32) : Fin 2 → Nat :=
  let c128_i32_2250 : BitVec 32 := 128#32
  let v1500 : BitVec 32 := Scalar.muli v1491 c128_i32_2250
  let v1501 : Index := Scalar.indexCast v1500
  let c0_2251 : Index := 0#32
  ![v1501.toNat, 0]

def k0_chk26 (v1491 : BitVec 32) : Prop :=
  (∀ a, (k0_off24 v1491) a + S128x256.size a ≤ S4096x256.size a)
theorem k0_off24_inb : ∀ (v1491 : BitVec 32) (k0_hw26 : k0_chk26 v1491), ∀ a, (k0_off24 v1491) a + S128x256.size a ≤ S4096x256.size a := fun v1491 k0_hw26 => k0_hw26

def k0_off25 (v1503 : BitVec 32) : Fin 2 → Nat :=
  let c128_i32_2260 : BitVec 32 := 128#32
  let v1512 : BitVec 32 := Scalar.muli v1503 c128_i32_2260
  let v1513 : Index := Scalar.indexCast v1512
  let c0_2261 : Index := 0#32
  ![v1513.toNat, 0]

def k0_chk27 (v1503 : BitVec 32) : Prop :=
  (∀ a, (k0_off25 v1503) a + S128x256.size a ≤ S4096x256.size a)
theorem k0_off25_inb : ∀ (v1503 : BitVec 32) (k0_hw27 : k0_chk27 v1503), ∀ a, (k0_off25 v1503) a + S128x256.size a ≤ S4096x256.size a := fun v1503 k0_hw27 => k0_hw27

def k0_dev75 (v1 : BitVec 32) : Nat :=
  let c0_i32_2316 : BitVec 32 := 0#32
  let c1_i32_2315 : BitVec 32 := 1#32
  let v1539 : BitVec 32 := Scalar.muli v1 c1_i32_2315
  let v1540 : BitVec 32 := Scalar.addi c0_i32_2316 v1539
  v1540.toNat
def k0_dev76 (v2 : BitVec 32) : Nat :=
  let c0_i32_2319 : BitVec 32 := 0#32
  let c1_i32_2318 : BitVec 32 := 1#32
  let v1541 : BitVec 32 := Scalar.muli v2 c1_i32_2318
  let v1542 : BitVec 32 := Scalar.addi c0_i32_2319 v1541
  v1542.toNat
def k0_dev77 (v2 : BitVec 32) : Nat :=
  let c0_i32_2344 : BitVec 32 := 0#32
  let c1_i32_2343 : BitVec 32 := 1#32
  let v1551 : BitVec 32 := Scalar.muli v2 c1_i32_2343
  let v1552 : BitVec 32 := Scalar.addi c0_i32_2344 v1551
  v1552.toNat
def k0_dev78 (v2 : BitVec 32) : Nat :=
  let c0_i32_2371 : BitVec 32 := 0#32
  let c1_i32_2370 : BitVec 32 := 1#32
  let v1569 : BitVec 32 := Scalar.muli v2 c1_i32_2370
  let v1570 : BitVec 32 := Scalar.addi c0_i32_2371 v1569
  v1570.toNat
def k0_dev79 (v1 : BitVec 32) : Nat :=
  let c0_i32_2400 : BitVec 32 := 0#32
  let c1_i32_2399 : BitVec 32 := 1#32
  let v1587 : BitVec 32 := Scalar.muli v1 c1_i32_2399
  let v1588 : BitVec 32 := Scalar.addi c0_i32_2400 v1587
  v1588.toNat
def k0_dev80 (v1 : BitVec 32) : Nat :=
  let c0_i32_2427 : BitVec 32 := 0#32
  let c1_i32_2426 : BitVec 32 := 1#32
  let v1605 : BitVec 32 := Scalar.muli v1 c1_i32_2426
  let v1606 : BitVec 32 := Scalar.addi c0_i32_2427 v1605
  v1606.toNat
def k0_off26 (v1615 : BitVec 32) : Fin 2 → Nat :=
  let c128_i32_2440 : BitVec 32 := 128#32
  let v1624 : BitVec 32 := Scalar.muli v1615 c128_i32_2440
  let v1625 : Index := Scalar.indexCast v1624
  let c0_2441 : Index := 0#32
  ![v1625.toNat, 0]

def k0_chk28 (v1615 : BitVec 32) : Prop :=
  (∀ a, (k0_off26 v1615) a + S128x256.size a ≤ S4096x256.size a)
theorem k0_off26_inb : ∀ (v1615 : BitVec 32) (k0_hw28 : k0_chk28 v1615), ∀ a, (k0_off26 v1615) a + S128x256.size a ≤ S4096x256.size a := fun v1615 k0_hw28 => k0_hw28

def k0_off27 (v1627 : BitVec 32) : Fin 2 → Nat :=
  let c128_i32_2450 : BitVec 32 := 128#32
  let v1636 : BitVec 32 := Scalar.muli v1627 c128_i32_2450
  let v1637 : Index := Scalar.indexCast v1636
  let c0_2451 : Index := 0#32
  ![v1637.toNat, 0]

def k0_chk29 (v1627 : BitVec 32) : Prop :=
  (∀ a, (k0_off27 v1627) a + S128x256.size a ≤ S4096x256.size a)
theorem k0_off27_inb : ∀ (v1627 : BitVec 32) (k0_hw29 : k0_chk29 v1627), ∀ a, (k0_off27 v1627) a + S128x256.size a ≤ S4096x256.size a := fun v1627 k0_hw29 => k0_hw29

def k0_dev81 (v1 : BitVec 32) : Nat :=
  let c0_i32_2506 : BitVec 32 := 0#32
  let c1_i32_2505 : BitVec 32 := 1#32
  let v1663 : BitVec 32 := Scalar.muli v1 c1_i32_2505
  let v1664 : BitVec 32 := Scalar.addi c0_i32_2506 v1663
  v1664.toNat
def k0_dev82 (v2 : BitVec 32) : Nat :=
  let c0_i32_2531 : BitVec 32 := 0#32
  let c1_i32_2530 : BitVec 32 := 1#32
  let v1673 : BitVec 32 := Scalar.muli v2 c1_i32_2530
  let v1674 : BitVec 32 := Scalar.addi c0_i32_2531 v1673
  v1674.toNat
def k0_dev83 (v2 : BitVec 32) : Nat :=
  let c0_i32_2558 : BitVec 32 := 0#32
  let c1_i32_2557 : BitVec 32 := 1#32
  let v1691 : BitVec 32 := Scalar.muli v2 c1_i32_2557
  let v1692 : BitVec 32 := Scalar.addi c0_i32_2558 v1691
  v1692.toNat
def k0_dev84 (v1 : BitVec 32) : Nat :=
  let c0_i32_2587 : BitVec 32 := 0#32
  let c1_i32_2586 : BitVec 32 := 1#32
  let v1709 : BitVec 32 := Scalar.muli v1 c1_i32_2586
  let v1710 : BitVec 32 := Scalar.addi c0_i32_2587 v1709
  v1710.toNat
def k0_dev85 (v1 : BitVec 32) : Nat :=
  let c0_i32_2614 : BitVec 32 := 0#32
  let c1_i32_2613 : BitVec 32 := 1#32
  let v1727 : BitVec 32 := Scalar.muli v1 c1_i32_2613
  let v1728 : BitVec 32 := Scalar.addi c0_i32_2614 v1727
  v1728.toNat

def k0_chk1_0 (v1 : BitVec 32) : Prop :=
  ((k0_dev1 v1) < nD) ∧
  ((k0_dev4 v1) < nD) ∧
  ((k0_dev6 v1) < nD) ∧
  ((k0_dev9 v1) < nD) ∧
  ((k0_dev10 v1) < nD) ∧
  ((k0_dev13 v1) < nD) ∧
  ((k0_dev14 v1) < nD) ∧
  ((k0_dev15 v1) < nD) ∧
  ((k0_dev19 v1) < nD) ∧
  ((k0_dev20 v1) < nD) ∧
  ((k0_dev21 v1) < nD) ∧
  ((k0_dev25 v1) < nD) ∧
  ((k0_dev26 v1) < nD) ∧
  ((k0_dev27 v1) < nD) ∧
  ((k0_dev31 v1) < nD) ∧
  ((k0_dev32 v1) < nD) ∧
  ((k0_dev33 v1) < nD) ∧
  ((k0_dev37 v1) < nD) ∧
  ((k0_dev38 v1) < nD) ∧
  ((k0_dev39 v1) < nD) ∧
  ((k0_dev43 v1) < nD) ∧
  ((k0_dev44 v1) < nD) ∧
  ((k0_dev45 v1) < nD) ∧
  ((k0_dev49 v1) < nD) ∧
  ((k0_dev50 v1) < nD) ∧
  ((k0_dev51 v1) < nD) ∧
  ((k0_dev55 v1) < nD) ∧
  ((k0_dev56 v1) < nD) ∧
  ((k0_dev57 v1) < nD) ∧
  ((k0_dev61 v1) < nD) ∧
  ((k0_dev62 v1) < nD) ∧
  ((k0_dev63 v1) < nD)
def k0_chk1_1 (v1 : BitVec 32) : Prop :=
  ((k0_dev67 v1) < nD) ∧
  ((k0_dev68 v1) < nD) ∧
  ((k0_dev69 v1) < nD) ∧
  ((k0_dev73 v1) < nD) ∧
  ((k0_dev74 v1) < nD) ∧
  ((k0_dev75 v1) < nD) ∧
  ((k0_dev79 v1) < nD) ∧
  ((k0_dev80 v1) < nD) ∧
  ((k0_dev81 v1) < nD) ∧
  ((k0_dev84 v1) < nD) ∧
  ((k0_dev85 v1) < nD)
def k0_chk1 (v1 : BitVec 32) : Prop :=
  k0_chk1_0 v1 ∧
  k0_chk1_1 v1
theorem k0_dev1_lt : ∀ (v1 : BitVec 32) (k0_hw1 : k0_chk1 v1), (k0_dev1 v1) < nD := fun v1 k0_hw1 => k0_hw1.1.1
theorem k0_dev4_lt : ∀ (v1 : BitVec 32) (k0_hw1 : k0_chk1 v1), (k0_dev4 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev9_lt : ∀ (v1 : BitVec 32) (k0_hw1 : k0_chk1 v1), (k0_dev9 v1) < nD := fun v1 k0_hw1 => k0_hw1.1.2.2.2.1
theorem k0_dev10_lt : ∀ (v1 : BitVec 32) (k0_hw1 : k0_chk1 v1), (k0_dev10 v1) < nD := fun v1 k0_hw1 => k0_hw1.1.2.2.2.2.1
theorem k0_dev13_lt : ∀ (v1 : BitVec 32) (k0_hw1 : k0_chk1 v1), (k0_dev13 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev15_lt : ∀ (v1 : BitVec 32) (k0_hw1 : k0_chk1 v1), (k0_dev15 v1) < nD := fun v1 k0_hw1 => k0_hw1.1.2.2.2.2.2.2.2.1
theorem k0_dev19_lt : ∀ (v1 : BitVec 32) (k0_hw1 : k0_chk1 v1), (k0_dev19 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev21_lt : ∀ (v1 : BitVec 32) (k0_hw1 : k0_chk1 v1), (k0_dev21 v1) < nD := fun v1 k0_hw1 => k0_hw1.1.2.2.2.2.2.2.2.2.2.2.1
theorem k0_dev25_lt : ∀ (v1 : BitVec 32) (k0_hw1 : k0_chk1 v1), (k0_dev25 v1) < nD := fun v1 k0_hw1 => k0_hw1.1.2.2.2.2.2.2.2.2.2.2.2.1
theorem k0_dev26_lt : ∀ (v1 : BitVec 32) (k0_hw1 : k0_chk1 v1), (k0_dev26 v1) < nD := fun v1 k0_hw1 => k0_hw1.1.2.2.2.2.2.2.2.2.2.2.2.2.1
theorem k0_dev27_lt : ∀ (v1 : BitVec 32) (k0_hw1 : k0_chk1 v1), (k0_dev27 v1) < nD := fun v1 k0_hw1 => k0_hw1.1.2.2.2.2.2.2.2.2.2.2.2.2.2.1
theorem k0_dev31_lt : ∀ (v1 : BitVec 32) (k0_hw1 : k0_chk1 v1), (k0_dev31 v1) < nD := fun v1 k0_hw1 => k0_hw1.1.2.2.2.2.2.2.2.2.2.2.2.2.2.2.1
theorem k0_dev32_lt : ∀ (v1 : BitVec 32) (k0_hw1 : k0_chk1 v1), (k0_dev32 v1) < nD := fun v1 k0_hw1 => k0_hw1.1.2.2.2.2.2.2.2.2.2.2.2.2.2.2.2.1
theorem k0_dev33_lt : ∀ (v1 : BitVec 32) (k0_hw1 : k0_chk1 v1), (k0_dev33 v1) < nD := fun v1 k0_hw1 => k0_hw1.1.2.2.2.2.2.2.2.2.2.2.2.2.2.2.2.2.1
theorem k0_dev37_lt : ∀ (v1 : BitVec 32) (k0_hw1 : k0_chk1 v1), (k0_dev37 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev39_lt : ∀ (v1 : BitVec 32) (k0_hw1 : k0_chk1 v1), (k0_dev39 v1) < nD := fun v1 k0_hw1 => k0_hw1.1.2.2.2.2.2.2.2.2.2.2.2.2.2.2.2.2.2.2.2.1
theorem k0_dev43_lt : ∀ (v1 : BitVec 32) (k0_hw1 : k0_chk1 v1), (k0_dev43 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev45_lt : ∀ (v1 : BitVec 32) (k0_hw1 : k0_chk1 v1), (k0_dev45 v1) < nD := fun v1 k0_hw1 => k0_hw1.1.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.1
theorem k0_dev50_lt : ∀ (v1 : BitVec 32) (k0_hw1 : k0_chk1 v1), (k0_dev50 v1) < nD := fun v1 k0_hw1 => k0_hw1.1.2.2.2.2.2.2.2.2.2.2.2.2.2.2.2.2.2.2.2.2.2.2.2.2.1
theorem k0_dev51_lt : ∀ (v1 : BitVec 32) (k0_hw1 : k0_chk1 v1), (k0_dev51 v1) < nD := fun v1 k0_hw1 => k0_hw1.1.2.2.2.2.2.2.2.2.2.2.2.2.2.2.2.2.2.2.2.2.2.2.2.2.2.1
theorem k0_dev55_lt : ∀ (v1 : BitVec 32) (k0_hw1 : k0_chk1 v1), (k0_dev55 v1) < nD := fun v1 k0_hw1 => k0_hw1.1.2.2.2.2.2.2.2.2.2.2.2.2.2.2.2.2.2.2.2.2.2.2.2.2.2.2.1
theorem k0_dev56_lt : ∀ (v1 : BitVec 32) (k0_hw1 : k0_chk1 v1), (k0_dev56 v1) < nD := fun v1 k0_hw1 => k0_hw1.1.2.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.1.2.2.2.2.2.2.2.2.2.2.2.2.2.2.2.2.2.2.2.2.2.2.2.2.2.2.2.2.1
theorem k0_dev61_lt : ∀ (v1 : BitVec 32) (k0_hw1 : k0_chk1 v1), (k0_dev61 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev63_lt : ∀ (v1 : BitVec 32) (k0_hw1 : k0_chk1 v1), (k0_dev63 v1) < nD := fun v1 k0_hw1 => k0_hw1.1.2.2.2.2.2.2.2.2.2.2.2.2.2.2.2.2.2.2.2.2.2.2.2.2.2.2.2.2.2.2.2
theorem k0_dev67_lt : ∀ (v1 : BitVec 32) (k0_hw1 : k0_chk1 v1), (k0_dev67 v1) < nD := fun v1 k0_hw1 => k0_hw1.2.1
theorem k0_dev68_lt : ∀ (v1 : BitVec 32) (k0_hw1 : k0_chk1 v1), (k0_dev68 v1) < nD := fun v1 k0_hw1 => k0_hw1.2.2.1
theorem k0_dev69_lt : ∀ (v1 : BitVec 32) (k0_hw1 : k0_chk1 v1), (k0_dev69 v1) < nD := fun v1 k0_hw1 => k0_hw1.2.2.2.1
theorem k0_dev73_lt : ∀ (v1 : BitVec 32) (k0_hw1 : k0_chk1 v1), (k0_dev73 v1) < nD := fun v1 k0_hw1 => k0_hw1.2.2.2.2.1
theorem k0_dev74_lt : ∀ (v1 : BitVec 32) (k0_hw1 : k0_chk1 v1), (k0_dev74 v1) < nD := fun v1 k0_hw1 => k0_hw1.2.2.2.2.2.1
theorem k0_dev75_lt : ∀ (v1 : BitVec 32) (k0_hw1 : k0_chk1 v1), (k0_dev75 v1) < nD := fun v1 k0_hw1 => k0_hw1.2.2.2.2.2.2.1
theorem k0_dev79_lt : ∀ (v1 : BitVec 32) (k0_hw1 : k0_chk1 v1), (k0_dev79 v1) < nD := fun v1 k0_hw1 => k0_hw1.2.2.2.2.2.2.2.1
theorem k0_dev80_lt : ∀ (v1 : BitVec 32) (k0_hw1 : k0_chk1 v1), (k0_dev80 v1) < nD := fun v1 k0_hw1 => k0_hw1.2.2.2.2.2.2.2.2.1
theorem k0_dev81_lt : ∀ (v1 : BitVec 32) (k0_hw1 : k0_chk1 v1), (k0_dev81 v1) < nD := fun v1 k0_hw1 => k0_hw1.2.2.2.2.2.2.2.2.2.1
theorem k0_dev84_lt : ∀ (v1 : BitVec 32) (k0_hw1 : k0_chk1 v1), (k0_dev84 v1) < nD := fun v1 k0_hw1 => k0_hw1.2.2.2.2.2.2.2.2.2.2.1
theorem k0_dev85_lt : ∀ (v1 : BitVec 32) (k0_hw1 : k0_chk1 v1), (k0_dev85 v1) < nD := fun v1 k0_hw1 => k0_hw1.2.2.2.2.2.2.2.2.2.2.2

def k0_off28 (v1737 : BitVec 32) : Fin 2 → Nat :=
  let c128_i32_2627 : BitVec 32 := 128#32
  let v1746 : BitVec 32 := Scalar.muli v1737 c128_i32_2627
  let v1747 : Index := Scalar.indexCast v1746
  let c0_2628 : Index := 0#32
  ![v1747.toNat, 0]

def k0_chk30 (v1737 : BitVec 32) : Prop :=
  (∀ a, (k0_off28 v1737) a + S128x256.size a ≤ S4096x256.size a)
theorem k0_off28_inb : ∀ (v1737 : BitVec 32) (k0_hw30 : k0_chk30 v1737), ∀ a, (k0_off28 v1737) a + S128x256.size a ≤ S4096x256.size a := fun v1737 k0_hw30 => k0_hw30

def k0_off29 (v1749 : BitVec 32) : Fin 2 → Nat :=
  let c128_i32_2637 : BitVec 32 := 128#32
  let v1758 : BitVec 32 := Scalar.muli v1749 c128_i32_2637
  let v1759 : Index := Scalar.indexCast v1758
  let c0_2638 : Index := 0#32
  ![v1759.toNat, 0]

def k0_chk31 (v1749 : BitVec 32) : Prop :=
  (∀ a, (k0_off29 v1749) a + S128x256.size a ≤ S4096x256.size a)
theorem k0_off29_inb : ∀ (v1749 : BitVec 32) (k0_hw31 : k0_chk31 v1749), ∀ a, (k0_off29 v1749) a + S128x256.size a ≤ S4096x256.size a := fun v1749 k0_hw31 => k0_hw31

def k0_dev86 (v2 : BitVec 32) : Nat :=
  let c0_i32_2715 : BitVec 32 := 0#32
  let c1_i32_2714 : BitVec 32 := 1#32
  let v1793 : BitVec 32 := Scalar.muli v2 c1_i32_2714
  let v1794 : BitVec 32 := Scalar.addi c0_i32_2715 v1793
  v1794.toNat
def k0_dev87 (v2 : BitVec 32) : Nat :=
  let c0_i32_2742 : BitVec 32 := 0#32
  let c1_i32_2741 : BitVec 32 := 1#32
  let v1811 : BitVec 32 := Scalar.muli v2 c1_i32_2741
  let v1812 : BitVec 32 := Scalar.addi c0_i32_2742 v1811
  v1812.toNat

def k0_chk2_0 (v2 : BitVec 32) : Prop :=
  ((k0_dev2 v2) < nD) ∧
  ((k0_dev3 v2) < nD) ∧
  ((k0_dev5 v2) < nD) ∧
  ((k0_dev7 v2) < nD) ∧
  ((k0_dev8 v2) < nD) ∧
  ((k0_dev11 v2) < nD) ∧
  ((k0_dev12 v2) < nD) ∧
  ((k0_dev16 v2) < nD) ∧
  ((k0_dev17 v2) < nD) ∧
  ((k0_dev18 v2) < nD) ∧
  ((k0_dev22 v2) < nD) ∧
  ((k0_dev23 v2) < nD) ∧
  ((k0_dev24 v2) < nD) ∧
  ((k0_dev28 v2) < nD) ∧
  ((k0_dev29 v2) < nD) ∧
  ((k0_dev30 v2) < nD) ∧
  ((k0_dev34 v2) < nD) ∧
  ((k0_dev35 v2) < nD) ∧
  ((k0_dev36 v2) < nD) ∧
  ((k0_dev40 v2) < nD) ∧
  ((k0_dev41 v2) < nD) ∧
  ((k0_dev42 v2) < nD) ∧
  ((k0_dev46 v2) < nD) ∧
  ((k0_dev47 v2) < nD) ∧
  ((k0_dev48 v2) < nD) ∧
  ((k0_dev52 v2) < nD) ∧
  ((k0_dev53 v2) < nD) ∧
  ((k0_dev54 v2) < nD) ∧
  ((k0_dev58 v2) < nD) ∧
  ((k0_dev59 v2) < nD) ∧
  ((k0_dev60 v2) < nD) ∧
  ((k0_dev64 v2) < nD)
def k0_chk2_1 (v2 : BitVec 32) : Prop :=
  ((k0_dev65 v2) < nD) ∧
  ((k0_dev66 v2) < nD) ∧
  ((k0_dev70 v2) < nD) ∧
  ((k0_dev71 v2) < nD) ∧
  ((k0_dev72 v2) < nD) ∧
  ((k0_dev76 v2) < nD) ∧
  ((k0_dev77 v2) < nD) ∧
  ((k0_dev78 v2) < nD) ∧
  ((k0_dev82 v2) < nD) ∧
  ((k0_dev83 v2) < nD) ∧
  ((k0_dev86 v2) < nD) ∧
  ((k0_dev87 v2) < nD)
def k0_chk2 (v2 : BitVec 32) : Prop :=
  k0_chk2_0 v2 ∧
  k0_chk2_1 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev5_lt : ∀ (v2 : BitVec 32) (k0_hw2 : k0_chk2 v2), (k0_dev5 v2) < nD := fun v2 k0_hw2 => k0_hw2.1.2.2.1
theorem k0_dev7_lt : ∀ (v2 : BitVec 32) (k0_hw2 : k0_chk2 v2), (k0_dev7 v2) < nD := fun v2 k0_hw2 => k0_hw2.1.2.2.2.1
theorem k0_dev8_lt : ∀ (v2 : BitVec 32) (k0_hw2 : k0_chk2 v2), (k0_dev8 v2) < nD := fun v2 k0_hw2 => k0_hw2.1.2.2.2.2.1
theorem k0_dev11_lt : ∀ (v2 : BitVec 32) (k0_hw2 : k0_chk2 v2), (k0_dev11 v2) < nD := fun v2 k0_hw2 => k0_hw2.1.2.2.2.2.2.1
theorem k0_dev12_lt : ∀ (v2 : BitVec 32) (k0_hw2 : k0_chk2 v2), (k0_dev12 v2) < nD := fun v2 k0_hw2 => k0_hw2.1.2.2.2.2.2.2.1
theorem k0_dev16_lt : ∀ (v2 : BitVec 32) (k0_hw2 : k0_chk2 v2), (k0_dev16 v2) < nD := fun v2 k0_hw2 => k0_hw2.1.2.2.2.2.2.2.2.1
theorem k0_dev17_lt : ∀ (v2 : BitVec 32) (k0_hw2 : k0_chk2 v2), (k0_dev17 v2) < nD := fun v2 k0_hw2 => k0_hw2.1.2.2.2.2.2.2.2.2.1
theorem k0_dev18_lt : ∀ (v2 : BitVec 32) (k0_hw2 : k0_chk2 v2), (k0_dev18 v2) < nD := fun v2 k0_hw2 => k0_hw2.1.2.2.2.2.2.2.2.2.2.1
theorem k0_dev22_lt : ∀ (v2 : BitVec 32) (k0_hw2 : k0_chk2 v2), (k0_dev22 v2) < nD := fun v2 k0_hw2 => k0_hw2.1.2.2.2.2.2.2.2.2.2.2.1
theorem k0_dev23_lt : ∀ (v2 : BitVec 32) (k0_hw2 : k0_chk2 v2), (k0_dev23 v2) < nD := fun v2 k0_hw2 => k0_hw2.1.2.2.2.2.2.2.2.2.2.2.2.1
theorem k0_dev24_lt : ∀ (v2 : BitVec 32) (k0_hw2 : k0_chk2 v2), (k0_dev24 v2) < nD := fun v2 k0_hw2 => k0_hw2.1.2.2.2.2.2.2.2.2.2.2.2.2.1
theorem k0_dev28_lt : ∀ (v2 : BitVec 32) (k0_hw2 : k0_chk2 v2), (k0_dev28 v2) < nD := fun v2 k0_hw2 => k0_hw2.1.2.2.2.2.2.2.2.2.2.2.2.2.2.1
theorem k0_dev29_lt : ∀ (v2 : BitVec 32) (k0_hw2 : k0_chk2 v2), (k0_dev29 v2) < nD := fun v2 k0_hw2 => k0_hw2.1.2.2.2.2.2.2.2.2.2.2.2.2.2.2.1
theorem k0_dev30_lt : ∀ (v2 : BitVec 32) (k0_hw2 : k0_chk2 v2), (k0_dev30 v2) < nD := fun v2 k0_hw2 => k0_hw2.1.2.2.2.2.2.2.2.2.2.2.2.2.2.2.2.1
theorem k0_dev34_lt : ∀ (v2 : BitVec 32) (k0_hw2 : k0_chk2 v2), (k0_dev34 v2) < nD := fun v2 k0_hw2 => k0_hw2.1.2.2.2.2.2.2.2.2.2.2.2.2.2.2.2.2.1
theorem k0_dev35_lt : ∀ (v2 : BitVec 32) (k0_hw2 : k0_chk2 v2), (k0_dev35 v2) < nD := fun v2 k0_hw2 => k0_hw2.1.2.2.2.2.2.2.2.2.2.2.2.2.2.2.2.2.2.1
theorem k0_dev36_lt : ∀ (v2 : BitVec 32) (k0_hw2 : k0_chk2 v2), (k0_dev36 v2) < nD := fun v2 k0_hw2 => k0_hw2.1.2.2.2.2.2.2.2.2.2.2.2.2.2.2.2.2.2.2.1
theorem k0_dev40_lt : ∀ (v2 : BitVec 32) (k0_hw2 : k0_chk2 v2), (k0_dev40 v2) < nD := fun v2 k0_hw2 => k0_hw2.1.2.2.2.2.2.2.2.2.2.2.2.2.2.2.2.2.2.2.2.1
theorem k0_dev41_lt : ∀ (v2 : BitVec 32) (k0_hw2 : k0_chk2 v2), (k0_dev41 v2) < nD := fun v2 k0_hw2 => k0_hw2.1.2.2.2.2.2.2.2.2.2.2.2.2.2.2.2.2.2.2.2.2.1
theorem k0_dev42_lt : ∀ (v2 : BitVec 32) (k0_hw2 : k0_chk2 v2), (k0_dev42 v2) < nD := fun v2 k0_hw2 => k0_hw2.1.2.2.2.2.2.2.2.2.2.2.2.2.2.2.2.2.2.2.2.2.2.1
theorem k0_dev46_lt : ∀ (v2 : BitVec 32) (k0_hw2 : k0_chk2 v2), (k0_dev46 v2) < nD := fun v2 k0_hw2 => k0_hw2.1.2.2.2.2.2.2.2.2.2.2.2.2.2.2.2.2.2.2.2.2.2.2.1
theorem k0_dev47_lt : ∀ (v2 : BitVec 32) (k0_hw2 : k0_chk2 v2), (k0_dev47 v2) < nD := fun v2 k0_hw2 => k0_hw2.1.2.2.2.2.2.2.2.2.2.2.2.2.2.2.2.2.2.2.2.2.2.2.2.1
theorem k0_dev48_lt : ∀ (v2 : BitVec 32) (k0_hw2 : k0_chk2 v2), (k0_dev48 v2) < nD := fun v2 k0_hw2 => k0_hw2.1.2.2.2.2.2.2.2.2.2.2.2.2.2.2.2.2.2.2.2.2.2.2.2.2.1
theorem k0_dev52_lt : ∀ (v2 : BitVec 32) (k0_hw2 : k0_chk2 v2), (k0_dev52 v2) < nD := fun v2 k0_hw2 => k0_hw2.1.2.2.2.2.2.2.2.2.2.2.2.2.2.2.2.2.2.2.2.2.2.2.2.2.2.1
theorem k0_dev53_lt : ∀ (v2 : BitVec 32) (k0_hw2 : k0_chk2 v2), (k0_dev53 v2) < nD := fun v2 k0_hw2 => k0_hw2.1.2.2.2.2.2.2.2.2.2.2.2.2.2.2.2.2.2.2.2.2.2.2.2.2.2.2.1
theorem k0_dev54_lt : ∀ (v2 : BitVec 32) (k0_hw2 : k0_chk2 v2), (k0_dev54 v2) < nD := fun v2 k0_hw2 => k0_hw2.1.2.2.2.2.2.2.2.2.2.2.2.2.2.2.2.2.2.2.2.2.2.2.2.2.2.2.2.1
theorem k0_dev58_lt : ∀ (v2 : BitVec 32) (k0_hw2 : k0_chk2 v2), (k0_dev58 v2) < nD := fun v2 k0_hw2 => k0_hw2.1.2.2.2.2.2.2.2.2.2.2.2.2.2.2.2.2.2.2.2.2.2.2.2.2.2.2.2.2.1
theorem k0_dev59_lt : ∀ (v2 : BitVec 32) (k0_hw2 : k0_chk2 v2), (k0_dev59 v2) < nD := fun v2 k0_hw2 => k0_hw2.1.2.2.2.2.2.2.2.2.2.2.2.2.2.2.2.2.2.2.2.2.2.2.2.2.2.2.2.2.2.1
theorem k0_dev60_lt : ∀ (v2 : BitVec 32) (k0_hw2 : k0_chk2 v2), (k0_dev60 v2) < nD := fun v2 k0_hw2 => k0_hw2.1.2.2.2.2.2.2.2.2.2.2.2.2.2.2.2.2.2.2.2.2.2.2.2.2.2.2.2.2.2.2.1
theorem k0_dev64_lt : ∀ (v2 : BitVec 32) (k0_hw2 : k0_chk2 v2), (k0_dev64 v2) < nD := fun v2 k0_hw2 => k0_hw2.1.2.2.2.2.2.2.2.2.2.2.2.2.2.2.2.2.2.2.2.2.2.2.2.2.2.2.2.2.2.2.2
theorem k0_dev65_lt : ∀ (v2 : BitVec 32) (k0_hw2 : k0_chk2 v2), (k0_dev65 v2) < nD := fun v2 k0_hw2 => k0_hw2.2.1
theorem k0_dev66_lt : ∀ (v2 : BitVec 32) (k0_hw2 : k0_chk2 v2), (k0_dev66 v2) < nD := fun v2 k0_hw2 => k0_hw2.2.2.1
theorem k0_dev70_lt : ∀ (v2 : BitVec 32) (k0_hw2 : k0_chk2 v2), (k0_dev70 v2) < nD := fun v2 k0_hw2 => k0_hw2.2.2.2.1
theorem k0_dev71_lt : ∀ (v2 : BitVec 32) (k0_hw2 : k0_chk2 v2), (k0_dev71 v2) < nD := fun v2 k0_hw2 => k0_hw2.2.2.2.2.1
theorem k0_dev72_lt : ∀ (v2 : BitVec 32) (k0_hw2 : k0_chk2 v2), (k0_dev72 v2) < nD := fun v2 k0_hw2 => k0_hw2.2.2.2.2.2.1
theorem k0_dev76_lt : ∀ (v2 : BitVec 32) (k0_hw2 : k0_chk2 v2), (k0_dev76 v2) < nD := fun v2 k0_hw2 => k0_hw2.2.2.2.2.2.2.1
theorem k0_dev77_lt : ∀ (v2 : BitVec 32) (k0_hw2 : k0_chk2 v2), (k0_dev77 v2) < nD := fun v2 k0_hw2 => k0_hw2.2.2.2.2.2.2.2.1
theorem k0_dev78_lt : ∀ (v2 : BitVec 32) (k0_hw2 : k0_chk2 v2), (k0_dev78 v2) < nD := fun v2 k0_hw2 => k0_hw2.2.2.2.2.2.2.2.2.1
theorem k0_dev82_lt : ∀ (v2 : BitVec 32) (k0_hw2 : k0_chk2 v2), (k0_dev82 v2) < nD := fun v2 k0_hw2 => k0_hw2.2.2.2.2.2.2.2.2.2.1
theorem k0_dev83_lt : ∀ (v2 : BitVec 32) (k0_hw2 : k0_chk2 v2), (k0_dev83 v2) < nD := fun v2 k0_hw2 => k0_hw2.2.2.2.2.2.2.2.2.2.2.1
theorem k0_dev86_lt : ∀ (v2 : BitVec 32) (k0_hw2 : k0_chk2 v2), (k0_dev86 v2) < nD := fun v2 k0_hw2 => k0_hw2.2.2.2.2.2.2.2.2.2.2.2.1
theorem k0_dev87_lt : ∀ (v2 : BitVec 32) (k0_hw2 : k0_chk2 v2), (k0_dev87 v2) < nD := fun v2 k0_hw2 => k0_hw2.2.2.2.2.2.2.2.2.2.2.2.2

def k0_off30 (v1837 : BitVec 32) : Fin 2 → Nat :=
  let c128_i32_2781 : BitVec 32 := 128#32
  let v1846 : BitVec 32 := Scalar.muli v1837 c128_i32_2781
  let v1847 : Index := Scalar.indexCast v1846
  let c0_2782 : Index := 0#32
  ![v1847.toNat, 0]

def k0_chk32 (v1837 : BitVec 32) : Prop :=
  (∀ a, (k0_off30 v1837) a + S128x256.size a ≤ S4096x256.size a)
theorem k0_off30_inb : ∀ (v1837 : BitVec 32) (k0_hw32 : k0_chk32 v1837), ∀ a, (k0_off30 v1837) a + S128x256.size a ≤ S4096x256.size a := fun v1837 k0_hw32 => k0_hw32

def k0_off31 (v1849 : BitVec 32) : Fin 2 → Nat :=
  let c128_i32_2791 : BitVec 32 := 128#32
  let v1858 : BitVec 32 := Scalar.muli v1849 c128_i32_2791
  let v1859 : Index := Scalar.indexCast v1858
  let c0_2792 : Index := 0#32
  ![v1859.toNat, 0]

def k0_chk33 (v1849 : BitVec 32) : Prop :=
  (∀ a, (k0_off31 v1849) a + S128x256.size a ≤ S4096x256.size a)
theorem k0_off31_inb : ∀ (v1849 : BitVec 32) (k0_hw33 : k0_chk33 v1849), ∀ a, (k0_off31 v1849) a + S128x256.size a ≤ S4096x256.size a := fun v1849 k0_hw33 => k0_hw33

def k0_off32 (v1901 : BitVec 32) : Fin 2 → Nat :=
  let c128_i32_2879 : BitVec 32 := 128#32
  let v1910 : BitVec 32 := Scalar.muli v1901 c128_i32_2879
  let v1911 : Index := Scalar.indexCast v1910
  let c0_2880 : Index := 0#32
  ![v1911.toNat, 0]

def k0_chk34 (v1901 : BitVec 32) : Prop :=
  (∀ a, (k0_off32 v1901) a + S128x256.size a ≤ S4096x256.size a)
theorem k0_off32_inb : ∀ (v1901 : BitVec 32) (k0_hw34 : k0_chk34 v1901), ∀ a, (k0_off32 v1901) a + S128x256.size a ≤ S4096x256.size a := fun v1901 k0_hw34 => k0_hw34

abbrev stage0_0 : Fin 1 → Memref sig .tc .smem S34 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Prog.lean ====
/- The kernel's body as a program of its STEPS: the direction, the step and the segment are parameters, so that one
   lemma per kind of operation serves every occurrence. `body_eq` says the printed body is this program. -/
module

public import proofs.«01_k».proof.Proof.Gen.KernelIdeal.Skeleton
public import proofs.«01_k».proof.Proof.Gen.KernelIdeal.Points

@[expose] public section

set_option synthInstance.maxSize 4096

noncomputable section

namespace Cert.KernelIdeal.Ag

open Idealize.ShloMosaic Idealize.ShloMosaic.TcCoe Idealize.SL.Sem
open Cert.KernelIdeal.Gen

/-- The two directions round the cycle: `cw` towards the right neighbour, `ccw` towards the left one. -/
inductive Dir | cw | ccw
  deriving DecidableEq

instance : Fintype Dir := ⟨{.cw, .ccw}, fun d => by cases d <;> decide⟩

namespace Dir
/-- How many hops the chunks of a direction take. -/
def hops : Dir → Nat | cw => 16 | ccw => 15
/-- Where the origins of a direction start in the index array. -/
def base : Dir → Nat | cw => 3 | ccw => 19
/-- The receive buffer of a direction. -/
def ref : Dir → Ref sig .tc | cw => cc0_scratch0 | ccw => cc0_scratch1
def ssems : Dir → DmaSems sig S4x2 | cw => cc0_scratch2 | ccw => cc0_scratch4
def rsems : Dir → DmaSems sig S4x2 | cw => cc0_scratch3 | ccw => cc0_scratch5
def credits : Dir → Sems sig S_ | cw => cc0_scratch6 | ccw => cc0_scratch7
end Dir

/-- The slot of step `s`. -/
def slotOf (s : Nat) : Fin 4 := ⟨s % 4, Nat.mod_lt _ (by decide)⟩

theorem buf_inb (k : Fin 4) (g : Fin 2) : ∀ a, (![k.val, g.val, 0, 0] : Fin 4 → Nat) a + S1x1x64x4096.size a ≤ S4x2x64x4096.size a := by
  revert k g; decide
theorem slot_inb (k : Fin 4) : ∀ a, (![k.val, 0, 0, 0] : Fin 4 → Nat) a + S1x2x64x4096.size a ≤ S4x2x64x4096.size a := by
  revert k; decide
theorem x_inb (g : Fin 2) : ∀ a, (![g.val, 0, 0] : Fin 3 → Nat) a + S1x64x4096.size a ≤ S2x64x4096.size a := by
  revert g; decide
theorem sem_inb (k : Fin 4) (g : Fin 2) : ∀ a, (![k.val, g.val] : Fin 2 → Nat) a + S1x1.size a ≤ S4x2.size a := by
  revert k g; decide
theorem meta_inb (i : Fin 34) : ∀ a, (![i.val] : Fin 1 → Nat) a + S1.size a ≤ S34.size a := by
  revert i; decide

abbrev metaM : Memref sig .tc .smem S34 .i32 := Memref.whole cc0_stg0_0
abbrev xM : Memref sig .tc .vmem S2x64x4096 .bf16 := Memref.whole cc0_stg1_0
abbrev wM : Memref sig .tc .vmem S4096x256 .bf16 := Memref.whole cc0_stg2_0
abbrev outM : Memref sig .tc .vmem S4096x256 .f32 := Memref.whole cc0_stg3_0
/-- The receive buffer of a direction, whole. -/
def bufM : Dir → Memref sig .tc .vmem S4x2x64x4096 .bf16
  | .cw => Memref.whole cc0_scratch0
  | .ccw => Memref.whole cc0_scratch1

theorem bufM_whole (d : Dir) : (bufM d).IsWhole := by cases d <;> exact Memref.isWhole_whole _

/-- Segment `g` of the device's own block. -/
abbrev xSeg (g : Fin 2) : Memref sig .tc .vmem S64x4096 .bf16 :=
  (xM.slice (Rect.unit (s := S2x64x4096) ![g.val, 0, 0] S1x64x4096.size (x_inb g)) (fun _ => rfl)).squeeze S64x4096 squeezes_S1x64x4096_S64x4096
/-- Segment `g` of slot `k` of the receive buffer of direction `d`. -/
abbrev bufSeg (d : Dir) (k : Fin 4) (g : Fin 2) : Memref sig .tc .vmem S64x4096 .bf16 :=
  ((bufM d).slice (Rect.unit (s := S4x2x64x4096) ![k.val, g.val, 0, 0] S1x1x64x4096.size (buf_inb k g)) (fun _ => rfl)).squeeze S64x4096 squeezes_S1x1x64x4096_S64x4096

theorem x_words (g : Fin 2) : (Rect.unit (s := S2x64x4096) ![g.val, 0, 0] S1x64x4096.size (x_inb g)).WholeWords (EltTy.packing .bf16) := by
  fin_cases g
  · exact wordsbf16_S2x64x4096_S1x64x4096_0_0_0
  · exact wordsbf16_S2x64x4096_S1x64x4096_1_0_0
theorem buf_words (k : Fin 4) (g : Fin 2) : (Rect.unit (s := S4x2x64x4096) ![k.val, g.val, 0, 0] S1x1x64x4096.size (buf_inb k g)).WholeWords (EltTy.packing .bf16) := by
  fin_cases k <;> fin_cases g
  · exact wordsbf16_S4x2x64x4096_S1x1x64x4096_0_0_0_0
  · exact wordsbf16_S4x2x64x4096_S1x1x64x4096_0_1_0_0
  · exact wordsbf16_S4x2x64x4096_S1x1x64x4096_1_0_0_0
  · exact wordsbf16_S4x2x64x4096_S1x1x64x4096_1_1_0_0
  · exact wordsbf16_S4x2x64x4096_S1x1x64x4096_2_0_0_0
  · exact wordsbf16_S4x2x64x4096_S1x1x64x4096_2_1_0_0
  · exact wordsbf16_S4x2x64x4096_S1x1x64x4096_3_0_0_0
  · exact wordsbf16_S4x2x64x4096_S1x1x64x4096_3_1_0_0

theorem xSeg_exact (g : Fin 2) : (xSeg g).view.WordExact :=
  ((Memref.isWhole_whole cc0_stg1_0).wordExact_slice rfl _ (x_words g)).reshape _ _
theorem bufSeg_exact (d : Dir) (k : Fin 4) (g : Fin 2) : (bufSeg d k g).view.WordExact :=
  ((bufM_whole d).wordExact_slice rfl _ (buf_words k g)).reshape _ _

/-- What a send of step `s` reads: the own block at step 0, the slot of the step before it otherwise. -/
def srcSeg (d : Dir) : Nat → Fin 2 → Memref sig .tc .vmem S64x4096 .bf16
  | 0, g => xSeg g
  | s + 1, g => bufSeg d (slotOf s) g
theorem srcSeg_exact (d : Dir) (s : Nat) (g : Fin 2) : (srcSeg d s g).view.WordExact := by
  cases s
  · exact xSeg_exact g
  · exact bufSeg_exact d _ g

/-- The semaphore a send of slot `k`, segment `g` completes on at its sender. -/
abbrev sSem (d : Dir) (k : Fin 4) (g : Fin 2) : DmaSem sig :=
  ((d.ssems.slice (Rect.unit (s := S4x2) ![k.val, g.val] S1x1.size (sem_inb k g))).squeeze S_ squeezes_S1x1_S_).sem
/-- The semaphore it completes on at its receiver. -/
abbrev rSem (d : Dir) (k : Fin 4) (g : Fin 2) : DmaSem sig :=
  ((d.rsems.slice (Rect.unit (s := S4x2) ![k.val, g.val] S1x1.size (sem_inb k g))).squeeze S_ squeezes_S1x1_S_).sem
/-- The credit semaphore of a direction. -/
abbrev cSem (d : Dir) : Sem sig := d.credits.sem
/-- The semaphore of the opening barrier. -/
abbrev barSem : Sem sig := (SemArray.scalar (sig.barrier 0 rfl) : Sems sig S_).sem

variable {F : FTy → Type} [FloatOps F]

abbrev Pg (F : FTy → Type) [FloatOps F] (α : Type) := Prog (TpuEff nD τ sig (Elt F) Λ₀ .tc) α

/-- Word `i` of the index array. -/
def readMeta (i : Fin 34) : Pg F (Elt F .i32) :=
  smemLoad metaM (Rect.unit (s := S34) ![i.val] S1.size (meta_inb i)) numel1_S1 rfl

/-- The send of step `s`, segment `g`, to device `n`. -/
def sendOp (d : Dir) (n : Dev nD) (s : Nat) (g : Fin 2) : Pg F PUnit :=
  Prog.lift (.enqueueDma (srcSeg d s g) (.remote (Dev.tc n) (bufSeg d (slotOf s) g) (.dma (sSem d (slotOf s) g))) (.dma (rSem d (slotOf s) g))
    (srcSeg_exact d s g) (bufSeg_exact d (slotOf s) g) ⟨⟨rfl, Or.inl rfl⟩, trivial⟩)

/-- The wait for the arrival of step `s`, segment `g`. -/
def recvOp (d : Dir) (s : Nat) (g : Fin 2) : Pg F PUnit :=
  Prog.lift (.waitDma2 (rSem d (slotOf s) g) (xSeg g) (bufSeg d (slotOf s) g) (xSeg_exact g) (bufSeg_exact d (slotOf s) g))

/-- The wait for the departure of step `s`, segment `g`. -/
def sentOp (d : Dir) (s : Nat) (g : Fin 2) : Pg F PUnit :=
  Prog.lift (.waitDma2 (sSem d (slotOf s) g) (bufSeg d (slotOf s) g) (srcSeg d s g) (bufSeg_exact d (slotOf s) g) (srcSeg_exact d s g))

/-- The store of a tile at the rows of the block `v`: the weights are read, the rows are read and dropped, the rows are
    written. -/
def storeOp (v : Elt F .i32) (h : k0_chk3 v) (pay : Vec F S4096x256 .bf16 → FVec F S128x256 .f32) : Pg F PUnit := do
  let w : Vec F S4096x256 .bf16 ← Prog.lift (.load wM (Rect.unit (s := S4096x256) ![0, 0] S4096x256.size inb_S4096x256_S4096x256_0_0).toLoadRect (View.loadsAt_vmem h_S4096x256))
  let o : Vec F S128x256 .f32 ← Prog.lift (.load outM (Rect.unit (s := S4096x256) (k0_off1 v) S128x256.size (k0_off1_inb v h)).toLoadRect (View.loadsAt_vmem h_S128x256))
  Prog.lift (.store outM (Rect.unit (s := S4096x256) (k0_off1 v) S128x256.size (k0_off1_inb v h)) (pay w) Finset.univ (View.stores_vmem_bits_univ h_S128x256 rfl) (.inl rfl))

/-- The position of the origin of step `s` in the index array. -/
def orgIx (d : Dir) (s : Nat) : Fin 34 := ⟨(d.base + s) % 34, Nat.mod_lt _ (by decide)⟩

/-- The tile of the block that arrived at step `s`. -/
def tileOp (d : Dir) (s : Nat) : Pg F PUnit := do
  let v ← readMeta (orgIx d s)
  have h : k0_chk3 v := (← Prog.lift (TpuEff.assume (k0_chk3 v) (k0_chk3.dec v))).down
  let x : Vec F S1x2x64x4096 .bf16 ← Prog.lift (.load (bufM d) (Rect.unit (s := S4x2x64x4096) ![(slotOf s).val, 0, 0, 0] S1x2x64x4096.size (slot_inb (slotOf s))).toLoadRect (View.loadsAt_vmem h_S1x2x64x4096))
  storeOp v h (k0_pay2 x)

/-- The tile of the own block. -/
def ownOp (v : Elt F .i32) (h : k0_chk3 v) : Pg F PUnit := do
  let x : Vec F S2x64x4096 .bf16 ← Prog.lift (.load xM (Rect.unit (s := S2x64x4096) ![0, 0, 0] S2x64x4096.size inb_S2x64x4096_S2x64x4096_0_0_0).toLoadRect (View.loadsAt_vmem h_S2x64x4096))
  storeOp v h (k0_pay1 x)

/-- The arrival of a segment, and its forwarding unless this was the last hop. -/
def fwdSeg (d : Dir) (n : Dev nD) (s : Nat) (g : Fin 2) : Pg F PUnit := do
  recvOp d s g
  if s + 1 < d.hops then sendOp d n (s + 1) g else pure ⟨⟩

/-- The arrivals of step `s` in a direction: the credit for forwarding first, where the slot has been used before. -/
def fwd (d : Dir) (n : Dev nD) (s : Nat) : Pg F PUnit := do
  if s + 1 < d.hops ∧ 4 ≤ s + 1 then semWaitWord (cSem d) 1#32 else pure ⟨⟩
  fwdSeg d n s 0
  fwdSeg d n s 1

/-- The credit of step `s`: given back to where the direction's chunks come from. -/
def creditOp (d : Dir) (n : Dev nD) (s : Nat) : Pg F PUnit :=
  if 1 ≤ s ∧ s + 3 < d.hops then semSignalWord n (cSem d) 1#32 else pure ⟨⟩

/-- Step `s`, at the device whose left neighbour is `l` and whose right neighbour is `r`. -/
def step (l r : Dev nD) (s : Nat) : Pg F PUnit := do
  fwd .cw r s
  if s < 15 then fwd .ccw l s else pure ⟨⟩
  tileOp .cw s
  if s < 15 then tileOp .ccw s else pure ⟨⟩
  sentOp .cw s 0
  if s < 15 then sentOp .ccw s 0 else pure ⟨⟩
  sentOp .cw s 1
  if s < 15 then sentOp .ccw s 1 else pure ⟨⟩
  creditOp .cw l s
  creditOp .ccw r s

/-- `n` steps from step `s` on. -/
def steps (l r : Dev nD) : Nat → Nat → Pg F PUnit
  | 0, _ => pure ⟨⟩
  | n + 1, s => do
    step l r s
    steps l r n (s + 1)

/-- The opening barrier, the first sends and the tile of the own block. -/
def prologue (l r : Dev nD) (v : Elt F .i32) (h : k0_chk3 v) : Pg F PUnit := do
  semSignalWord l barSem 1#32
  semSignalWord r barSem 1#32
  semWaitWord barSem 2#32
  sendOp .cw r 0 0
  sendOp .ccw l 0 0
  sendOp .cw r 0 1
  sendOp .ccw l 0 1
  ownOp v h

/-- The body. -/
def body : Pg F PUnit := do
  let v0 ← readMeta (F := F) 0
  have h0 : k0_chk3 v0 := (← Prog.lift (TpuEff.assume (k0_chk3 v0) (k0_chk3.dec v0))).down
  let v1 ← readMeta (F := F) 1
  have h1 : k0_chk1 v1 := (← Prog.lift (TpuEff.assume (k0_chk1 v1) (k0_chk1.dec v1))).down
  let v2 ← readMeta (F := F) 2
  have h2 : k0_chk2 v2 := (← Prog.lift (TpuEff.assume (k0_chk2 v2) (k0_chk2.dec v2))).down
  prologue ⟨k0_dev1 v1, k0_dev1_lt v1 h1⟩ ⟨k0_dev2 v2, k0_dev2_lt v2 h2⟩ v0 h0
  steps ⟨k0_dev1 v1, k0_dev1_lt v1 h1⟩ ⟨k0_dev2 v2, k0_dev2_lt v2 h2⟩ 16 0

end Cert.KernelIdeal.Ag

end
-- ==== Proof.Ring.lean ====
/- The cycle the devices form, its two directions, and where the block that arrives at a step comes from. -/
module

public import proofs.«01_k».proof.Proof.Prog

@[expose] public section

noncomputable section

namespace Cert.KernelIdeal.Ag

open Idealize.ShloMosaic Idealize.ShloMosaic.TcCoe
open Cert.KernelIdeal.Gen

/-- The device at a position of the cycle. -/
def cyc (p : Fin 32) : Dev nD :=
  (![0, 8, 16, 24, 27, 19, 11, 3, 4, 12, 20, 28, 31, 23, 15, 7, 6, 14, 22, 30, 29, 21, 13, 5, 2, 10, 18, 26, 25, 17, 9, 1] : Fin 32 → Fin 32) p
/-- The position of a device. -/
def pos (c : Dev nD) : Fin 32 :=
  (![0, 31, 24, 7, 8, 23, 16, 15, 1, 30, 25, 6, 9, 22, 17, 14, 2, 29, 26, 5, 10, 21, 18, 13, 3, 28, 27, 4, 11, 20, 19, 12] : Fin 32 → Fin 32) c

theorem cyc_pos (c : Dev nD) : cyc (pos c) = c := by revert c; decide
theorem pos_cyc (p : Fin 32) : pos (cyc p) = p := by revert p; decide
theorem pos_inj {c c' : Dev nD} (h : pos c = pos c') : c = c' := by rw [← cyc_pos c, h, cyc_pos]

/-- The neighbour a direction sends to. -/
def nxt : Dir → Dev nD → Dev nD
  | .cw, c => cyc (pos c + 1)
  | .ccw, c => cyc (pos c + 31)
/-- The neighbour a direction receives from. -/
def frm : Dir → Dev nD → Dev nD
  | .cw, c => cyc (pos c + 31)
  | .ccw, c => cyc (pos c + 1)

theorem nxt_frm (d : Dir) (c : Dev nD) : nxt d (frm d c) = c := by
  apply pos_inj
  cases d <;> simp only [nxt, frm, pos_cyc] <;> apply Fin.ext <;> simp only [Fin.val_add] <;> have := (pos c).isLt <;>
    show (((pos c).val + _) % 32 + _) % 32 = _ <;> simp <;> omega
theorem frm_nxt (d : Dir) (c : Dev nD) : frm d (nxt d c) = c := by
  apply pos_inj
  cases d <;> simp only [nxt, frm, pos_cyc] <;> apply Fin.ext <;> simp only [Fin.val_add] <;> have := (pos c).isLt <;>
    show (((pos c).val + _) % 32 + _) % 32 = _ <;> simp <;> omega

/-- A direction's step to its receiver, as a bijection. -/
def nxtEquiv (d : Dir) : Dev nD ≃ Dev nD := ⟨nxt d, frm d, frm_nxt d, nxt_frm d⟩
/-- A direction's step to its sender, as a bijection. -/
def frmEquiv (d : Dir) : Dev nD ≃ Dev nD := ⟨frm d, nxt d, nxt_frm d, frm_nxt d⟩

/-- What one direction sends to, the other receives from. -/
theorem nxt_cw (c : Dev nD) : nxt .cw c = frm .ccw c := rfl
theorem nxt_ccw (c : Dev nD) : nxt .ccw c = frm .cw c := rfl

/-- Where the block that arrives at step `s` comes from. -/
def org (d : Dir) (c : Dev nD) : Nat → Dev nD
  | 0 => frm d c
  | s + 1 => frm d (org d c s)

theorem org_zero (d : Dir) (c : Dev nD) : org d c 0 = frm d c := rfl
theorem org_nxt_zero (d : Dir) (c : Dev nD) : org d (nxt d c) 0 = c := frm_nxt d c
theorem org_nxt_succ (d : Dir) (c : Dev nD) (s : Nat) : org d (nxt d c) (s + 1) = org d c s := by
  induction s with
  | zero => show frm d (frm d (nxt d c)) = frm d c; rw [frm_nxt]
  | succ s ih => show frm d (org d (nxt d c) (s + 1)) = frm d (org d c s); rw [ih]

/-- How far a direction's sender is, in positions. -/
def Dir.back : Dir → Nat | .cw => 31 | .ccw => 1

theorem pos_frm (d : Dir) (c : Dev nD) : (pos (frm d c)).val = ((pos c).val + d.back) % 32 := by
  cases d <;> simp only [frm, pos_cyc] <;> rfl

theorem pos_org (d : Dir) (c : Dev nD) (s : Nat) : (pos (org d c s)).val = ((pos c).val + d.back * (s + 1)) % 32 := by
  induction s with
  | zero => rw [org_zero, pos_frm, Nat.zero_add, Nat.mul_one]
  | succ s ih =>
    show (pos (frm d (org d c s))).val = _
    rw [pos_frm, ih]; cases d <;> simp only [Dir.back] <;> omega

/-- Every device's block is the own one or arrives in one of the two directions. -/
theorem org_cover (c o : Dev nD) : o = c ∨ (∃ s, s < 16 ∧ org .cw c s = o) ∨ (∃ s, s < 15 ∧ org .ccw c s = o) := by
  have hc := (pos c).isLt
  have ho := (pos o).isLt
  by_cases h0 : pos o = pos c
  · exact .inl (pos_inj h0)
  have h0' : (pos o).val ≠ (pos c).val := fun h => h0 (Fin.ext h)
  by_cases h : ((pos c).val + 32 - (pos o).val) % 32 ≤ 16
  · refine .inr (.inl ⟨((pos c).val + 32 - (pos o).val) % 32 - 1, by omega, pos_inj (Fin.ext ?_)⟩)
    rw [pos_org]; simp only [Dir.back]; omega
  · refine .inr (.inr ⟨32 - ((pos c).val + 32 - (pos o).val) % 32 - 1, by omega, pos_inj (Fin.ext ?_)⟩)
    rw [pos_org]; simp only [Dir.back]; omega

end Cert.KernelIdeal.Ag

end
-- ==== Proof.Geo.lean ====
/- The segments of the receive buffers and of the own block: which elements they have and what is read through them. -/
module

public import proofs.«01_k».proof.Proof.Ring
public import Idealize.ShloMosaic.Lib.ValueLayout

@[expose] public section

noncomputable section

namespace Cert.KernelIdeal.Ag

open Idealize.ShloMosaic Idealize.ShloMosaic.TcCoe
open Idealize.ShloMosaic.ValueIdx
open Cert.KernelIdeal.Gen

variable {F : FTy → Type} [FloatOps F]

/-- A block: two segments of rows. -/
abbrev Blk (F : FTy → Type) : Type := S2x64x4096.Idx → Elt F .bf16
/-- The weights of a device. -/
abbrev Wts (F : FTy → Type) : Type := S4096x256.Idx → Elt F .bf16

/-- An index of the receive buffer without its slot. -/
def dropSlot (i : S4x2x64x4096.Idx) : S2x64x4096.Idx := ix3 (i 1) (i 2) (i 3)

/-- The receive buffer of a direction with a block in every slot. -/
def bufOf (d : Dir) (c : Dev nD) (X : Blk F) : Buf (Elt F) ((bufM d).view.loc (c : Thread nD τ)) :=
  match d with
  | .cw => fun i => X (dropSlot i)
  | .ccw => fun i => X (dropSlot i)

theorem squeeze_x (y : S64x4096.Idx) : Shape.reshapeEquiv squeezes_S1x64x4096_S64x4096.numel_eq y = (ix3 (0 : Fin 1) (y 0) (y 1) : S1x64x4096.Idx) := by
  refine (congrArg _ (eq_ix2 y)).trans ?_
  exact reshapeEquiv_ix2_1ab _ (y 0) (y 1)
theorem squeeze_buf (y : S64x4096.Idx) : Shape.reshapeEquiv squeezes_S1x1x64x4096_S64x4096.numel_eq y = (ix4 (0 : Fin 1) (0 : Fin 1) (y 0) (y 1) : S1x1x64x4096.Idx) := by
  refine (congrArg _ (eq_ix2 y)).trans ?_
  exact reshapeEquiv_ix2_11ab _ (y 0) (y 1)

theorem rect_x (g : Fin 2) (y : S64x4096.Idx) :
    (Rect.unit (s := S2x64x4096) ![g.val, 0, 0] S1x64x4096.size (x_inb g)).emb (ix3 (0 : Fin 1) (y 0) (y 1) : S1x64x4096.Idx) = (ix3 g (y 0) (y 1) : S2x64x4096.Idx) := by
  funext a; apply Fin.ext
  match a with
  | ⟨0, _⟩ => show g.val + 1 * 0 = g.val; omega
  | ⟨1, _⟩ => show 0 + 1 * (y 0).val = (y 0).val; omega
  | ⟨2, _⟩ => show 0 + 1 * (y 1).val = (y 1).val; omega
theorem rect_buf (k : Fin 4) (g : Fin 2) (y : S64x4096.Idx) :
    (Rect.unit (s := S4x2x64x4096) ![k.val, g.val, 0, 0] S1x1x64x4096.size (buf_inb k g)).emb (ix4 (0 : Fin 1) (0 : Fin 1) (y 0) (y 1) : S1x1x64x4096.Idx) = (ix4 k g (y 0) (y 1) : S4x2x64x4096.Idx) := by
  funext a; apply Fin.ext
  match a with
  | ⟨0, _⟩ => show k.val + 1 * 0 = k.val; omega
  | ⟨1, _⟩ => show g.val + 1 * 0 = g.val; omega
  | ⟨2, _⟩ => show 0 + 1 * (y 0).val = (y 0).val; omega
  | ⟨3, _⟩ => show 0 + 1 * (y 1).val = (y 1).val; omega

theorem xSeg_emb (g : Fin 2) (y : S64x4096.Idx) : (xSeg g).view.emb y = (ix3 g (y 0) (y 1) : S2x64x4096.Idx) := by
  refine Eq.trans ?_ (rect_x g y)
  rw [← squeeze_x y]; rfl
theorem bufSeg_emb_cw (k : Fin 4) (g : Fin 2) (y : S64x4096.Idx) : (bufSeg .cw k g).view.emb y = (ix4 k g (y 0) (y 1) : S4x2x64x4096.Idx) := by
  refine Eq.trans ?_ (rect_buf k g y)
  rw [← squeeze_buf y]; rfl
theorem bufSeg_emb_ccw (k : Fin 4) (g : Fin 2) (y : S64x4096.Idx) : (bufSeg .ccw k g).view.emb y = (ix4 k g (y 0) (y 1) : S4x2x64x4096.Idx) := by
  refine Eq.trans ?_ (rect_buf k g y)
  rw [← squeeze_buf y]; rfl

/-- What is read through a segment of the own block. -/
theorem xSeg_read (g : Fin 2) (X : Blk F) (y : S64x4096.Idx) : (xSeg g).view.read (Elt F) X y = X (ix3 g (y 0) (y 1)) :=
  congrArg X (xSeg_emb g y)
/-- What is read through a segment of a slot. -/
theorem bufSeg_read (d : Dir) (c : Dev nD) (k : Fin 4) (g : Fin 2) (X : Blk F) (y : S64x4096.Idx) :
    (bufSeg d k g).view.read (Elt F) (bufOf d c X) y = X (ix3 g (y 0) (y 1)) := by
  cases d
  · exact congrArg (fun i => X (dropSlot i)) (bufSeg_emb_cw k g y)
  · exact congrArg (fun i => X (dropSlot i)) (bufSeg_emb_ccw k g y)

/-- A view written with what it reads off `g` holds `g` on its elements. -/
theorem write_read_on {sp : Space} {s : Shape} {e : EltTy} (v : View sig .tc sp s e) (f g : v.ty.Contents (Elt F)) (w : s.Idx → Elt F e)
    (h : w = v.read (Elt F) g) : ∀ i ∈ v.set, v.write (Elt F) f w Finset.univ i = g i := by
  intro i hi
  obtain ⟨x, -, rfl⟩ := Finset.mem_map.mp hi
  rw [View.write_emb_of_mem _ _ (Finset.mem_univ x), h]
  simp [View.read]

theorem mem_rect (k : Fin 4) (g : Fin 2) (i : S4x2x64x4096.Idx) :
    i ∈ (Rect.unit (s := S4x2x64x4096) ![k.val, g.val, 0, 0] S1x1x64x4096.size (buf_inb k g)).set ↔ i 0 = k ∧ i 1 = g := by
  rw [Rect.mem_set_unit]
  constructor
  · intro h
    have h0 := h 0
    have h1 := h 1
    constructor <;> apply Fin.ext
    · change k.val ≤ (i 0).val ∧ (i 0).val < k.val + 1 at h0; omega
    · change g.val ≤ (i 1).val ∧ (i 1).val < g.val + 1 at h1; omega
  · rintro ⟨rfl, rfl⟩ a
    match a with
    | ⟨0, _⟩ => exact ⟨Nat.le_refl _, Nat.lt_succ_self _⟩
    | ⟨1, _⟩ => exact ⟨Nat.le_refl _, Nat.lt_succ_self _⟩
    | ⟨2, _⟩ => exact ⟨Nat.zero_le _, (Nat.zero_add 64).symm ▸ (i 2).isLt⟩
    | ⟨3, _⟩ => exact ⟨Nat.zero_le _, (Nat.zero_add 4096).symm ▸ (i 3).isLt⟩

theorem set_cw (k : Fin 4) (g : Fin 2) : (bufSeg .cw k g).view.set = (Rect.unit (s := S4x2x64x4096) ![k.val, g.val, 0, 0] S1x1x64x4096.size (buf_inb k g)).set :=
  (View.set_reshape ..).trans (View.set_slice_whole ..)
theorem set_ccw (k : Fin 4) (g : Fin 2) : (bufSeg .ccw k g).view.set = (Rect.unit (s := S4x2x64x4096) ![k.val, g.val, 0, 0] S1x1x64x4096.size (buf_inb k g)).set :=
  (View.set_reshape ..).trans (View.set_slice_whole ..)

theorem bufSeg_nonempty (d : Dir) (k : Fin 4) (g : Fin 2) : (bufSeg d k g).view.set.Nonempty :=
  (bufSeg d k g).view.set_nonempty (by decide)

/-- The elements of a segment of the receive buffer, as elements of the buffer. -/
abbrev segSet (d : Dir) (c : Dev nD) (x : Fin 4 × Fin 2) : Finset (Idx ((bufM d).view.loc (c : Thread nD τ))) := (bufSeg d x.1 x.2).view.set

/-- Two segments of a receive buffer share no element. -/
theorem seg_disjoint (d : Dir) (c : Dev nD) {x x' : Fin 4 × Fin 2} (h : x ≠ x') : Disjoint (segSet d c x) (segSet d c x') := by
  rw [Finset.disjoint_left]
  intro i hi hi'
  cases d
  · have h1 := (mem_rect _ _ _).mp ((Finset.ext_iff.mp (set_cw x.1 x.2) i).mp hi)
    have h2 := (mem_rect _ _ _).mp ((Finset.ext_iff.mp (set_cw x'.1 x'.2) i).mp hi')
    exact h (Prod.ext (h1.1.symm.trans h2.1) (h1.2.symm.trans h2.2))
  · have h1 := (mem_rect _ _ _).mp ((Finset.ext_iff.mp (set_ccw x.1 x.2) i).mp hi)
    have h2 := (mem_rect _ _ _).mp ((Finset.ext_iff.mp (set_ccw x'.1 x'.2) i).mp hi')
    exact h (Prod.ext (h1.1.symm.trans h2.1) (h1.2.symm.trans h2.2))

theorem mem_some_rect (i : S4x2x64x4096.Idx) : ∃ (k : Fin 4) (g : Fin 2), i ∈ (Rect.unit (s := S4x2x64x4096) ![k.val, g.val, 0, 0] S1x1x64x4096.size (buf_inb k g)).set :=
  ⟨i 0, i 1, (mem_rect _ _ _).mpr ⟨rfl, rfl⟩⟩

/-- The segments are the whole receive buffer. -/
theorem seg_cover (d : Dir) (c : Dev nD) : Finset.univ.biUnion (segSet d c) = Finset.univ := by
  refine Finset.eq_univ_iff_forall.mpr fun i => ?_
  obtain ⟨k, g, h⟩ : ∃ (k : Fin 4) (g : Fin 2), i ∈ segSet d c (k, g) := by
    cases d
    · obtain ⟨k, g, h⟩ := mem_some_rect i
      exact ⟨k, g, (Finset.ext_iff.mp (set_cw k g) i).mpr h⟩
    · obtain ⟨k, g, h⟩ := mem_some_rect i
      exact ⟨k, g, (Finset.ext_iff.mp (set_ccw k g) i).mpr h⟩
  exact Finset.mem_biUnion.mpr ⟨(k, g), Finset.mem_univ _, h⟩

/-- The rectangle of a whole slot. -/
abbrev slotRect (k : Fin 4) : Rect S4x2x64x4096 := Rect.unit (s := S4x2x64x4096) ![k.val, 0, 0, 0] S1x2x64x4096.size (slot_inb k)

theorem mem_slotRect (k : Fin 4) (i : S4x2x64x4096.Idx) (h : i ∈ (slotRect k).set) : i 0 = k := by
  have h0 := Rect.mem_set_unit.mp h 0
  apply Fin.ext
  change k.val ≤ (i 0).val ∧ (i 0).val < k.val + 1 at h0; omega

/-- A load of a slot reads elements of its two segments only. -/
theorem slot_sub (d : Dir) (c : Dev nD) (k : Fin 4) :
    (bufM d).view.setOn (slotRect k).toLoadRect.set ⊆ segSet d c (k, 0) ∪ segSet d c (k, 1) := by
  have key : ∀ i : S4x2x64x4096.Idx, i ∈ (slotRect k).set → (i 0 = k ∧ i 1 = (0 : Fin 2)) ∨ (i 0 = k ∧ i 1 = (1 : Fin 2)) := fun i hi => by
    have h0 := mem_slotRect k i hi
    have h1 : (i 1).val < 2 := (i 1).isLt
    by_cases h : (i 1).val = 0
    · exact .inl ⟨h0, Fin.eq_of_val_eq (n := 2) h⟩
    · exact .inr ⟨h0, Fin.eq_of_val_eq (n := 2) (by show (i 1).val = 1; omega)⟩
  intro i hi
  cases d
  · obtain ⟨x, hx, rfl⟩ := Finset.mem_map.mp hi
    refine Finset.mem_union.mpr ((key x hx).imp (fun h => ?_) (fun h => ?_))
    · show _ ∈ (bufSeg .cw _ _).view.set; rw [set_cw]; exact (mem_rect _ _ _).mpr h
    · show _ ∈ (bufSeg .cw _ _).view.set; rw [set_cw]; exact (mem_rect _ _ _).mpr h
  · obtain ⟨x, hx, rfl⟩ := Finset.mem_map.mp hi
    refine Finset.mem_union.mpr ((key x hx).imp (fun h => ?_) (fun h => ?_))
    · show _ ∈ (bufSeg .ccw _ _).view.set; rw [set_ccw]; exact (mem_rect _ _ _).mpr h
    · show _ ∈ (bufSeg .ccw _ _).view.set; rw [set_ccw]; exact (mem_rect _ _ _).mpr h

/-- A block as a load of a slot delivers it. -/
def slotVal (X : Blk F) : Vec F S1x2x64x4096 .bf16 := fun x => X (ix3 (x 1) (x 2) (x 3))

theorem slot_read (d : Dir) (c : Dev nD) (k : Fin 4) (X : Blk F) :
    (bufM d).view.readAt (Elt F) (slotRect k).toLoadRect (bufOf d c X) = slotVal X := by
  have key : ∀ y : S1x2x64x4096.Idx, dropSlot ((slotRect k).emb y) = (ix3 (y 1) (y 2) (y 3) : S2x64x4096.Idx) := fun y => by
    funext a; apply Fin.ext
    match a with
    | ⟨0, _⟩ => show 0 + 1 * (y 1).val = (y 1).val; omega
    | ⟨1, _⟩ => show 0 + 1 * (y 2).val = (y 2).val; omega
    | ⟨2, _⟩ => show 0 + 1 * (y 3).val = (y 3).val; omega
  funext y
  cases d
  · exact congrArg X (key y)
  · exact congrArg X (key y)

theorem xset (g : Fin 2) : (xSeg g).view.set = (Rect.unit (s := S2x64x4096) ![g.val, 0, 0] S1x64x4096.size (x_inb g)).set :=
  (View.set_reshape ..).trans (View.set_slice_whole ..)
theorem mem_xrect (g : Fin 2) (i : S2x64x4096.Idx) :
    i ∈ (Rect.unit (s := S2x64x4096) ![g.val, 0, 0] S1x64x4096.size (x_inb g)).set ↔ i 0 = g := by
  rw [Rect.mem_set_unit]
  constructor
  · intro h
    have h0 := h 0
    apply Fin.ext
    change g.val ≤ (i 0).val ∧ (i 0).val < g.val + 1 at h0; omega
  · rintro rfl a
    match a with
    | ⟨0, _⟩ => exact ⟨Nat.le_refl _, Nat.lt_succ_self _⟩
    | ⟨1, _⟩ => exact ⟨Nat.zero_le _, (Nat.zero_add 64).symm ▸ (i 1).isLt⟩
    | ⟨2, _⟩ => exact ⟨Nat.zero_le _, (Nat.zero_add 4096).symm ▸ (i 2).isLt⟩
/-- The two segments of the own block share no element and are the whole of it. -/
theorem x_disjoint : Disjoint (xSeg 0).view.set (xSeg 1).view.set := by
  rw [Finset.disjoint_left]
  intro i hi hi'
  rw [xset] at hi hi'
  exact absurd (((mem_xrect 0 i).mp hi).symm.trans ((mem_xrect 1 i).mp hi')) (show ¬(0 : Fin 2) = 1 by decide)
theorem mem_some_xrect (i : S2x64x4096.Idx) : i ∈ (Rect.unit (s := S2x64x4096) ![(0 : Fin 2).val, 0, 0] S1x64x4096.size (x_inb 0)).set
    ∨ i ∈ (Rect.unit (s := S2x64x4096) ![(1 : Fin 2).val, 0, 0] S1x64x4096.size (x_inb 1)).set := by
  have h1 : (i 0).val < 2 := (i 0).isLt
  by_cases h : (i 0).val = 0
  · exact .inl ((mem_xrect 0 i).mpr (Fin.eq_of_val_eq (n := 2) h))
  · exact .inr ((mem_xrect 1 i).mpr (Fin.eq_of_val_eq (n := 2) (by show (i 0).val = 1; omega)))
theorem x_cover : (xSeg 0).view.set ∪ (xSeg 1).view.set = Finset.univ := by
  refine Finset.eq_univ_iff_forall.mpr fun i => Finset.mem_union.mpr ?_
  exact (mem_some_xrect i).imp (Finset.ext_iff.mp (xset 0) i).mpr (Finset.ext_iff.mp (xset 1) i).mpr

/-- Every transfer credits as much. -/
def N : Nat := (bufSeg .cw 0 0).view.dmaCredit
theorem N_pos : 0 < N := View.dmaCredit_pos _ (by decide)
theorem credit_buf (d : Dir) (k : Fin 4) (g : Fin 2) : (bufSeg d k g).view.dmaCredit = N := by cases d <;> rfl
theorem credit_x (g : Fin 2) : (xSeg g).view.dmaCredit = N := by rfl
theorem credit_src (d : Dir) (s : Nat) (g : Fin 2) : (srcSeg d s g).view.dmaCredit = N := by
  cases s
  · exact credit_x g
  · exact credit_buf d _ g

end Cert.KernelIdeal.Ag

end
-- ==== Proof.Proto.lean ====
/- The protocol of the all-gather: its cells, who pays which of them what, and the order in which they are waited for. -/
module

public import proofs.«01_k».proof.Proof.Geo
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Release
public import Idealize.ShloMosaic.Lib.Tactic

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Cert.KernelIdeal.Gen

variable {F : FTy → Type} [FloatOps F]

/-! ## The resources -/

/-- A segment of a slot of a receive buffer of a device. -/
abbrev Key : Type := Dev nD × Dir × Fin 4 × Fin 2
abbrev UTalk : Type := URounds (GSem nD τ sig) ℕ × USlots Key
abbrev UU : Type := Idealize.ShloMosaic.UR sig nD τ × UTalk

local notation "𝕄" => MT nD τ sig ℕ (Elt F) ℕ UU ℕ

abbrev EP : Emb (Idealize.ShloMosaic.UR sig nD τ) (MT nD τ sig ℕ (Elt F) ℕ UU ℕ) := embL
def ER : Emb (URounds (GSem nD τ sig) ℕ) (MT nD τ sig ℕ (Elt F) ℕ UU ℕ) := (Emb.inl : Emb _ UTalk).trans embR
def ES : Emb (USlots Key) (MT nD τ sig ℕ (Elt F) ℕ UU ℕ) := (Emb.inr : Emb _ UTalk).trans embR

instance ER_landsIn : (ER (F := F)).LandsIn (upEmb : UEmb _ 𝕄) := by unfold ER; infer_instance
instance ES_landsIn : (ES (F := F)).LandsIn (upEmb : UEmb _ 𝕄) := by unfold ES; infer_instance

/-! ## Cells -/

abbrev barCell (c : Dev nD) : GSem nD τ sig := ((c : Thread nD τ), .reg barSem)
abbrev creditCell (c : Dev nD) (d : Dir) : GSem nD τ sig := ((c : Thread nD τ), .reg (cSem d))
abbrev sendCell (c : Dev nD) (d : Dir) (k : Fin 4) (g : Fin 2) : GSem nD τ sig := ((c : Thread nD τ), .dma (sSem d k g))
abbrev recvCell (c : Dev nD) (d : Dir) (k : Fin 4) (g : Fin 2) : GSem nD τ sig := ((c : Thread nD τ), .dma (rSem d k g))

/-- What a semaphore is for. -/
inductive Use | bar | credit (d : Dir) | send (d : Dir) (k : Fin 4) (g : Fin 2) | recv (d : Dir) (k : Fin 4) (g : Fin 2) | other
  deriving DecidableEq

def kOf (n : Nat) : Fin 4 := ⟨(n / 2) % 4, Nat.mod_lt _ (by decide)⟩
def gOf (n : Nat) : Fin 2 := ⟨n % 2, Nat.mod_lt _ (by decide)⟩
/-- The use of a DMA semaphore by its number. -/
def useDma (n : Nat) : Use :=
  if n < 4 then .other
  else if n < 12 then .send .cw (kOf (n - 4)) (gOf (n - 4))
  else if n < 20 then .recv .cw (kOf (n - 12)) (gOf (n - 12))
  else if n < 28 then .send .ccw (kOf (n - 20)) (gOf (n - 20))
  else .recv .ccw (kOf (n - 28)) (gOf (n - 28))
def useReg (n : Nat) : Use := if n = 0 then .credit .cw else if n = 1 then .credit .ccw else .bar
def useOf : SemLoc sig → Use
  | .reg s => useReg s.val
  | .dma s => useDma s.val

theorem use_bar : useOf (.reg barSem) = .bar := by decide
theorem use_credit (d : Dir) : useOf (.reg (cSem d)) = .credit d := by cases d <;> decide
theorem use_send (d : Dir) (k : Fin 4) (g : Fin 2) : useOf (.dma (sSem d k g)) = .send d k g := by
  cases d <;> revert k g <;> decide
theorem use_recv (d : Dir) (k : Fin 4) (g : Fin 2) : useOf (.dma (rSem d k g)) = .recv d k g := by
  cases d <;> revert k g <;> decide

/-! ## What is held -/

variable (X : Dev nD → Blk F)

/-- A segment of a slot holding a block's segment. -/
def bufPts (d : Dir) (c : Dev nD) (k : Fin 4) (g : Fin 2) (q : PosShare TreeShare) (B : Blk F) : sProp 𝕄 :=
  (bufSeg d k g).view.loc (c : Thread nD τ) ↦[(bufSeg d k g).view.set]{q} bufOf d c B
/-- A segment of the own block. -/
def xPts (c : Dev nD) (g : Fin 2) (q : PosShare TreeShare) : sProp 𝕄 :=
  (xSeg g).view.loc (c : Thread nD τ) ↦[(xSeg g).view.set]{q} (X c : Buf (Elt F) ((xSeg g).view.loc (c : Thread nD τ)))
/-- The share of the own block a direction sends from. -/
def xq : Dir → PosShare TreeShare | .cw => fullShare.left | .ccw => fullShare.right.left
/-- What a send of step `s` reads, at the share it lends. -/
def srcPts (d : Dir) (c : Dev nD) : Nat → Fin 2 → sProp 𝕄
  | 0, g => xPts X c g (xq d)
  | s + 1, g => bufPts d c (slotOf s) g fullShare.left (X (org d c s))

/-- The segment `g` of slot `k` at contents not known. -/
abbrev anySeg (d : Dir) (c : Dev nD) (k : Fin 4) (g : Fin 2) : sProp 𝕄 :=
  slot ((bufSeg d k g).view.loc (c : Thread nD τ)) (bufSeg d k g).view.set

/-! Transfers of a direction are numbered `2 * s + g` at step `s`, segment `g`. -/

/-- The receiver `c` has emptied the segment for transfer `t`. -/
def relAt (d : Dir) (c : Dev nD) (t : ℕ) : sProp 𝕄 := released ES (c, d, slotOf (t / 2), gOf t) (t / 8 + 1)
/-- The round of transfer `t` is open at the receiver. -/
def rchR (d : Dir) (c : Dev nD) (t : ℕ) : sProp 𝕄 := reached ER (recvCell c d (slotOf (t / 2)) (gOf t)) (t / 8)
/-- The round of transfer `t` is open at the sender. -/
def rchS (d : Dir) (c : Dev nD) (t : ℕ) : sProp 𝕄 := reached ER (sendCell c d (slotOf (t / 2)) (gOf t)) (t / 8)
/-- Of the receiver `c`: that it has emptied the segments for the first `n` transfers, and that their rounds are open. -/
def known (d : Dir) (c : Dev nD) (n : ℕ) : sProp 𝕄 := bigSep (Finset.range n) fun t => iprop(relAt d c t ∗ rchR d c t)

instance relAt_persistent (d : Dir) (c : Dev nD) (t : ℕ) : BI.Persistent (relAt (F := F) d c t) := by unfold relAt; infer_instance
instance rchR_persistent (d : Dir) (c : Dev nD) (t : ℕ) : BI.Persistent (rchR (F := F) d c t) := by unfold rchR; infer_instance
instance rchS_persistent (d : Dir) (c : Dev nD) (t : ℕ) : BI.Persistent (rchS (F := F) d c t) := by unfold rchS; infer_instance
instance relAt_storable (d : Dir) (c : Dev nD) (t : ℕ) : BI.Storable (upEmb : UEmb _ 𝕄) (relAt (F := F) d c t) := by unfold relAt; infer_instance
instance rchR_storable (d : Dir) (c : Dev nD) (t : ℕ) : BI.Storable (upEmb : UEmb _ 𝕄) (rchR (F := F) d c t) := by unfold rchR; infer_instance
instance known_persistent (d : Dir) (c : Dev nD) (n : Nat) : BI.Persistent (known (F := F) d c n) := by unfold known; infer_instance
instance known_storable (d : Dir) (c : Dev nD) (n : Nat) : BI.Storable (upEmb : UEmb _ 𝕄) (known (F := F) d c n) := by unfold known; infer_instance
instance bufPts_storable (d : Dir) (c : Dev nD) (k g q) (B : Blk F) : BI.Storable (upEmb : UEmb _ 𝕄) (bufPts d c k g q B) := by unfold bufPts; infer_instance
instance xPts_storable (c : Dev nD) (g q) : BI.Storable (upEmb : UEmb _ 𝕄) (xPts X c g q) := by unfold xPts; infer_instance
instance srcPts_storable (d : Dir) (c : Dev nD) (s : Nat) (g : Fin 2) : BI.Storable (upEmb : UEmb _ 𝕄) (srcPts X d c s g) := by
  cases s <;> unfold srcPts <;> infer_instance

/-! ## The schedule -/

/-- The neighbour that pays duty `u` of the opening barrier. -/
def payer : ℕ → Dir | 0 => .cw | _ => .ccw

/-- The other direction. -/
def Dir.opp : Dir → Dir | .cw => .ccw | .ccw => .cw
theorem nxt_opp (d : Dir) (c : Dev nD) : nxt d c = frm d.opp c := by cases d; exacts [nxt_cw c, nxt_ccw c]
/-- What the neighbour towards `d` pays a device at the opening barrier: its own slots, and that the credits can be given back. -/
def barPay (d : Dir) (c : Dev nD) : sProp 𝕄 := iprop(known d (nxt d c) 8 ∗ reached ER (creditCell (frm d.opp c) d.opp) 0)
instance barPay_storable (d : Dir) (c : Dev nD) : BI.Storable (upEmb : UEmb _ 𝕄) (barPay (F := F) d c) := by unfold barPay; infer_instance
instance barPay_persistent (d : Dir) (c : Dev nD) : BI.Persistent (barPay (F := F) d c) := by unfold barPay; infer_instance

def dutiesOf : Use → ℕ → Finset ℕ
  | .bar, r => if r = 0 then {0, 1} else ∅
  | .credit d, r => if r = 0 then Finset.range (d.hops - 4) else ∅
  | .send d k g, r => if 4 * r + k.val < d.hops then {0} else ∅
  | .recv d k g, r => if 4 * r + k.val < d.hops then {0} else ∅
  | .other, _ => ∅
def amountOf : Use → ℕ
  | .bar => 1
  | .credit _ => 1
  | _ => N
def payloadOf (c : Dev nD) : Use → ℕ → ℕ → sProp 𝕄
  | .bar, _, u => barPay (payer u) c
  | .credit d, _, u => known d (nxt d c) (2 * u + 10)
  | .send d k g, r, _ => srcPts X d c (4 * r + k.val) g
  | .recv d k g, r, _ => bufPts d c k g fullShare (X (org d c (4 * r + k.val)))
  | .other, _, _ => iprop(emp)

instance payloadOf_storable (c : Dev nD) (u : Use) (r e : ℕ) : BI.Storable (upEmb : UEmb _ 𝕄) (payloadOf X c u r e) := by
  cases u <;> unfold payloadOf <;> infer_instance

theorem amountOf_pos (u : Use) : 0 < amountOf u := by cases u <;> first | exact Nat.one_pos | exact N_pos

def sched : Rounds.Schedule (GSem nD τ sig) ℕ 𝕄 where
  duties g r := if g.1.2 = .tc then dutiesOf (useOf g.2) r else ∅
  unitless _ := False
  amount g _ _ := amountOf (useOf g.2)
  payload g r u := payloadOf X g.1.1 (useOf g.2) r u
  amount_pos g _ _ _ := amountOf_pos _

instance sched_payload_storable (g : GSem nD τ sig) (r u : ℕ) : BI.Storable (upEmb : UEmb _ 𝕄) ((sched X).payload g r u) :=
  payloadOf_storable X _ _ _ _

theorem slot_step (s : Nat) : 4 * (s / 4) + (slotOf s).val = s := Nat.div_add_mod s 4

section Sched
variable (c : Dev nD) (d : Dir) (s : Nat) (g : Fin 2)

theorem duties_tc (sm : SemLoc sig) (r : ℕ) : (sched X).duties ((c : Thread nD τ), sm) r = dutiesOf (useOf sm) r := by
  show (if ((c : Thread nD τ), sm).1.2 = .tc then dutiesOf (useOf sm) r else ∅) = _; exact if_pos rfl
theorem duties_bar : (sched X).duties (barCell c) 0 = {0, 1} := by
  rw [duties_tc, use_bar]; rfl
theorem duties_credit : (sched X).duties (creditCell c d) 0 = Finset.range (d.hops - 4) := by
  rw [duties_tc, use_credit]; rfl
theorem duties_send (h : s < d.hops) : (sched X).duties (sendCell c d (slotOf s) g) (s / 4) = {0} := by
  rw [duties_tc, use_send]
  exact if_pos ((slot_step s).symm ▸ h)
theorem duties_recv (h : s < d.hops) : (sched X).duties (recvCell c d (slotOf s) g) (s / 4) = {0} := by
  rw [duties_tc, use_recv]
  exact if_pos ((slot_step s).symm ▸ h)
theorem duties_send_none (k : Fin 4) {r : ℕ} (h : d.hops ≤ 4 * r + k.val) : (sched X).duties (sendCell c d k g) r = ∅ := by
  rw [duties_tc, use_send]
  exact if_neg (by omega)
theorem duties_recv_none (k : Fin 4) {r : ℕ} (h : d.hops ≤ 4 * r + k.val) : (sched X).duties (recvCell c d k g) r = ∅ := by
  rw [duties_tc, use_recv]
  exact if_neg (by omega)
theorem duties_bar_none {r : ℕ} (h : 1 ≤ r) : (sched X).duties (barCell c) r = ∅ := by
  rw [duties_tc, use_bar]; exact if_neg (by omega)
theorem duties_credit_none {r : ℕ} (h : 1 ≤ r) : (sched X).duties (creditCell c d) r = ∅ := by
  rw [duties_tc, use_credit]; exact if_neg (by omega)

theorem amount_bar (r u : ℕ) : (sched X).amount (barCell c) r u = 1 := by
  show amountOf (useOf (.reg barSem)) = 1; rw [use_bar]; rfl
theorem amount_credit (r u : ℕ) : (sched X).amount (creditCell c d) r u = 1 := by
  show amountOf (useOf (.reg (cSem d))) = 1; rw [use_credit]; rfl
theorem amount_send (k : Fin 4) (r u : ℕ) : (sched X).amount (sendCell c d k g) r u = N := by
  show amountOf (useOf (.dma (sSem d k g))) = N; rw [use_send]; rfl
theorem amount_recv (k : Fin 4) (r u : ℕ) : (sched X).amount (recvCell c d k g) r u = N := by
  show amountOf (useOf (.dma (rSem d k g))) = N; rw [use_recv]; rfl

theorem expect_bar : (sched X).expect (barCell c) 0 = 2 := by
  unfold Schedule.expect Schedule.amountOf; rw [duties_bar, Finset.sum_congr rfl (fun u _ => amount_bar X c 0 u)]; rfl
theorem expect_credit : (sched X).expect (creditCell c d) 0 = d.hops - 4 := by
  unfold Schedule.expect Schedule.amountOf; rw [duties_credit, Finset.sum_congr rfl (fun u _ => amount_credit X c d 0 u)]; simp
theorem expect_send (h : s < d.hops) : (sched X).expect (sendCell c d (slotOf s) g) (s / 4) = N := by
  unfold Schedule.expect Schedule.amountOf; rw [duties_send X c d s g h, Finset.sum_singleton, amount_send]
theorem expect_recv (h : s < d.hops) : (sched X).expect (recvCell c d (slotOf s) g) (s / 4) = N := by
  unfold Schedule.expect Schedule.amountOf; rw [duties_recv X c d s g h, Finset.sum_singleton, amount_recv]

theorem payload_bar (u : ℕ) : (sched X).payload (barCell c) 0 u = barPay (payer u) c := by
  show payloadOf X c (useOf (.reg barSem)) 0 u = _; rw [use_bar]; rfl
theorem payload_credit (u : ℕ) : (sched X).payload (creditCell c d) 0 u = known d (nxt d c) (2 * u + 10) := by
  show payloadOf X c (useOf (.reg (cSem d))) 0 u = _; rw [use_credit]; rfl
theorem payload_send : (sched X).payload (sendCell c d (slotOf s) g) (s / 4) 0 = srcPts X d c s g := by
  show payloadOf X c (useOf (.dma (sSem d (slotOf s) g))) (s / 4) 0 = _; rw [use_send]
  show srcPts X d c (4 * (s / 4) + (slotOf s).val) g = _; rw [slot_step]
theorem payload_recv : (sched X).payload (recvCell c d (slotOf s) g) (s / 4) 0 = bufPts d c (slotOf s) g fullShare (X (org d c s)) := by
  show payloadOf X c (useOf (.dma (rSem d (slotOf s) g))) (s / 4) 0 = _; rw [use_recv]
  show bufPts d c (slotOf s) g fullShare (X (org d c (4 * (s / 4) + (slotOf s).val))) = _; rw [slot_step]

theorem rest_send (h : s < d.hops) : bigSep ((sched X).duties (sendCell c d (slotOf s) g) (s / 4) \ ∅) (fun u => (sched X).payload (sendCell c d (slotOf s) g) (s / 4) u)
    = srcPts X d c s g := by
  rw [Finset.sdiff_empty, duties_send X c d s g h, bigSep_singleton, payload_send]
theorem rest_recv (h : s < d.hops) : bigSep ((sched X).duties (recvCell c d (slotOf s) g) (s / 4) \ ∅) (fun u => (sched X).payload (recvCell c d (slotOf s) g) (s / 4) u)
    = bufPts d c (slotOf s) g fullShare (X (org d c s)) := by
  rw [Finset.sdiff_empty, duties_recv X c d s g h, bigSep_singleton, payload_recv]
theorem rest_bar : bigSep ((sched X).duties (barCell c) 0 \ ∅) (fun u => (sched X).payload (barCell c) 0 u)
    = iprop(barPay (F := F) .cw c ∗ barPay .ccw c) := by
  rw [Finset.sdiff_empty, duties_bar, bigSep_insert (by decide), bigSep_singleton, payload_bar, payload_bar]; rfl

end Sched

/-! ## The levels -/

def L (g : GSem nD τ sig) : Finset ℕ := if g.1.2 = .tc then Finset.range 64 else ∅
def lvOf : Use → ℕ → ℕ
  | .bar, _ => 1
  | .credit _, u => 2 * u + 5
  | .send _ _ _, u => 2 * u + 2
  | .recv _ _ _, u => 2 * u + 2
  | .other, _ => 0
def lv (g : GSem nD τ sig) (u : ℕ) : ℕ := lvOf (useOf g.2) u

theorem L_of_ne (g : GSem nD τ sig) (h : g.1.2 ≠ .tc) : L g = ∅ := if_neg h
theorem L_tc (c : Dev nD) (sm : SemLoc sig) : L ((c : Thread nD τ), sm) = Finset.range 64 := if_pos rfl
theorem lv_bar (c : Dev nD) (u : ℕ) : lv (barCell c) u = 1 := by show lvOf (useOf (.reg barSem)) u = _; rw [use_bar]; rfl
theorem lv_credit (c : Dev nD) (d : Dir) (u : ℕ) : lv (creditCell c d) u = 2 * u + 5 := by show lvOf (useOf (.reg (cSem d))) u = _; rw [use_credit]; rfl
theorem lv_send (c : Dev nD) (d : Dir) (k g) (u : ℕ) : lv (sendCell c d k g) u = 2 * u + 2 := by show lvOf (useOf (.dma (sSem d k g))) u = _; rw [use_send]; rfl
theorem lv_recv (c : Dev nD) (d : Dir) (k g) (u : ℕ) : lv (recvCell c d k g) u = 2 * u + 2 := by show lvOf (useOf (.dma (rSem d k g))) u = _; rw [use_recv]; rfl

/-- Everything owed lies above level `b`. -/
def Above (b : ℕ) (O : CellTallies nD τ sig ℕ) : Prop := ∀ g u, 0 < O g u → u ∈ L g ∧ b < lv g u

theorem above_zero (b : ℕ) : Above b 0 := fun g u h => absurd h (Nat.lt_irrefl 0)
theorem above_add {b : ℕ} {O O' : CellTallies nD τ sig ℕ} (h : Above b O) (h' : Above b O') : Above b (O + O') := fun g u hg => by
  by_cases h0 : 0 < O g u
  · exact h g u h0
  · refine h' g u ?_
    have e : (O + O') g u = O g u + O' g u := rfl
    omega
theorem above_mono {b b' : ℕ} {O : CellTallies nD τ sig ℕ} (hb : b' ≤ b) (h : Above b O) : Above b' O :=
  fun g u hg => ⟨(h g u hg).1, Nat.lt_of_le_of_lt hb (h g u hg).2⟩
theorem above_sum {b : ℕ} {T : Type} [DecidableEq T] (A : Finset T) (O : T → CellTallies nD τ sig ℕ) (h : ∀ t ∈ A, Above b (O t)) : Above b (∑ t ∈ A, O t) := by
  induction A using Finset.induction_on with
  | empty => rw [Finset.sum_empty]; exact above_zero b
  | insert a A ha ih =>
    rw [Finset.sum_insert ha]
    exact above_add (h a (Finset.mem_insert_self ..)) (ih fun t ht => h t (Finset.mem_insert_of_mem ht))
theorem above_tally {b : ℕ} (c : Dev nD) (sm : SemLoc sig) (u n : ℕ) (hu : u < 64) (hb : b < lv ((c : Thread nD τ), sm) u) :
    Above b (tallyAt ((c : Thread nD τ), sm) u n) := fun g v hg => by
  rw [tallyAt_apply] at hg
  by_cases h : g = ((c : Thread nD τ), sm) ∧ v = u
  · rw [h.1, h.2, L_tc]; exact ⟨Finset.mem_range.mpr hu, hb⟩
  · rw [if_neg h] at hg; exact absurd hg (Nat.lt_irrefl 0)

/-- The levels, as every device knows them. -/
def levs : sProp 𝕄 := levAts L lv
instance levs_persistent : BI.Persistent (levs (F := F)) := by unfold levs; infer_instance
/-- A wait below everything owed is allowed. -/
theorem mayWait (c : Dev nD) (sm : SemLoc sig) (u : ℕ) (O : CellTallies nD τ sig ℕ) (hu : u < 64) (h : Above (lv ((c : Thread nD τ), sm) u) O) :
    (levs : sProp 𝕄) ⊢ MayWait (c : Thread nD τ) sm u O :=
  MayOwe.of_cut (L := L) (lev := lv) (lv ((c : Thread nD τ), sm) u)
    (fun p hp => by rw [Finset.mem_singleton.mp hp, L_tc]; exact Finset.mem_range.mpr hu)
    (fun g v hg => (h g v hg).1)
    (fun p hp => by rw [Finset.mem_singleton.mp hp])
    (fun g v hg => (h g v hg).2)

/-! ## What is owed -/

/-- The receiver's units of the transfer of step `s`, segment `g`. -/
def sendUnit (d : Dir) (c : Dev nD) (s : ℕ) (g : Fin 2) : CellTallies nD τ sig ℕ := tallyAt (recvCell (nxt d c) d (slotOf s) g) s N
/-- The same by the number of the transfer. -/
def sendFlat (d : Dir) (c : Dev nD) (j : ℕ) : CellTallies nD τ sig ℕ := sendUnit d c (j / 2) (gOf j)
/-- What is owed of a direction's transfers from number `i` on. -/
def sendsO (d : Dir) (c : Dev nD) (i : ℕ) : CellTallies nD τ sig ℕ := ∑ j ∈ Finset.Ico i (2 * d.hops), sendFlat d c j
/-- The credit of number `r` given back. -/
def creditUnit (d : Dir) (c : Dev nD) (r : ℕ) : CellTallies nD τ sig ℕ := tallyAt (creditCell (frm d c) d) r 1
/-- What is owed of a direction's credits from number `r` on. -/
def creditsO (d : Dir) (c : Dev nD) (r : ℕ) : CellTallies nD τ sig ℕ := ∑ r' ∈ Finset.Ico r (d.hops - 4), creditUnit d c r'

theorem ico_peel {a b : ℕ} (h : a < b) : Finset.Ico a b = insert a (Finset.Ico (a + 1) b) := by
  ext x; simp only [Finset.mem_insert, Finset.mem_Ico]; omega
theorem ico_peel_notin (a b : ℕ) : a ∉ Finset.Ico (a + 1) b := by simp
theorem sum_ico_peel {T : Type} [AddCommMonoid T] (f : ℕ → T) {a b : ℕ} (h : a < b) : ∑ x ∈ Finset.Ico a b, f x = f a + ∑ x ∈ Finset.Ico (a + 1) b, f x := by
  rw [ico_peel h, Finset.sum_insert (ico_peel_notin a b)]
theorem flat_div (s : ℕ) (g : Fin 2) : (2 * s + g.val) / 2 = s := by have := g.isLt; omega
theorem flat_g (s : ℕ) (g : Fin 2) : gOf (2 * s + g.val) = g := by
  apply Fin.ext; show (2 * s + g.val) % 2 = g.val; have := g.isLt; omega
theorem hops_le (d : Dir) : d.hops ≤ 16 := by cases d <;> decide

theorem sendsO_peel (d : Dir) (c : Dev nD) (s : ℕ) (g : Fin 2) (h : s < d.hops) :
    sendsO d c (2 * s + g.val) = sendsO d c (2 * s + g.val + 1) + sendUnit d c s g := by
  unfold sendsO
  rw [sum_ico_peel _ (by have := g.isLt; omega), add_comm]
  unfold sendFlat; rw [flat_div, flat_g]
theorem creditsO_peel (d : Dir) (c : Dev nD) (r : ℕ) (h : r < d.hops - 4) :
    creditsO d c r = creditsO d c (r + 1) + creditUnit d c r := by
  unfold creditsO
  rw [sum_ico_peel _ h, add_comm]
theorem sendsO_none (d : Dir) (c : Dev nD) (i : ℕ) (h : 2 * d.hops ≤ i) : sendsO d c i = 0 := by
  unfold sendsO; rw [Finset.Ico_eq_empty (by omega), Finset.sum_empty]
theorem creditsO_none (d : Dir) (c : Dev nD) (r : ℕ) (h : d.hops - 4 ≤ r) : creditsO d c r = 0 := by
  unfold creditsO; rw [Finset.Ico_eq_empty (by omega), Finset.sum_empty]

theorem above_sendsO (d : Dir) (c : Dev nD) (i b : ℕ) (h : b < 2 * (i / 2) + 2) : Above b (sendsO d c i) := by
  refine above_sum _ _ fun j hj => ?_
  have hj' := Finset.mem_Ico.mp hj
  have := hops_le d
  unfold sendFlat sendUnit
  refine above_tally _ _ _ _ (by omega) ?_
  rw [lv_recv]; omega
theorem above_creditsO (d : Dir) (c : Dev nD) (r b : ℕ) (h : b < 2 * r + 5) : Above b (creditsO d c r) := by
  refine above_sum _ _ fun j hj => ?_
  have hj' := Finset.mem_Ico.mp hj
  have := hops_le d
  unfold creditUnit
  refine above_tally _ _ _ _ (by omega) ?_
  rw [lv_credit]; omega

end Cert.KernelIdeal.Ag

end
-- ==== Proof.Ops.lean ====
/- One lemma for each kind of operation, at any direction, step and segment. -/
module

public import proofs.«01_k».proof.Proof.Proto
public import Idealize.SL.BI.BigOpNat

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Cert.KernelIdeal.Gen

variable {F : FTy → Type} [FloatOps F]

local notation "𝕄" => MT nD τ sig ℕ (Elt F) ℕ UU ℕ

/-! ## The cells -/

/-- The semaphores that are the kernel's own: a credit semaphore per direction; a sender's and a receiver's per segment. -/
abbrev Seg : Type := Dir × Fin 4 × Fin 2
abbrev Own : Type := Dir ⊕ (Seg ⊕ Seg)
def ownSem : Own → SemLoc sig
  | .inl d => .reg (cSem d)
  | .inr (.inl x) => .dma (sSem x.1 x.2.1 x.2.2)
  | .inr (.inr x) => .dma (rSem x.1 x.2.1 x.2.2)
def useOwn : Own → Use
  | .inl d => .credit d
  | .inr (.inl x) => .send x.1 x.2.1 x.2.2
  | .inr (.inr x) => .recv x.1 x.2.1 x.2.2
theorem useOf_own (o : Own) : useOf (ownSem o) = useOwn o := by
  rcases o with d | x | x
  · exact use_credit d
  · exact use_send _ _ _
  · exact use_recv _ _ _
theorem useOwn_inj : Function.Injective useOwn := by
  rintro (d | ⟨d, k, g⟩ | ⟨d, k, g⟩) (d' | ⟨d', k', g'⟩ | ⟨d', k', g'⟩) h <;> cases h <;> rfl
theorem ownSem_inj : Function.Injective ownSem := fun o o' h => useOwn_inj (by rw [← useOf_own, ← useOf_own, h])
theorem ownSem_ne_bar (o : Own) : ownSem o ≠ .reg barSem := fun h => by
  have := useOf_own o; rw [h, use_bar] at this
  rcases o with d | x | x <;> cases this

def barEmb : Dev nD ↪ GSem nD τ sig := ⟨fun c => barCell c, fun _ _ h => congrArg (fun g : GSem nD τ sig => g.1.1) h⟩
def ownEmb : Dev nD × Own ↪ GSem nD τ sig :=
  ⟨fun x => ((x.1 : Thread nD τ), ownSem x.2), fun _ _ h =>
    Prod.ext (congrArg (fun g : GSem nD τ sig => g.1.1) h) (ownSem_inj (congrArg Prod.snd h))⟩
def barCells : Finset (GSem nD τ sig) := Finset.univ.map barEmb
def ownCells : Finset (GSem nD τ sig) := Finset.univ.map ownEmb

theorem bar_mem (c : Dev nD) : barCell c ∈ barCells ∪ ownCells :=
  Finset.mem_union_left _ (Finset.mem_map_of_mem barEmb (Finset.mem_univ c))
theorem own_mem (c : Dev nD) (o : Own) : ((c : Thread nD τ), ownSem o) ∈ barCells ∪ ownCells :=
  Finset.mem_union_right _ (Finset.mem_map_of_mem ownEmb (Finset.mem_univ (c, o)))

variable (X : Dev nD → Blk F)

/-- What every device may consult: the levels, the cells' invariants, the slots' invariants, and that every barrier is open. -/
def ctx (K : GSem nD τ sig → ℕ) (J : Key → ℕ) : sProp 𝕄 :=
  iprop(levs ∗ (bigSep (barCells ∪ ownCells) fun g => cellInv ER (sched X) (K g) g)
    ∗ (bigSep Finset.univ fun k : Key => slotInv ES (J k) k (anySeg k.2.1 k.1 k.2.2.1 k.2.2.2))
    ∗ bigSep barCells fun g => reached ER g 0)
instance ctx_persistent (K : GSem nD τ sig → ℕ) (J : Key → ℕ) : BI.Persistent (ctx X K J) := by unfold ctx; infer_instance

variable (K : GSem nD τ sig → ℕ) (J : Key → ℕ)

theorem all_at {I : Type} [DecidableEq I] (S : Finset I) (Φ : I → sProp 𝕄) {i : I} (h : i ∈ S) : bigSep S Φ ⊢ Φ i := bigSep_elim h

theorem ctx_lev : ctx X K J ⊢ (levs : sProp 𝕄) := by unfold ctx; iintro ⟨#H, -⟩; iexact H
theorem ctx_inv {g : GSem nD τ sig} (hg : g ∈ barCells ∪ ownCells) : ctx X K J ⊢ cellInv ER (sched X) (K g) g := by
  unfold ctx; iintro ⟨-, #H, -⟩; iapply (all_at (F := F) _ (fun g => cellInv ER (sched X) (K g) g) hg); iexact H
theorem ctx_bar (c : Dev nD) : ctx X K J ⊢ cellInv ER (sched X) (K (barCell c)) (barCell c) := ctx_inv X K J (bar_mem c)
theorem ctx_credit (c : Dev nD) (d : Dir) : ctx X K J ⊢ cellInv ER (sched X) (K (creditCell c d)) (creditCell c d) := ctx_inv X K J (own_mem c (.inl d))
theorem ctx_send (c : Dev nD) (d : Dir) (k g) : ctx X K J ⊢ cellInv ER (sched X) (K (sendCell c d k g)) (sendCell c d k g) := ctx_inv X K J (own_mem c (.inr (.inl (d, k, g))))
theorem ctx_recv (c : Dev nD) (d : Dir) (k g) : ctx X K J ⊢ cellInv ER (sched X) (K (recvCell c d k g)) (recvCell c d k g) := ctx_inv X K J (own_mem c (.inr (.inr (d, k, g))))
theorem ctx_slot (c : Dev nD) (d : Dir) (k g) : ctx X K J ⊢ slotInv ES (J (c, d, k, g)) (c, d, k, g) (anySeg (F := F) d c k g) := by
  unfold ctx; iintro ⟨-, -, #H, -⟩
  iapply (all_at (F := F) _ (fun k : Key => slotInv ES (J k) k (anySeg (F := F) k.2.1 k.1 k.2.2.1 k.2.2.2)) (Finset.mem_univ (c, d, k, g))); iexact H
theorem ctx_barOpen (c : Dev nD) : ctx X K J ⊢ reached ER (barCell c) 0 := by
  unfold ctx; iintro ⟨-, -, -, #H⟩
  iapply (all_at (F := F) _ (fun g => reached ER g 0) (Finset.mem_map_of_mem barEmb (Finset.mem_univ c))); iexact H

/-! ## Runs of numbered resources -/

/-- Those of the numbers from `a` to `b`. -/
def todo (P : ℕ → sProp 𝕄) (a b : ℕ) : sProp 𝕄 := bigSep (Finset.Ico a b) P
/-- Those of the eight numbers from `a`: one for each segment of each slot. -/
def win (P : ℕ → sProp 𝕄) (a : ℕ) : sProp 𝕄 := todo P a (a + 8)
/-- Those of the first `n` numbers. -/
def log (P : ℕ → sProp 𝕄) (n : ℕ) : sProp 𝕄 := bigSep (Finset.range n) P

instance log_persistent (P : ℕ → sProp 𝕄) [∀ t, BI.Persistent (P t)] (n : ℕ) : BI.Persistent (log P n) := by unfold log; infer_instance

theorem todo_none (P : ℕ → sProp 𝕄) {a b : ℕ} (h : b ≤ a) : todo P a b = iprop(emp) := by
  unfold todo; rw [Finset.Ico_eq_empty (by omega), bigSep_empty]; rfl
theorem todo_pop (P : ℕ → sProp 𝕄) {a b : ℕ} (h : a < b) : todo P a b ⊢ iprop(P a ∗ todo P (a + 1) b) := Entails.of_eq (bigSep_Ico_succ_bot h P)
theorem todo_push (P : ℕ → sProp 𝕄) {a b : ℕ} (h : a ≤ b) : iprop(P b ∗ todo P a b) ⊢ todo P a (b + 1) := Entails.of_eq (bigSep_Ico_succ_top h P).symm
theorem win_step (P : ℕ → sProp 𝕄) (a : ℕ) : win P a ⊢ iprop(P a ∗ (P (a + 8) -∗ win P (a + 1))) := by
  unfold win
  iintro H
  ihave H := (todo_pop P (show a < a + 8 by omega)) $$ H
  icases H with ⟨H0, H⟩
  isplitl [H0]; · iexact H0
  iintro H1
  iapply (todo_push P (show a + 1 ≤ a + 8 by omega))
  isplitl [H1] <;> iassumption
theorem log_get (P : ℕ → sProp 𝕄) {t n : ℕ} (h : t < n) : log P n ⊢ P t := bigSep_elim (Finset.mem_range.mpr h)
theorem log_le (P : ℕ → sProp 𝕄) {m n : ℕ} (h : m ≤ n) : log P n ⊢ log P m := bigSep_subset (Finset.range_subset_range.mpr h)
theorem log_push (P : ℕ → sProp 𝕄) (n : ℕ) : iprop(P n ∗ log P n) ⊢ log P (n + 1) := Entails.of_eq (bigSep_range_succ n P).symm

/-! ## The numbered resources of a direction -/

abbrev 𝒱₀ : Variants := Variants.none
abbrev Run {α : Type} (c : Dev nD) (p : Pg F α) (Kt : α → sProp 𝕄) : sProp 𝕄 := wp frame (wpE (defs₀ (F := F)) 𝒱₀ (c : Thread nD τ) none) Set.univ p Kt
/-- What device `c` owes, whatever it has waited for. -/
def owesE (c : Dev nD) (O : CellTallies nD τ sig ℕ) : sProp 𝕄 := iprop(∃ W, owes (c : Thread nD τ) O W)

variable (d : Dir) (c : Dev nD)

def posR (t : ℕ) : sProp 𝕄 := atPos ER (recvCell c d (slotOf (t / 2)) (gOf t)) (t / 8) ∅ 0
def posS (t : ℕ) : sProp 𝕄 := atPos ER (sendCell c d (slotOf (t / 2)) (gOf t)) (t / 8) ∅ 0
def recvCred (t : ℕ) : sProp 𝕄 := cred (tallyAt (recvCell c d (slotOf (t / 2)) (gOf t)) (t / 2) N)
def sendCred (t : ℕ) : sProp 𝕄 := cred (tallyAt (sendCell c d (slotOf (t / 2)) (gOf t)) (t / 2) N)
/-- What transfer `t` is paid with. -/
def sendTok (t : ℕ) : sProp 𝕄 :=
  iprop(dutyTok ER (sendCell c d (slotOf (t / 2)) (gOf t)) (t / 8) 0 ∗ dutyTok ER (recvCell (nxt d c) d (slotOf (t / 2)) (gOf t)) (t / 8) 0
    ∗ writeTok ES (nxt d c, d, slotOf (t / 2), gOf t) (t / 8 + 1))
def creditTok (r : ℕ) : sProp 𝕄 := dutyTok ER (creditCell (frm d c) d) 0 r
def creditCred (r : ℕ) : sProp 𝕄 := cred (tallyAt (creditCell c d) r 1)
def reader (t : ℕ) : sProp 𝕄 := readerAt ES (c, d, slotOf (t / 2), gOf t) (t / 8 + 1)

theorem flat_round (s : ℕ) (g : Fin 2) : (2 * s + g.val) / 8 = s / 4 := by have := g.isLt; omega
theorem flat_next (t : ℕ) : slotOf ((t + 8) / 2) = slotOf (t / 2) ∧ gOf (t + 8) = gOf t ∧ (t + 8) / 8 = t / 8 + 1 := by
  refine ⟨Fin.ext ?_, Fin.ext ?_, by omega⟩
  · show (t + 8) / 2 % 4 = t / 2 % 4; omega
  · show (t + 8) % 2 = t % 2; omega

theorem sendTok_at (s : ℕ) (g : Fin 2) : sendTok d c (2 * s + g.val) = (iprop(dutyTok ER (sendCell c d (slotOf s) g) (s / 4) 0
    ∗ dutyTok ER (recvCell (nxt d c) d (slotOf s) g) (s / 4) 0 ∗ writeTok ES (nxt d c, d, slotOf s, g) (s / 4 + 1)) : sProp 𝕄) := by
  unfold sendTok; rw [flat_div, flat_g, flat_round]
theorem sendCred_at (s : ℕ) (g : Fin 2) : sendCred d c (2 * s + g.val) = (cred (tallyAt (sendCell c d (slotOf s) g) s N) : sProp 𝕄) := by
  unfold sendCred; rw [flat_div, flat_g]
theorem recvCred_at (s : ℕ) (g : Fin 2) : recvCred d c (2 * s + g.val) = (cred (tallyAt (recvCell c d (slotOf s) g) s N) : sProp 𝕄) := by
  unfold recvCred; rw [flat_div, flat_g]
theorem posR_at (s : ℕ) (g : Fin 2) : posR d c (2 * s + g.val) = (atPos ER (recvCell c d (slotOf s) g) (s / 4) ∅ 0 : sProp 𝕄) := by
  unfold posR; rw [flat_div, flat_g, flat_round]
theorem posS_at (s : ℕ) (g : Fin 2) : posS d c (2 * s + g.val) = (atPos ER (sendCell c d (slotOf s) g) (s / 4) ∅ 0 : sProp 𝕄) := by
  unfold posS; rw [flat_div, flat_g, flat_round]
theorem posR_next (s : ℕ) (g : Fin 2) : posR d c (2 * s + g.val + 8) = (atPos ER (recvCell c d (slotOf s) g) (s / 4 + 1) ∅ 0 : sProp 𝕄) := by
  unfold posR; obtain ⟨h1, h2, h3⟩ := flat_next (2 * s + g.val); rw [h1, h2, h3, flat_div, flat_g, flat_round]
theorem posS_next (s : ℕ) (g : Fin 2) : posS d c (2 * s + g.val + 8) = (atPos ER (sendCell c d (slotOf s) g) (s / 4 + 1) ∅ 0 : sProp 𝕄) := by
  unfold posS; obtain ⟨h1, h2, h3⟩ := flat_next (2 * s + g.val); rw [h1, h2, h3, flat_div, flat_g, flat_round]
theorem rchR_next (s : ℕ) (g : Fin 2) : rchR d c (2 * s + g.val + 8) = (reached ER (recvCell c d (slotOf s) g) (s / 4 + 1) : sProp 𝕄) := by
  unfold rchR; obtain ⟨h1, h2, h3⟩ := flat_next (2 * s + g.val); rw [h1, h2, h3, flat_div, flat_g, flat_round]
theorem rchS_next (s : ℕ) (g : Fin 2) : rchS d c (2 * s + g.val + 8) = (reached ER (sendCell c d (slotOf s) g) (s / 4 + 1) : sProp 𝕄) := by
  unfold rchS; obtain ⟨h1, h2, h3⟩ := flat_next (2 * s + g.val); rw [h1, h2, h3, flat_div, flat_g, flat_round]
theorem reader_at (s : ℕ) (g : Fin 2) : reader d c (2 * s + g.val) = (readerAt ES (c, d, slotOf s, g) (s / 4 + 1) : sProp 𝕄) := by
  unfold reader; rw [flat_div, flat_g, flat_round]
theorem reader_next (s : ℕ) (g : Fin 2) : reader d c (2 * s + g.val + 8) = (readerAt ES (c, d, slotOf s, g) (s / 4 + 1 + 1) : sProp 𝕄) := by
  unfold reader; obtain ⟨h1, h2, h3⟩ := flat_next (2 * s + g.val); rw [h1, h2, h3, flat_div, flat_g, flat_round]
theorem relAt_next (s : ℕ) (g : Fin 2) : relAt d c (2 * s + g.val + 8) = (released ES (c, d, slotOf s, g) (s / 4 + 1 + 1) : sProp 𝕄) := by
  unfold relAt; obtain ⟨h1, h2, h3⟩ := flat_next (2 * s + g.val); rw [h1, h2, h3, flat_div, flat_g, flat_round]
theorem known_at (s : ℕ) (g : Fin 2) {n : ℕ} (hn : 2 * s + g.val < n) :
    known d c n ⊢ (iprop(released ES (c, d, slotOf s, g) (s / 4 + 1) ∗ reached ER (recvCell c d (slotOf s) g) (s / 4)) : sProp 𝕄) := by
  refine (log_get (F := F) (fun t => iprop(relAt d c t ∗ rchR d c t)) hn).trans ?_
  unfold relAt rchR; rw [flat_div, flat_g, flat_round]
theorem rchS_at (s : ℕ) (g : Fin 2) {n : ℕ} (hn : 2 * s + g.val < n) :
    log (rchS d c) n ⊢ (reached ER (sendCell c d (slotOf s) g) (s / 4) : sProp 𝕄) := by
  refine (log_get (F := F) (rchS d c) hn).trans ?_
  unfold rchS; rw [flat_div, flat_g, flat_round]

/-! ## Sending -/

/-- What a send reads lands at the neighbour as what its slot is to hold. -/
theorem src_eq (s : ℕ) (g : Fin 2) : ∃ (q : PosShare TreeShare) (fs : Buf (Elt F) ((srcSeg d s g).view.loc (c : Thread nD τ))),
    srcPts X d c s g = ((srcSeg d s g).view.loc (c : Thread nD τ) ↦[(srcSeg d s g).view.set]{q} fs)
    ∧ (srcSeg d s g).view.read (Elt F) fs = (bufSeg d (slotOf s) g).view.read (Elt F) (bufOf d (nxt d c) (X (org d (nxt d c) s))) := by
  cases s with
  | zero =>
    refine ⟨xq d, X c, rfl, funext fun y => ?_⟩
    rw [org_nxt_zero, bufSeg_read]; exact xSeg_read g (X c) y
  | succ s =>
    refine ⟨fullShare.left, bufOf d c (X (org d c s)), rfl, funext fun y => ?_⟩
    rw [org_nxt_succ, bufSeg_read]; exact bufSeg_read d c (slotOf s) g _ y

theorem anySeg_open (k : Fin 4) (g : Fin 2) : anySeg d c k g
    ⊢ (iprop(∃ f, (bufSeg d k g).view.loc (c : Thread nD τ) ↦[(bufSeg d k g).view.set]{fullShare} f) : sProp 𝕄) := BI.Entails.refl _
theorem take_seg (s : ℕ) (g : Fin 2) :
    iprop(slotInv ES (J (c, d, slotOf s, g)) (c, d, slotOf s, g) (anySeg (F := F) d c (slotOf s) g) ∗ released ES (c, d, slotOf s, g) (s / 4 + 1)
      ∗ writeTok ES (c, d, slotOf s, g) (s / 4 + 1)) ⊢ (|={Set.univ}=> anySeg d c (slotOf s) g : sProp 𝕄) :=
  Release.slot_take ES (Set.mem_univ _) (s / 4 + 1)

theorem run_send (s : ℕ) (g : Fin 2) (hs : s < d.hops) (O : CellTallies nD τ sig ℕ) (n e : ℕ) (hn : 2 * s + g.val < n) (he : 2 * s + g.val < e)
    (Kt : PUnit → sProp 𝕄) :
    iprop(ctx X K J ∗ owesE c (O + sendsO d c (2 * s + g.val)) ∗ srcPts X d c s g ∗ todo (sendTok d c) (2 * s + g.val) (2 * d.hops)
        ∗ known d (nxt d c) n ∗ log (rchS d c) e)
      ⊢ iprop((owesE c (O + sendsO d c (2 * s + g.val + 1)) ∗ todo (sendTok d c) (2 * s + g.val + 1) (2 * d.hops) ∗ sendCred d c (2 * s + g.val) -∗ Kt ⟨⟩)
          -∗ Run c (sendOp d (nxt d c) s g) Kt) := by
  have hlt : 2 * s + g.val < 2 * d.hops := by have := g.isLt; omega
  obtain ⟨q, fs, hsrc, hread⟩ := src_eq X d c s g
  rw [hsrc, sendCred_at]
  have hO : O + sendsO d c (2 * s + g.val) = (O + sendsO d c (2 * s + g.val + 1)) + tallyAt (recvCell (nxt d c) d (slotOf s) g) s N := by
    rw [sendsO_peel d c s g hs]; exact (add_assoc _ _ _).symm
  unfold owesE Run sendOp
  iintro ⟨#Hc, ⟨%W, HO⟩, Hsrc, Htok, #Hkn, #HrS⟩ Hk
  ihave Htok := (todo_pop (sendTok d c) hlt) $$ Htok
  icases Htok with ⟨Ht, Htok⟩
  ihave Ht := (Entails.of_eq (sendTok_at d c s g)) $$ Ht
  icases Ht with ⟨HtS, HtR, HtW⟩
  ihave Hkn' := (known_at d (nxt d c) s g hn) $$ Hkn
  icases Hkn' with ⟨#Hrel, #HrR⟩
  ihave #HrS' := (rchS_at d c s g he) $$ HrS
  ihave #HIS := (ctx_send X K J c d (slotOf s) g) $$ Hc
  ihave #HIR := (ctx_recv X K J (nxt d c) d (slotOf s) g) $$ Hc
  ihave #HIW := (ctx_slot X K J (nxt d c) d (slotOf s) g) $$ Hc
  imod (take_seg J d (nxt d c) s g) $$ [HtW] with Hdst
  · isplitr; · iexact HIW
    isplitr; · iexact Hrel
    iexact HtW
  ihave Hdst := (anySeg_open d (nxt d c) (slotOf s) g) $$ Hdst
  icases Hdst with ⟨%fd, Hdst⟩
  iapply (Rounds.wp_send_pointsTo 𝒱₀ ER (sched X) (c : Thread nD τ) none (c' := (nxt d c : Thread nD τ)) (src := srcSeg d s g) (dst := bufSeg d (slotOf s) g)
      (sS := .dma (sSem d (slotOf s) g)) (sem := .dma (rSem d (slotOf s) g)) (q := q) (fs := fs) (fd := fd)
      (κ₁ := K (sendCell c d (slotOf s) g)) (κ₂ := K (recvCell (nxt d c) d (slotOf s) g)) (r₁ := s / 4) (r₂ := s / 4) (d₁ := 0) (d₂ := 0)
      (by rw [duties_send X c d s g hs]; exact Finset.mem_singleton_self _) (by rw [duties_recv X (nxt d c) d s g hs]; exact Finset.mem_singleton_self _)
      s s N (credit_buf d (slotOf s) g) (amount_send X c d g _ _ _) (amount_recv X (nxt d c) d g _ _ _) (O + sendsO d c (2 * s + g.val + 1))
      hO (W := W)
      (by rw [payload_send, hsrc])
      (by rw [payload_recv]; unfold bufPts; exact Entails.of_eq (pointsTo_congr (write_read_on _ _ _ _ hread)))) $$ [HO Hsrc Hdst HtS HtR]
  · isplitr; · iexact HIS
    isplitr; · iexact HIR
    isplitl [Hsrc]; · iexact Hsrc
    isplitl [Hdst]; · iexact Hdst
    isplitl [HO]; · iexact HO
    isplitl [HtS]; · iexact HtS
    isplitr; · iexact HrS'
    isplitl [HtR]; · iexact HtR
    iexact HrR
  iintro ⟨Hcr, HO⟩
  rw [wp_ret]; imodintro
  iapply Hk
  isplitl [HO]; · iexists W; iexact HO
  isplitl [Htok]; · iexact Htok
  iexact Hcr

/-! ## Arrivals -/

theorem run_recv (s : ℕ) (g : Fin 2) (hs : s < d.hops) (O : CellTallies nD τ sig ℕ) (hO : Above (2 * s + 2) O) (Kt : PUnit → sProp 𝕄) :
    iprop(ctx X K J ∗ owesE c O ∗ win (posR d c) (2 * s + g.val) ∗ todo (recvCred d c) (2 * s + g.val) (2 * d.hops) ∗ log (rchR d c) (2 * s + g.val + 8))
      ⊢ iprop((owesE c O ∗ win (posR d c) (2 * s + g.val + 1) ∗ todo (recvCred d c) (2 * s + g.val + 1) (2 * d.hops)
            ∗ log (rchR d c) (2 * s + g.val + 1 + 8) ∗ bufPts d c (slotOf s) g fullShare (X (org d c s)) -∗ Kt ⟨⟩)
          -∗ Run c (recvOp d s g) Kt) := by
  have hlt : 2 * s + g.val < 2 * d.hops := by have := g.isLt; omega
  have hs64 : s < 64 := by have := hops_le d; omega
  have hm := (@ctx_lev F _ X K J).trans (mayWait (F := F) c (.dma (rSem d (slotOf s) g)) s O hs64 ((lv_recv c d (slotOf s) g s).symm ▸ hO))
  have hk : 0 + (bufSeg d (slotOf s) g).view.dmaCredit = (sched X).expect (recvCell c d (slotOf s) g) (s / 4) := by
    rw [expect_recv X c d s g hs, credit_buf, Nat.zero_add]
  have hcr : recvCred d c (2 * s + g.val) = (cred (tallyAt (recvCell c d (slotOf s) g) s (bufSeg d (slotOf s) g).view.dmaCredit) : sProp 𝕄) := by
    rw [recvCred_at, credit_buf]
  unfold owesE Run recvOp
  iintro ⟨#Hc, ⟨%W, HO⟩, Hpos, Hcr, #Hlog⟩ Hk
  ihave Hcr := (todo_pop (recvCred d c) hlt) $$ Hcr
  icases Hcr with ⟨Hc1, Hcr⟩
  ihave Hc1 := (Entails.of_eq hcr) $$ Hc1
  ihave Hpos := (win_step (posR d c) (2 * s + g.val)) $$ Hpos
  icases Hpos with ⟨Hat, Hpos⟩
  ihave Hat := (Entails.of_eq (posR_at d c s g)) $$ Hat
  ihave #HI := (ctx_recv X K J c d (slotOf s) g) $$ Hc
  iapply (Rounds.wp_wait_rest_token 𝒱₀ ER (sched X) (c : Thread nD τ) none (κ := K (recvCell c d (slotOf s) g))
      (wpE_waitDma2_eq (src := xSeg g) (dst := bufSeg d (slotOf s) g) 𝒱₀ (c : Thread nD τ) none Set.univ) (Set.mem_univ _) s (O := O) (W := W) (R := s / 4) (m := 0) (T := ∅) hk)
    $$ [Hc1 HO Hat]
  · isplitr; · iexact HI
    isplitl [Hc1]; · iexact Hc1
    isplitl [HO]; · iexact HO
    isplitr; · iapply hm; iexact Hc
    iexact Hat
  iintro ⟨HO, Hat, #Hrch, Hpay⟩
  ihave Hpay := (Entails.of_eq (rest_recv X c d s g hs)) $$ Hpay
  ihave Hat := (Entails.of_eq (posR_next d c s g).symm) $$ Hat
  ihave #Hrch' := (Entails.of_eq (rchR_next (F := F) d c s g).symm) $$ Hrch
  rw [wp_ret]; imodintro
  iapply Hk
  isplitl [HO]; · iexists (insert (SemLoc.dma (rSem d (slotOf s) g), s) W); iexact HO
  isplitl [Hpos Hat]; · iapply Hpos; iexact Hat
  isplitl [Hcr]; · iexact Hcr
  isplitr
  · iapply (log_push (rchR d c) (2 * s + g.val + 8))
    isplitr; · iexact Hrch'
    iexact Hlog
  iexact Hpay

theorem run_sent (s : ℕ) (g : Fin 2) (hs : s < d.hops) (b : ℕ) (hb : 2 * s + g.val < b) (O : CellTallies nD τ sig ℕ) (hO : Above (2 * s + 2) O) (Kt : PUnit → sProp 𝕄) :
    iprop(ctx X K J ∗ owesE c O ∗ win (posS d c) (2 * s + g.val) ∗ todo (sendCred d c) (2 * s + g.val) b ∗ log (rchS d c) (2 * s + g.val + 8))
      ⊢ iprop((owesE c O ∗ win (posS d c) (2 * s + g.val + 1) ∗ todo (sendCred d c) (2 * s + g.val + 1) b
            ∗ log (rchS d c) (2 * s + g.val + 1 + 8) ∗ srcPts X d c s g -∗ Kt ⟨⟩)
          -∗ Run c (sentOp d s g) Kt) := by
  have hs64 : s < 64 := by have := hops_le d; omega
  have hm := (@ctx_lev F _ X K J).trans (mayWait (F := F) c (.dma (sSem d (slotOf s) g)) s O hs64 ((lv_send c d (slotOf s) g s).symm ▸ hO))
  have hk : 0 + (srcSeg d s g).view.dmaCredit = (sched X).expect (sendCell c d (slotOf s) g) (s / 4) := by
    rw [expect_send X c d s g hs, credit_src, Nat.zero_add]
  have hcr : sendCred d c (2 * s + g.val) = (cred (tallyAt (sendCell c d (slotOf s) g) s (srcSeg d s g).view.dmaCredit) : sProp 𝕄) := by
    rw [sendCred_at, credit_src]
  unfold owesE Run sentOp
  iintro ⟨#Hc, ⟨%W, HO⟩, Hpos, Hcr, #Hlog⟩ Hk
  ihave Hcr := (todo_pop (sendCred d c) hb) $$ Hcr
  icases Hcr with ⟨Hc1, Hcr⟩
  ihave Hc1 := (Entails.of_eq hcr) $$ Hc1
  ihave Hpos := (win_step (posS d c) (2 * s + g.val)) $$ Hpos
  icases Hpos with ⟨Hat, Hpos⟩
  ihave Hat := (Entails.of_eq (posS_at d c s g)) $$ Hat
  ihave #HI := (ctx_send X K J c d (slotOf s) g) $$ Hc
  iapply (Rounds.wp_wait_rest_token 𝒱₀ ER (sched X) (c : Thread nD τ) none (κ := K (sendCell c d (slotOf s) g))
      (wpE_waitDma2_eq (src := bufSeg d (slotOf s) g) (dst := srcSeg d s g) 𝒱₀ (c : Thread nD τ) none Set.univ) (Set.mem_univ _) s (O := O) (W := W) (R := s / 4) (m := 0) (T := ∅) hk)
    $$ [Hc1 HO Hat]
  · isplitr; · iexact HI
    isplitl [Hc1]; · iexact Hc1
    isplitl [HO]; · iexact HO
    isplitr; · iapply hm; iexact Hc
    iexact Hat
  iintro ⟨HO, Hat, #Hrch, Hpay⟩
  ihave Hpay := (Entails.of_eq (rest_send X c d s g hs)) $$ Hpay
  ihave Hat := (Entails.of_eq (posS_next d c s g).symm) $$ Hat
  ihave #Hrch' := (Entails.of_eq (rchS_next (F := F) d c s g).symm) $$ Hrch
  rw [wp_ret]; imodintro
  iapply Hk
  isplitl [HO]; · iexists (insert (SemLoc.dma (sSem d (slotOf s) g), s) W); iexact HO
  isplitl [Hpos Hat]; · iapply Hpos; iexact Hat
  isplitl [Hcr]; · iexact Hcr
  isplitr
  · iapply (log_push (rchS d c) (2 * s + g.val + 8))
    isplitr; · iexact Hrch'
    iexact Hlog
  iexact Hpay

/-! ## Credits -/

/-- After `n` credit waits: the credits that have come are at least that many. -/
def credWait (n : ℕ) : sProp 𝕄 :=
  iprop(∃ S : Finset ℕ, ⌜n ≤ S.card ∧ S ⊆ Finset.range (d.hops - 4)⌝ ∗ atPos ER (creditCell c d) 0 S n ∗ bigSep S fun r => known d (nxt d c) (2 * r + 10))

theorem known_le {m n : ℕ} (h : m ≤ n) : known (F := F) d c n ⊢ known d c m := log_le _ h
/-- Of more than `n` credits one is numbered `n` or above. -/
theorem known_of (S : Finset ℕ) (n : ℕ) (h : n + 1 ≤ S.card) : (bigSep S fun r => known d c (2 * r + 10)) ⊢ (known d c (2 * n + 10) : sProp 𝕄) := by
  have : ∃ r ∈ S, n ≤ r := by
    by_contra hne
    have hs : S ⊆ Finset.range n := fun r hr => Finset.mem_range.mpr (by by_contra h'; exact hne ⟨r, hr, by omega⟩)
    have := Finset.card_le_card hs
    rw [Finset.card_range] at this; omega
  obtain ⟨r, hr, hn⟩ := this
  exact (all_at S (fun r => known d c (2 * r + 10)) hr).trans (known_le d c (by omega))

theorem run_cwait (n : ℕ) (hn : n < d.hops - 4) (O : CellTallies nD τ sig ℕ) (hO : Above (2 * n + 5) O) (Kt : PUnit → sProp 𝕄) :
    iprop(ctx X K J ∗ owesE c O ∗ credWait d c n ∗ todo (creditCred d c) n (d.hops - 4))
      ⊢ iprop((owesE c O ∗ credWait d c (n + 1) ∗ todo (creditCred d c) (n + 1) (d.hops - 4) ∗ known d (nxt d c) (2 * n + 10) -∗ Kt ⟨⟩)
          -∗ Run c (semWaitWord (cSem d) 1#32) Kt) := by
  have hn64 : n < 64 := by have := hops_le d; omega
  have hm := (@ctx_lev F _ X K J).trans (mayWait (F := F) c (.reg (cSem d)) n O hn64 ((lv_credit c d n).symm ▸ hO))
  unfold owesE Run semWaitWord credWait
  iintro ⟨#Hc, ⟨%W, HO⟩, ⟨%T, %hT, Hat, #HT⟩, Hcr⟩ Hk
  ihave Hcr := (todo_pop (creditCred d c) hn) $$ Hcr
  icases Hcr with ⟨Hc1, Hcr⟩
  unfold creditCred
  ihave #HI := (ctx_credit X K J c d) $$ Hc
  iapply (Rounds.wp_wait 𝒱₀ ER (sched X) (c : Thread nD τ) none (κ := K (creditCell c d)) (sm := .reg (cSem d)) (k' := 1)
      (wpE_semWait_eq 𝒱₀ (c : Thread nD τ) none Set.univ) (Set.mem_univ _) (cr := Finsupp.single n 1) (O := O) (W := W) {(.reg (cSem d), n)} (R := 0) (m := n) (T := T)
      (by rw [Util.total_single]) (image_single_subset _ n 1))
    $$ [Hc1 HO Hat]
  · isplitr; · iexact HI
    isplitl [Hc1]; · iexact Hc1
    isplitl [HO]; · iexact HO
    isplitr; · iapply hm; iexact Hc
    iexact Hat
  iintro %S ⟨%hS, HO, Hat, Hpay⟩
  have hS' : T ⊆ S ∧ S ⊆ Finset.range (d.hops - 4) ∧ n + 1 + (Finset.range (d.hops - 4) \ S).card ≤ d.hops - 4 := by
    have := hS; rw [duties_credit, expect_credit] at this; exact this
  have hcard : n + 1 ≤ S.card := by
    have h1 := Finset.card_sdiff_add_card_eq_card hS'.2.1
    rw [Finset.card_range] at h1; omega
  ihave #Hpay := (show (bigSep (S \ T) fun r => (sched X).payload (creditCell c d) 0 r) ⊢ (bigSep (S \ T) fun r => known d (nxt d c) (2 * r + 10) : sProp 𝕄) from
    bigSep_mono fun r _ => Entails.of_eq (payload_credit X c d r)) $$ Hpay
  ihave #HS := (show iprop((bigSep T fun r => known d (nxt d c) (2 * r + 10)) ∗ bigSep (S \ T) fun r => known d (nxt d c) (2 * r + 10))
      ⊢ (bigSep S fun r => known d (nxt d c) (2 * r + 10) : sProp 𝕄) from Entails.of_eq (bigSep_sdiff_split hS'.1).symm) $$ [HT Hpay]
  · isplitr; · iexact HT
    iexact Hpay
  rw [wp_ret]; imodintro
  iapply Hk
  isplitl [HO]; · iexists (W ∪ {(SemLoc.reg (cSem d), n)}); iexact HO
  isplitl [Hat]
  · iexists S
    isplitr; · ipureintro; exact ⟨hcard, hS'.2.1⟩
    isplitl [Hat]; · iexact Hat
    iexact HS
  isplitl [Hcr]; · iexact Hcr
  iapply (known_of d (nxt d c) S n hcard); iexact HS

theorem run_csignal (r : ℕ) (hr : r < d.hops - 4) (O : CellTallies nD τ sig ℕ) (Kt : PUnit → sProp 𝕄) :
    iprop(ctx X K J ∗ owesE c (O + creditsO d c r) ∗ todo (creditTok d c) r (d.hops - 4) ∗ known d c (2 * r + 10) ∗ reached ER (creditCell (frm d c) d) 0)
      ⊢ iprop((owesE c (O + creditsO d c (r + 1)) ∗ todo (creditTok d c) (r + 1) (d.hops - 4) -∗ Kt ⟨⟩)
          -∗ Run c (semSignalWord (frm d c) (cSem d) 1#32) Kt) := by
  have hO : O + creditsO d c r = (O + creditsO d c (r + 1)) + tallyAt (creditCell (frm d c) d) r 1 := by
    rw [creditsO_peel d c r hr]; exact (add_assoc _ _ _).symm
  unfold owesE Run semSignalWord
  iintro ⟨#Hc, ⟨%W, HO⟩, Htok, #Hkn, #Hre⟩ Hk
  ihave Htok := (todo_pop (creditTok d c) hr) $$ Htok
  icases Htok with ⟨Ht, Htok⟩
  unfold creditTok
  ihave #HI := (ctx_credit X K J (frm d c) d) $$ Hc
  iapply (Rounds.wp_signal 𝒱₀ ER (sched X) (c : Thread nD τ) none (dst := (frm d c : Thread nD τ)) (sem := cSem d) (r := 0) (d := r) (k' := 1) (κ := K (creditCell (frm d c) d))
      (by rw [duties_credit]; exact Finset.mem_range.mpr hr) (amount_credit X (frm d c) d 0 r) r (O + creditsO d c (r + 1)) hO (W := W)) $$ [HO Ht]
  · isplitr; · iexact HI
    isplitl [HO]; · iexact HO
    isplitl [Ht]; · iexact Ht
    isplitr
    · rw [payload_credit, nxt_frm]; iexact Hkn
    iexact Hre
  iintro HO
  rw [wp_ret]; imodintro
  iapply Hk
  isplitl [HO]; · iexists W; iexact HO
  iexact Htok

/-- A slot's segment given back once what was sent from it has left. -/
theorem seg_release (s : ℕ) (g : Fin 2) :
    iprop(ctx X K J ∗ win (reader d c) (2 * s + g.val) ∗ anySeg d c (slotOf s) g ∗ log (relAt d c) (2 * s + g.val + 8))
      ⊢ (|={Set.univ}=> (win (reader d c) (2 * s + g.val + 1) ∗ log (relAt d c) (2 * s + g.val + 1 + 8)) : sProp 𝕄) := by
  have hrel : iprop(slotInv ES (J (c, d, slotOf s, g)) (c, d, slotOf s, g) (anySeg (F := F) d c (slotOf s) g) ∗ readerAt ES (c, d, slotOf s, g) (s / 4 + 1) ∗ anySeg d c (slotOf s) g)
      ⊢ (|={Set.univ}=> (readerAt ES (c, d, slotOf s, g) (s / 4 + 1 + 1) ∗ released ES (c, d, slotOf s, g) (s / 4 + 1 + 1)) : sProp 𝕄) :=
    Release.slot_release ES (Set.mem_univ _) (Release.slot_slot_false (bufSeg_nonempty d (slotOf s) g)) (s / 4 + 1)
  iintro ⟨#Hc, Hw, Hseg, #Hlog⟩
  ihave Hw := (win_step (reader d c) (2 * s + g.val)) $$ Hw
  icases Hw with ⟨Hr, Hw⟩
  ihave Hr := (Entails.of_eq (reader_at d c s g)) $$ Hr
  ihave #HI := (ctx_slot X K J c d (slotOf s) g) $$ Hc
  imod hrel $$ [Hr Hseg] with ⟨Hr, #Hrel⟩
  · isplitr; · iexact HI
    isplitl [Hr] <;> iassumption
  imodintro
  ihave Hr := (Entails.of_eq (reader_next d c s g).symm) $$ Hr
  ihave #Hrel' := (Entails.of_eq (relAt_next (F := F) d c s g).symm) $$ Hrel
  isplitl [Hw Hr]; · iapply Hw; iexact Hr
  iapply (log_push (relAt d c) (2 * s + g.val + 8))
  isplitr; · iexact Hrel'
  iexact Hlog

theorem known_intro {n a p : ℕ} (ha : n ≤ a) (hp : n ≤ p) : iprop(log (relAt d c) p ∗ log (rchR d c) a) ⊢ (known d c n : sProp 𝕄) := by
  unfold known
  rw [bigSep_sep']
  exact BI.sep_mono (log_le _ hp) (log_le _ ha)

end Cert.KernelIdeal.Ag

end
-- ==== Proof.Bar.lean ====
/- The opening barrier, and what a device hands over at it. -/
module

public import proofs.«01_k».proof.Proof.Ops

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Cert.KernelIdeal.Gen

variable {F : FTy → Type} [FloatOps F]

local notation "𝕄" => MT nD τ sig ℕ (Elt F) ℕ UU ℕ

variable (X : Dev nD → Blk F) (K : GSem nD τ sig → ℕ) (J : Key → ℕ)
variable (d : Dir) (c : Dev nD)

/-- The unit a device owes the barrier of its neighbour towards `d`. -/
def barUnit (d : Dir) (c : Dev nD) : CellTallies nD τ sig ℕ := tallyAt (barCell (nxt d c)) 0 1
/-- Which of the two duties of a barrier the sender towards `d` pays. -/
def barDuty : Dir → ℕ | .cw => 1 | .ccw => 0
theorem payer_barDuty (d : Dir) : payer (barDuty d) = d.opp := by cases d <;> rfl
theorem barDuty_mem (d : Dir) : barDuty d ∈ ({0, 1} : Finset ℕ) := by cases d <;> decide
theorem opp_opp (d : Dir) : d.opp.opp = d := by cases d <;> rfl
theorem above_barUnit (d : Dir) (c : Dev nD) : Above 0 (barUnit d c) := by
  unfold barUnit; exact above_tally _ _ _ _ (by decide) (by rw [lv_bar]; decide)

/-- What a device pays its neighbour: that its own segments are free, and that its credits may be given back. -/
theorem barPay_intro : iprop(known d.opp c 8 ∗ reached ER (creditCell c d) 0) ⊢ (barPay d.opp (nxt d c) : sProp 𝕄) := by
  unfold barPay
  have h : nxt d.opp (nxt d c) = c := by rw [nxt_opp, opp_opp, frm_nxt]
  rw [h, opp_opp, frm_nxt]

theorem run_bsignal (O : CellTallies nD τ sig ℕ) (Kt : PUnit → sProp 𝕄) :
    iprop(ctx X K J ∗ owesE c (O + barUnit d c) ∗ dutyTok ER (barCell (nxt d c)) 0 (barDuty d) ∗ known d.opp c 8 ∗ reached ER (creditCell c d) 0)
      ⊢ iprop((owesE c O -∗ Kt ⟨⟩) -∗ Run c (semSignalWord (nxt d c) barSem 1#32) Kt) := by
  unfold owesE Run semSignalWord
  iintro ⟨#Hc, ⟨%W, HO⟩, Ht, #Hkn, #Hre⟩ Hk
  ihave #HI := (ctx_bar X K J (nxt d c)) $$ Hc
  ihave #Ho := (ctx_barOpen X K J (nxt d c)) $$ Hc
  iapply (Rounds.wp_signal 𝒱₀ ER (sched X) (c : Thread nD τ) none (dst := (nxt d c : Thread nD τ)) (sem := barSem) (r := 0) (d := barDuty d) (k' := 1) (κ := K (barCell (nxt d c)))
      (by rw [duties_bar]; exact barDuty_mem d) (amount_bar X (nxt d c) 0 _) 0 O rfl (W := W)) $$ [HO Ht]
  · isplitr; · iexact HI
    isplitl [HO]; · iexact HO
    isplitl [Ht]; · iexact Ht
    isplitr
    · rw [payload_bar, payer_barDuty]
      iapply (barPay_intro d c)
      isplitr <;> iassumption
    iexact Ho
  iintro HO
  rw [wp_ret]; imodintro
  iapply Hk
  iexists W; iexact HO

theorem run_bwait (O : CellTallies nD τ sig ℕ) (hO : Above 1 O) (Kt : PUnit → sProp 𝕄) :
    iprop(ctx X K J ∗ owesE c O ∗ atPos ER (barCell c) 0 ∅ 0 ∗ cred (tallyAt (barCell c) 0 2))
      ⊢ iprop((owesE c O ∗ atPos ER (barCell c) 1 ∅ 0 ∗ barPay .cw c ∗ barPay .ccw c -∗ Kt ⟨⟩)
          -∗ Run c (semWaitWord barSem 2#32) Kt) := by
  have hm := (@ctx_lev F _ X K J).trans (mayWait (F := F) c (.reg barSem) 0 O (by decide) ((lv_bar c 0).symm ▸ hO))
  have hk : 0 + 2 = (sched X).expect (barCell c) 0 := by rw [expect_bar]
  unfold owesE Run semWaitWord
  iintro ⟨#Hc, ⟨%W, HO⟩, Hat, Hcr⟩ Hk
  ihave #HI := (ctx_bar X K J c) $$ Hc
  iapply (Rounds.wp_wait_rest_token 𝒱₀ ER (sched X) (c : Thread nD τ) none (κ := K (barCell c)) (sm := .reg barSem) (k' := 2)
      (wpE_semWait_eq 𝒱₀ (c : Thread nD τ) none Set.univ) (Set.mem_univ _) 0 (O := O) (W := W) (R := 0) (m := 0) (T := ∅) hk)
    $$ [Hcr HO Hat]
  · isplitr; · iexact HI
    isplitl [Hcr]; · iexact Hcr
    isplitl [HO]; · iexact HO
    isplitr; · iapply hm; iexact Hc
    iexact Hat
  iintro ⟨HO, Hat, -, Hpay⟩
  ihave Hpay := (Entails.of_eq (rest_bar X c)) $$ Hpay
  rw [wp_ret]; imodintro
  iapply Hk
  isplitl [HO]; · iexists (insert (SemLoc.reg barSem, 0) W); iexact HO
  isplitl [Hat]; · iexact Hat
  iexact Hpay

/-! ## The segments before the first transfer -/

/-- The reader of a segment that has been given back never. -/
def reader0 (t : ℕ) : sProp 𝕄 := readerAt ES (c, d, slotOf (t / 2), gOf t) 0
/-- A segment by number, contents not known. -/
def segAt (t : ℕ) : sProp 𝕄 := anySeg d c (slotOf (t / 2)) (gOf t)
/-- Everything a direction's receive buffer starts with is given away once. -/
theorem deposit (n : ℕ) (hn : n ≤ 8) :
    iprop(ctx X K J ∗ todo (reader0 d c) 0 n ∗ todo (segAt d c) 0 n)
      ⊢ (|={Set.univ}=> (todo (reader d c) 0 n ∗ log (relAt d c) n) : sProp 𝕄) := by
  induction n with
  | zero =>
    unfold log
    rw [todo_none _ (Nat.le_refl 0), todo_none _ (Nat.le_refl 0), todo_none _ (Nat.le_refl 0), Finset.range_zero, bigSep_empty]
    iintro ⟨-, -, -⟩; imodintro
    isplitl <;> iempintro
  | succ n ih =>
    have h8 : n / 8 = 0 := by omega
    have hrel : iprop(slotInv ES (J (c, d, slotOf (n / 2), gOf n)) (c, d, slotOf (n / 2), gOf n) (anySeg (F := F) d c (slotOf (n / 2)) (gOf n)) ∗ reader0 d c n ∗ segAt d c n)
        ⊢ (|={Set.univ}=> (reader d c n ∗ relAt d c n) : sProp 𝕄) := by
      unfold reader relAt reader0 segAt; rw [h8]
      exact Release.slot_release ES (Set.mem_univ _) (Release.slot_slot_false (bufSeg_nonempty d (slotOf (n / 2)) (gOf n))) 0
    have pop (P : ℕ → sProp 𝕄) : todo P 0 (n + 1) ⊢ iprop(P n ∗ todo P 0 n) := Entails.of_eq (bigSep_Ico_succ_top (Nat.zero_le n) P)
    iintro ⟨#Hc, Hr, Hs⟩
    ihave Hr := (pop (reader0 d c)) $$ Hr
    ihave Hs := (pop (segAt d c)) $$ Hs
    icases Hr with ⟨Hr1, Hr⟩
    icases Hs with ⟨Hs1, Hs⟩
    ihave #HI := (ctx_slot X K J c d (slotOf (n / 2)) (gOf n)) $$ Hc
    imod hrel $$ [Hr1 Hs1] with ⟨Hr1, #Hrel⟩
    · isplitr; · iexact HI
      isplitl [Hr1] <;> iassumption
    imod (ih (by omega)) $$ [Hr Hs] with ⟨Hr, #Hlog⟩
    · isplitr; · iexact Hc
      isplitl [Hr] <;> iassumption
    imodintro
    isplitl [Hr Hr1]
    · iapply (todo_push (reader d c) (Nat.zero_le n)); isplitl [Hr1] <;> iassumption
    iapply (log_push (relAt d c) n)
    isplitr <;> iassumption

end Cert.KernelIdeal.Ag

end
-- ==== Proof.Tile.lean ====
/- The tiles: the index array read, a block and the weights read, the rows of the block written. -/
module

public import proofs.«01_k».proof.Proof.Bar

@[expose] public section

noncomputable section

namespace Cert.KernelIdeal.Ag

open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

variable (X : Dev nD → Blk F) (Wt : Dev nD → Wts F)
variable (d : Dir) (c : Dev nD)

/-! ## The index array -/

/-- What the index array of a device names at a position. -/
def metaDev (c : Dev nD) (n : ℕ) : Dev nD :=
  if n = 0 then c else if n = 1 then frm .cw c else if n = 2 then nxt .cw c else if n < 19 then org .cw c (n - 3) else org .ccw c (n - 19)
/-- The index array of a device. -/
def metaOf (c : Dev nD) : S34.Idx → BitVec 32 := fun i => BitVec.ofNat 32 (metaDev c (i 0).val).val

def metaPts : sProp 𝕄 := metaM.view.loc (c : Thread nD τ) ↦{fullShare} (metaOf c : Buf (Elt F) (metaM.view.loc (c : Thread nD τ)))

theorem meta_at (i : Fin 34) (f : Buf (Elt F) (metaM.view.loc (c : Thread nD τ))) (x : S1.Idx) :
    (metaM.access (Rect.unit (s := S34) ![i.val] S1.size (meta_inb i))).read (Elt F) f x = f (ix1 i : S34.Idx) := by
  refine congrArg f (funext fun a => Fin.ext ?_)
  match a with
  | ⟨0, _⟩ =>
    have h : (x 0).val < 1 := (x 0).isLt
    show i.val + 1 * (x 0).val = i.val; omega

theorem run_word (i : Fin 34) (Kt : Elt F .i32 → sProp 𝕄) :
    metaPts c ⊢ iprop((metaPts c -∗ Kt (BitVec.ofNat 32 (metaDev c i.val).val : BitVec 32)) -∗ Run c (readMeta i) Kt) := by
  unfold Run readMeta smemLoad metaPts
  iintro Hm Hk
  iapply (wp_smemLoadElt 𝒱₀ (c : Thread nD τ) none Set.univ (m := metaM) (r := Rect.unit (s := S34) ![i.val] S1.size (meta_inb i)) (Finset.subset_univ _)) $$ Hm
  iintro Hm
  rw [wp_ret, meta_at c, show metaOf c (ix1 i : S34.Idx) = BitVec.ofNat 32 (metaDev c i.val).val from rfl]; imodintro
  iapply Hk; iexact Hm

/-! ## The output -/

/-- The block an output row belongs to, and the row's place in it. -/
def blkOf (i : S4096x256.Idx) : Dev nD := ⟨(i 0).val / 128, by have h : (i 0).val < 4096 := (i 0).isLt; show _ < 32; omega⟩
def inBlk (i : S4096x256.Idx) : S128x256.Idx := ix2 (⟨(i 0).val % 128, Nat.mod_lt _ (by decide)⟩ : Fin 128) (i 1)
/-- What a device is to hold at the end: every block's rows, multiplied with its weights. -/
def outOf (i : S4096x256.Idx) : Elt F .f32 := k0_pay1 (X (blkOf i)) (Wt c) (inBlk i)

def wPts : sProp 𝕄 := wM.view.loc (c : Thread nD τ) ↦{fullShare} (Wt c : Buf (Elt F) (wM.view.loc (c : Thread nD τ)))
/-- The output with the rows of the blocks of `D` done. -/
def outPts (D : Dev nD → Prop) : sProp 𝕄 :=
  iprop(∃ f : S4096x256.Idx → Elt F .f32, ⌜∀ i, D (blkOf i) → f i = outOf X Wt c i⌝ ∗ outM.view.loc (c : Thread nD τ) ↦{fullShare} (f : Buf (Elt F) (outM.view.loc (c : Thread nD τ))))
/-- What the tiles are computed with. -/
def work (D : Dev nD → Prop) : sProp 𝕄 := iprop(metaPts c ∗ wPts Wt c ∗ outPts X Wt c D)

theorem off_org (o : Dev nD) : k0_off1 (BitVec.ofNat 32 o.val) = ![128 * o.val, 0] := by revert o; decide
theorem chk_org (o : Dev nD) : k0_chk3 (BitVec.ofNat 32 o.val) := by unfold k0_chk3; rw [off_org]; revert o; decide

/-- The rows of a block of the output. -/
abbrev rowRect (v : Elt F .i32) (h : k0_chk3 v) : Rect S4096x256 := Rect.unit (s := S4096x256) (k0_off1 v) S128x256.size (k0_off1_inb v h)

theorem row_write (v : Elt F .i32) (h : k0_chk3 v) (o : Dev nD) (hv : k0_off1 v = ![128 * o.val, 0]) (f : S4096x256.Idx → Elt F .f32) (t : S128x256.Idx → Elt F .f32) (i : S4096x256.Idx) :
    (outM.access (rowRect (F := F) v h)).write (Elt F) f t Finset.univ i = if blkOf i = o then t (inBlk i) else f i := by
  have hemb : ∀ y : S128x256.Idx, ((rowRect (F := F) v h).emb y 0).val = 128 * o.val + (y 0).val ∧ ((rowRect (F := F) v h).emb y 1).val = (y 1).val := fun y => by
    have h0 : k0_off1 v 0 = 128 * o.val := by rw [hv]; rfl
    have h1 : k0_off1 v 1 = 0 := by rw [hv]; rfl
    constructor
    · show k0_off1 v 0 + 1 * (y 0).val = _; omega
    · show k0_off1 v 1 + 1 * (y 1).val = _; omega
  by_cases hi : blkOf i = o
  · rw [if_pos hi]
    have he : (outM.access (rowRect (F := F) v h)).emb (inBlk i) = i := by
      have hd : (i 0).val / 128 = o.val := congrArg Fin.val hi
      have hdm : (i 0).val / 128 = o.val → 128 * o.val + (i 0).val % 128 = (i 0).val := fun h => by omega
      funext a; apply Fin.ext
      match a with
      | ⟨0, _⟩ => exact (hemb (inBlk i)).1.trans (hdm hd)
      | ⟨1, _⟩ => exact (hemb (inBlk i)).2
    have hw := View.write_emb_of_mem (v := outM.access (rowRect (F := F) v h)) f t (Finset.mem_univ (inBlk i))
    rw [he] at hw
    exact hw
  · rw [if_neg hi]
    refine View.write_of_not_mem (v := outM.access (rowRect (F := F) v h)) f t Finset.univ fun hm => hi ?_
    obtain ⟨y, -, rfl⟩ := Finset.mem_map.mp hm
    apply Fin.ext
    have hy : (y 0).val < 128 := (y 0).isLt
    have h0 := (hemb y).1
    show ((rowRect (F := F) v h).emb y 0).val / 128 = o.val
    omega

theorem run_store (v : Elt F .i32) (h : k0_chk3 v) (o : Dev nD) (hv : k0_off1 v = ![128 * o.val, 0]) (pay : Vec F S4096x256 .bf16 → FVec F S128x256 .f32)
    (hp : pay (Wt c) = k0_pay1 (X o) (Wt c)) (D D' : Dev nD → Prop) (hD : ∀ o', D' o' → o' = o ∨ D o') (Kt : PUnit → sProp 𝕄) :
    iprop(wPts Wt c ∗ outPts X Wt c D) ⊢ iprop((wPts Wt c ∗ outPts X Wt c D' -∗ Kt ⟨⟩) -∗ Run c (storeOp v h pay) Kt) := by
  have hw : (wM.view.readAt (Elt F) (Rect.unit (s := S4096x256) ![0, 0] S4096x256.size inb_S4096x256_S4096x256_0_0).toLoadRect (Wt c)) = Wt c :=
    Memref.readAt_unit_zero (Elt F) cc0_stg2_0 (by decide) _ _
  unfold Run storeOp wPts outPts
  iintro ⟨Hw, %f, %hf, Hout⟩ Hk
  iapply (wp_load 𝒱₀ (c : Thread nD τ) none Set.univ (Finset.subset_univ _)) $$ Hw
  iintro Hw
  iapply (wp_load 𝒱₀ (c : Thread nD τ) none Set.univ (Finset.subset_univ _)) $$ Hout
  iintro Hout
  iapply (wp_store 𝒱₀ (c : Thread nD τ) none Set.univ (m := outM) (r := rowRect (F := F) v h) (Finset.subset_univ _)) $$ Hout
  iintro Hout
  rw [wp_ret]; imodintro
  iapply Hk
  isplitl [Hw]; · iexact Hw
  iexists ((outM.access (rowRect (F := F) v h)).write (Elt F) f (pay (Wt c)) Finset.univ)
  isplitr
  · ipureintro
    intro i hi
    rw [row_write v h o hv]
    by_cases hb : blkOf i = o
    · rw [if_pos hb, hp]; unfold outOf; rw [hb]
    · rw [if_neg hb]; exact hf i ((hD _ hi).resolve_left hb)
  rw [hw]
  iexact Hout

theorem pay_slot (B : Blk F) (w : Wts F) : k0_pay2 (slotVal B) w = k0_pay1 B w := by
  have h1 : shapeCast S2x64x4096 (slotVal B) shapeCasts_S1x2x64x4096_S2x64x4096 = shapeCast S2x64x4096 B shapeCasts_S2x64x4096_S2x64x4096 := by
    rw [shapeCast_self]
    funext j
    rw [eq_ix3 j]
    exact shapeCast_1abc_abc_apply _ _ _ _ _
  unfold k0_pay2 k0_pay1
  simp only [h1]

/-! ## The own block's tile -/

/-- The own block, whole, at a share. -/
def xAll (q : PosShare TreeShare) : sProp 𝕄 := xM.view.loc (c : Thread nD τ) ↦{q} (X c : Buf (Elt F) (xM.view.loc (c : Thread nD τ)))

theorem run_own (v : Elt F .i32) (h : k0_chk3 v) (hv : k0_off1 v = ![128 * c.val, 0]) (q : PosShare TreeShare) (D D' : Dev nD → Prop)
    (hD : ∀ o', D' o' → o' = c ∨ D o') (Kt : PUnit → sProp 𝕄) :
    iprop(xAll X c q ∗ work X Wt c D) ⊢ iprop((xAll X c q ∗ work X Wt c D' -∗ Kt ⟨⟩) -∗ Run c (ownOp v h) Kt) := by
  have hx : (xM.view.readAt (Elt F) (Rect.unit (s := S2x64x4096) ![0, 0, 0] S2x64x4096.size inb_S2x64x4096_S2x64x4096_0_0_0).toLoadRect (X c)) = X c :=
    Memref.readAt_unit_zero (Elt F) cc0_stg1_0 (by decide) _ _
  unfold ownOp xAll work
  iintro ⟨Hx, Hm, Hw, Hout⟩ Hk
  iapply (wp_load 𝒱₀ (c : Thread nD τ) none Set.univ (Finset.subset_univ _)) $$ Hx
  iintro Hx
  rw [hx]
  iapply (run_store X Wt c v h c hv (k0_pay1 (X c)) rfl D D' hD Kt) $$ [Hw Hout]
  · isplitl [Hw] <;> iassumption
  iintro ⟨Hw, Hout⟩
  iapply Hk
  isplitl [Hx]; · iexact Hx
  isplitl [Hm]; · iexact Hm
  isplitl [Hw] <;> iassumption

/-! ## The tile of a block that arrived -/

theorem meta_org (s : ℕ) (hs : s < d.hops) : metaDev c (orgIx d s).val = org d c s := by
  have key : ∀ n, n = d.base + s → metaDev c n = org d c s := fun n hn => by
    unfold metaDev
    cases d
    · have h : s < 16 := hs
      have e : n = s + 3 := by rw [hn]; show 3 + s = s + 3; omega
      rw [e, if_neg (by omega), if_neg (by omega), if_neg (by omega), if_pos (by omega)]
      congr 1
    · have h : s < 15 := hs
      have e : n = s + 19 := by rw [hn]; show 19 + s = s + 19; omega
      rw [e, if_neg (by omega), if_neg (by omega), if_neg (by omega), if_neg (by omega)]
      congr 1
  refine key _ (Nat.mod_eq_of_lt ?_)
  cases d
  · have h : s < 16 := hs
    show 3 + s < 34; omega
  · have h : s < 15 := hs
    show 19 + s < 34; omega

theorem slot_join (k : Fin 4) (q : PosShare TreeShare) (B : Blk F) :
    iprop(bufPts d c k 0 q B ∗ bufPts d c k 1 q B) ⊣⊢ ((bufM d).view.loc (c : Thread nD τ) ↦[segSet d c (k, 0) ∪ segSet d c (k, 1)]{q} bufOf d c B : sProp 𝕄) := by
  have h : Disjoint (segSet d c (k, 0)) (segSet d c (k, 1)) := seg_disjoint d c (by simp)
  exact (pointsTo_union h).symm

theorem run_tile (s : ℕ) (hs : s < d.hops) (q : PosShare TreeShare) (D D' : Dev nD → Prop) (hD : ∀ o', D' o' → o' = org d c s ∨ D o') (Kt : PUnit → sProp 𝕄) :
    iprop(bufPts d c (slotOf s) 0 q (X (org d c s)) ∗ bufPts d c (slotOf s) 1 q (X (org d c s)) ∗ work X Wt c D)
      ⊢ iprop((bufPts d c (slotOf s) 0 q (X (org d c s)) ∗ bufPts d c (slotOf s) 1 q (X (org d c s)) ∗ work X Wt c D' -∗ Kt ⟨⟩) -∗ Run c (tileOp d s) Kt) := by
  unfold tileOp work Run
  rw [wp_bind]
  iintro ⟨H0, H1, Hm, Hw, Hout⟩ Hk
  iapply (run_word c (orgIx d s)) $$ Hm
  iintro Hm
  rw [meta_org d c s hs]
  iapply (wp_assume 𝒱₀ (c : Thread nD τ) none Set.univ (chk_org (org d c s)))
  ihave H := (slot_join d c (slotOf s) q (X (org d c s))).1 $$ [H0 H1]
  · isplitl [H0] <;> iassumption
  iapply (wp_load 𝒱₀ (c : Thread nD τ) none Set.univ (slot_sub d c (slotOf s))) $$ H
  iintro H
  rw [slot_read]
  iapply (run_store X Wt c _ (chk_org (org d c s)) (org d c s) (off_org _) (k0_pay2 (slotVal (X (org d c s)))) (pay_slot _ _) D D' hD Kt) $$ [Hw Hout]
  · isplitl [Hw] <;> iassumption
  iintro ⟨Hw, Hout⟩
  ihave H := (slot_join d c (slotOf s) q (X (org d c s))).2 $$ H
  icases H with ⟨H0, H1⟩
  iapply Hk
  isplitl [H0]; · iexact H0
  isplitl [H1]; · iexact H1
  isplitl [Hm]; · iexact Hm
  isplitl [Hw] <;> iassumption

end Cert.KernelIdeal.Ag

end
-- ==== Proof.Step.lean ====
/- A step: each direction's arrivals and forwarding, its tile, its departures and its credit. -/
module

public import proofs.«01_k».proof.Proof.Tile

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Cert.KernelIdeal.Gen

variable {F : FTy → Type} [FloatOps F]

local notation "𝕄" => MT nD τ sig ℕ (Elt F) ℕ UU ℕ

variable (X : Dev nD → Blk F) (Wt : Dev nD → Wts F) (K : GSem nD τ sig → ℕ) (J : Key → ℕ)
variable (d : Dir) (c : Dev nD)

/-- The share of an arrived segment that stays while the rest is forwarded. -/
def rq (d : Dir) (s : ℕ) : PosShare TreeShare := if s + 1 < d.hops then fullShare.right else fullShare
/-- How many credits have been waited for before step `s`. -/
def cN (d : Dir) (s : ℕ) : ℕ := min (s - 3) (d.hops - 4)
/-- How many credits have been given back before step `s`. -/
def gN (d : Dir) (s : ℕ) : ℕ := min (s - 1) (d.hops - 4)
/-- How many transfers have been sent before step `s`. -/
def eN (d : Dir) (s : ℕ) : ℕ := min (2 * s + 2) (2 * d.hops)

/-- What is held for the arrivals from step `s` on. -/
def arrSt (s : ℕ) : sProp 𝕄 :=
  iprop(win (posR d c) (2 * s) ∗ todo (recvCred d c) (2 * s) (2 * d.hops) ∗ log (rchR d c) (2 * s + 8)
    ∗ todo (sendTok d c) (2 * s + 2) (2 * d.hops) ∗ credWait d c (cN d s) ∗ todo (creditCred d c) (cN d s) (d.hops - 4)
    ∗ known d (nxt d c) (2 * cN d s + 8))
/-- What is held for the departures from step `s` on. -/
def depSt (s : ℕ) : sProp 𝕄 :=
  iprop(win (posS d c) (2 * s) ∗ todo (sendCred d c) (2 * s) (eN d s) ∗ log (rchS d c) (2 * s + 8))
/-- The rest of the block that arrived last. -/
def halves (s : ℕ) : sProp 𝕄 := iprop(bufPts d c (slotOf s) 0 (rq d s) (X (org d c s)) ∗ bufPts d c (slotOf s) 1 (rq d s) (X (org d c s)))
/-- What has come back of the own block, and the block in hand. -/
def hand : ℕ → sProp 𝕄
  | 0 => iprop(emp)
  | s + 1 => iprop(halves X d c s ∗ xPts X c 0 (xq d) ∗ xPts X c 1 (xq d))
/-- What is held for the credits from step `s` on. -/
def credSt (s : ℕ) : sProp 𝕄 :=
  iprop(todo (creditTok d c) (gN d s) (d.hops - 4) ∗ win (reader d c) (2 * gN d s) ∗ log (relAt d c) (2 * gN d s + 8)
    ∗ reached ER (creditCell (frm d c) d) 0 ∗ hand X d c s ∗ todo (segAt d c) (2 * (d.hops - 4)) (2 * (s - 1)))

theorem owes_eq {O O' : CellTallies nD τ sig ℕ} (h : O = O') : owesE c O ⊢ (owesE c O' : sProp 𝕄) := Entails.of_eq (by rw [h])
theorem nat_eq (P : ℕ → sProp 𝕄) {a b : ℕ} (h : a = b) : P a ⊢ P b := Entails.of_eq (by rw [h])

theorem run_pure (Kt : PUnit → sProp 𝕄) : Kt ⟨⟩ ⊢ Run (F := F) c (pure ⟨⟩) Kt := by
  show _ ⊢ wp _ _ _ (Prog.ret _) _
  rw [wp_ret]; iintro H; imodintro; iexact H

/-! ## Arrivals -/

theorem fwd_eq (n : Dev nD) (s : ℕ) : (fwd d n s : Pg F PUnit)
    = ((if s + 1 < d.hops ∧ 4 ≤ s + 1 then semWaitWord (cSem d) 1#32 else pure ⟨⟩) >>= fun _ => fwdSeg d n s 0 >>= fun _ => fwdSeg d n s 1) := by
  unfold fwd; split_ifs <;> rfl

theorem src_zero (g : Fin 2) : srcPts X d c 0 g ⊢ (xPts X c g (xq d) : sProp 𝕄) := BI.Entails.refl _
theorem src_succ (s : ℕ) (g : Fin 2) : srcPts X d c (s + 1) g ⊢ (bufPts d c (slotOf s) g fullShare.left (X (org d c s)) : sProp 𝕄) := BI.Entails.refl _

theorem keep_half (k : Fin 4) (g : Fin 2) (B : Blk F) :
    bufPts d c k g fullShare B ⊢ (iprop(bufPts d c k g fullShare.left B ∗ bufPts d c k g fullShare.right B) : sProp 𝕄) :=
  (pointsTo_share (PosShare.mem_left_op_right fullShare)).1
theorem join_half (k : Fin 4) (g : Fin 2) (B : Blk F) :
    iprop(bufPts d c k g fullShare.left B ∗ bufPts d c k g fullShare.right B) ⊢ (bufPts d c k g fullShare B : sProp 𝕄) :=
  (pointsTo_share (PosShare.mem_left_op_right fullShare)).2

theorem run_fwdSeg (s : ℕ) (g : Fin 2) (hs : s < d.hops) (t : ℕ) (ht : t = 2 * s + g.val) (O : CellTallies nD τ sig ℕ) (hO : Above (2 * s + 2) O)
    (m : ℕ) (hm : s + 1 < d.hops → 2 * s + 4 ≤ m) (Kt : PUnit → sProp 𝕄) :
    iprop(ctx X K J ∗ owesE c (O + sendsO d c (t + 2)) ∗ win (posR d c) t ∗ todo (recvCred d c) t (2 * d.hops) ∗ log (rchR d c) (t + 8)
        ∗ todo (sendTok d c) (t + 2) (2 * d.hops) ∗ known d (nxt d c) m ∗ log (rchS d c) (2 * s + 8)
        ∗ todo (sendCred d c) (2 * s) (min (t + 2) (2 * d.hops)))
      ⊢ iprop((owesE c (O + sendsO d c (t + 1 + 2)) ∗ win (posR d c) (t + 1) ∗ todo (recvCred d c) (t + 1) (2 * d.hops) ∗ log (rchR d c) (t + 1 + 8)
            ∗ todo (sendTok d c) (t + 1 + 2) (2 * d.hops) ∗ todo (sendCred d c) (2 * s) (min (t + 1 + 2) (2 * d.hops))
            ∗ bufPts d c (slotOf s) g (rq d s) (X (org d c s)) -∗ Kt ⟨⟩)
          -∗ Run c (fwdSeg d (nxt d c) s g) Kt) := by
  subst ht
  have hg := g.isLt
  have habove : Above (2 * s + 2) (O + sendsO d c (2 * s + g.val + 2)) := above_add hO (above_sendsO d c _ _ (by omega))
  have e : 2 * (s + 1) + g.val = 2 * s + g.val + 2 := by omega
  have e' : 2 * s + g.val + 1 + 2 = 2 * s + g.val + 2 + 1 := by omega
  unfold fwdSeg
  unfold Run
  rw [wp_bind]
  iintro ⟨#Hc, HO, Hpos, Hcr, #Hlog, Htok, #Hkn, #HrS, Hsc⟩ Hk
  iapply (run_recv X K J d c s g hs _ habove) $$ [HO Hpos Hcr]
  · isplitr; · iexact Hc
    isplitl [HO]; · iexact HO
    isplitl [Hpos]; · iexact Hpos
    isplitl [Hcr]; · iexact Hcr
    iexact Hlog
  iintro ⟨HO, Hpos, Hcr, #Hlog', Hbuf⟩
  by_cases h : s + 1 < d.hops
  · rw [if_pos h]
    have hsend := run_send X K J d c (s + 1) g h O m (2 * s + 8) (by have := hm h; omega) (by omega) Kt
    rw [e] at hsend
    have hsrc : bufPts d c (slotOf s) g fullShare.left (X (org d c s)) ⊢ (srcPts X d c (s + 1) g : sProp 𝕄) := BI.Entails.refl _
    ihave Hbuf := (keep_half d c (slotOf s) g (X (org d c s))) $$ Hbuf
    icases Hbuf with ⟨HbL, HbR⟩
    iapply hsend $$ [HO HbL Htok]
    · isplitr; · iexact Hc
      isplitl [HO]; · iexact HO
      isplitl [HbL]; · iapply hsrc; iexact HbL
      isplitl [Htok]; · iexact Htok
      isplitr; · iexact Hkn
      iexact HrS
    iintro ⟨HO, Htok, Hnew⟩
    iapply Hk
    rw [e']
    isplitl [HO]; · iexact HO
    isplitl [Hpos]; · iexact Hpos
    isplitl [Hcr]; · iexact Hcr
    isplitr; · iexact Hlog'
    isplitl [Htok]; · iexact Htok
    isplitl [Hsc Hnew]
    · have e1 : min (2 * s + g.val + 2 + 1) (2 * d.hops) = min (2 * s + g.val + 2) (2 * d.hops) + 1 := by omega
      have e2 : min (2 * s + g.val + 2) (2 * d.hops) = 2 * s + g.val + 2 := by omega
      rw [e1, e2]
      iapply (todo_push (sendCred d c) (show 2 * s ≤ 2 * s + g.val + 2 by omega))
      isplitl [Hnew] <;> iassumption
    rw [show rq d s = fullShare.right from if_pos h]
    iexact HbR
  · rw [if_neg h]
    have hz : sendsO d c (2 * s + g.val + 2) = sendsO d c (2 * s + g.val + 1 + 2) := by rw [sendsO_none d c _ (by omega), sendsO_none d c _ (by omega)]
    have hmin : min (2 * s + g.val + 2) (2 * d.hops) = min (2 * s + g.val + 1 + 2) (2 * d.hops) := by omega
    have htok : todo (F := F) (sendTok d c) (2 * s + g.val + 2) (2 * d.hops) = todo (sendTok d c) (2 * s + g.val + 1 + 2) (2 * d.hops) := by
      rw [todo_none _ (by omega), todo_none _ (by omega)]
    ihave HO := (owes_eq (F := F) c (congrArg (O + ·) hz)) $$ HO
    ihave Hsc := (nat_eq (fun n => todo (sendCred d c) (2 * s) n) hmin) $$ Hsc
    ihave Htok := (Entails.of_eq htok) $$ Htok
    iapply (run_pure c Kt)
    iapply Hk
    isplitl [HO]; · iexact HO
    isplitl [Hpos]; · iexact Hpos
    isplitl [Hcr]; · iexact Hcr
    isplitr; · iexact Hlog'
    isplitl [Htok]; · iexact Htok
    isplitl [Hsc]; · iexact Hsc
    rw [show rq d s = fullShare from if_neg h]
    iexact Hbuf

/-- The credit a forwarding waits for. -/
theorem run_cwaitStep (s : ℕ) (hs : s < d.hops) (O : CellTallies nD τ sig ℕ) (hO : Above (2 * s + 2) O) (Kt : PUnit → sProp 𝕄) :
    iprop(ctx X K J ∗ owesE c O ∗ credWait d c (cN d s) ∗ todo (creditCred d c) (cN d s) (d.hops - 4) ∗ known d (nxt d c) (2 * cN d s + 8))
      ⊢ iprop((owesE c O ∗ credWait d c (cN d (s + 1)) ∗ todo (creditCred d c) (cN d (s + 1)) (d.hops - 4) ∗ known d (nxt d c) (2 * cN d (s + 1) + 8) -∗ Kt ⟨⟩)
          -∗ Run c (if s + 1 < d.hops ∧ 4 ≤ s + 1 then semWaitWord (cSem d) 1#32 else pure ⟨⟩) Kt) := by
  have h4 : 4 < d.hops := by cases d <;> decide
  by_cases h : s + 1 < d.hops ∧ 4 ≤ s + 1
  · have e0 : cN d s = s - 3 := by unfold cN; omega
    have e1 : cN d (s + 1) = s - 3 + 1 := by unfold cN; omega
    have e2 : 2 * (s - 3 + 1) + 8 = 2 * (s - 3) + 10 := by omega
    rw [if_pos h, e0, e1, e2]
    iintro ⟨#Hc, HO, Hw, Hcr, -⟩ Hk
    iapply (run_cwait X K J d c (s - 3) (by omega) O (above_mono (by omega) hO) Kt) $$ [HO Hw Hcr]
    · isplitr; · iexact Hc
      isplitl [HO]; · iexact HO
      isplitl [Hw] <;> iassumption
    iexact Hk
  · have e1 : cN d (s + 1) = cN d s := by unfold cN; omega
    rw [if_neg h, e1]
    iintro ⟨-, HO, Hw, Hcr, Hkn⟩ Hk
    iapply (run_pure c Kt)
    iapply Hk
    isplitl [HO]; · iexact HO
    isplitl [Hw]; · iexact Hw
    isplitl [Hcr] <;> iassumption

theorem run_fwd (s : ℕ) (hs : s < d.hops) (O : CellTallies nD τ sig ℕ) (hO : Above (2 * s + 2) O) (Kt : PUnit → sProp 𝕄) :
    iprop(ctx X K J ∗ owesE c (O + sendsO d c (2 * s + 2)) ∗ arrSt d c s ∗ todo (sendCred d c) (2 * s) (eN d s) ∗ log (rchS d c) (2 * s + 8))
      ⊢ iprop((owesE c (O + sendsO d c (2 * (s + 1) + 2)) ∗ arrSt d c (s + 1) ∗ todo (sendCred d c) (2 * s) (eN d (s + 1)) ∗ halves X d c s -∗ Kt ⟨⟩)
          -∗ Run c (fwd d (nxt d c) s) Kt) := by
  have h4 : 4 < d.hops := by cases d <;> decide
  have habove : Above (2 * s + 2) (O + sendsO d c (2 * s + 2)) := above_add hO (above_sendsO d c _ _ (by omega))
  have hm : s + 1 < d.hops → 2 * s + 4 ≤ 2 * cN d (s + 1) + 8 := fun h => by unfold cN; omega
  rw [fwd_eq]
  unfold arrSt Run halves eN
  rw [wp_bind, show (2 * (s + 1) : ℕ) = 2 * s + 1 + 1 by omega]
  iintro ⟨#Hc, HO, ⟨Hpos, Hcr, #Hlog, Htok, Hw, Hcc, #Hkn⟩, Hsc, #HrS⟩ Hk
  iapply (run_cwaitStep X K J d c s hs _ habove) $$ [HO Hw Hcc]
  · isplitr; · iexact Hc
    isplitl [HO]; · iexact HO
    isplitl [Hw]; · iexact Hw
    isplitl [Hcc]; · iexact Hcc
    iexact Hkn
  iintro ⟨HO, Hw, Hcc, #Hkn'⟩
  rw [wp_bind]
  iapply (run_fwdSeg X K J d c s 0 hs (2 * s) rfl O hO _ hm) $$ [HO Hpos Hcr Htok Hsc]
  · isplitr; · iexact Hc
    isplitl [HO]; · iexact HO
    isplitl [Hpos]; · iexact Hpos
    isplitl [Hcr]; · iexact Hcr
    isplitr; · iexact Hlog
    isplitl [Htok]; · iexact Htok
    isplitr; · iexact Hkn'
    isplitr; · iexact HrS
    iexact Hsc
  iintro ⟨HO, Hpos, Hcr, #Hlog1, Htok, Hsc, Hb0⟩
  iapply (run_fwdSeg X K J d c s 1 hs (2 * s + 1) rfl O hO _ hm) $$ [HO Hpos Hcr Htok Hsc]
  · isplitr; · iexact Hc
    isplitl [HO]; · iexact HO
    isplitl [Hpos]; · iexact Hpos
    isplitl [Hcr]; · iexact Hcr
    isplitr; · iexact Hlog1
    isplitl [Htok]; · iexact Htok
    isplitr; · iexact Hkn'
    isplitr; · iexact HrS
    iexact Hsc
  iintro ⟨HO, Hpos, Hcr, #Hlog2, Htok, Hsc, Hb1⟩
  iapply Hk
  isplitl [HO]; · iexact HO
  isplitl [Hpos Hcr Htok Hw Hcc]
  · isplitl [Hpos]; · iexact Hpos
    isplitl [Hcr]; · iexact Hcr
    isplitr; · iexact Hlog2
    isplitl [Htok]; · iexact Htok
    isplitl [Hw]; · iexact Hw
    isplitl [Hcc]; · iexact Hcc
    iexact Hkn'
  isplitl [Hsc]; · iexact Hsc
  isplitl [Hb0] <;> iassumption

/-! ## Departures -/

theorem run_sentAt (s : ℕ) (g : Fin 2) (hs : s < d.hops) (t : ℕ) (ht : t = 2 * s + g.val) (b : ℕ) (hb : t < b) (O : CellTallies nD τ sig ℕ) (hO : Above (2 * s + 2) O)
    (Kt : PUnit → sProp 𝕄) :
    iprop(ctx X K J ∗ owesE c O ∗ win (posS d c) t ∗ todo (sendCred d c) t b ∗ log (rchS d c) (t + 8))
      ⊢ iprop((owesE c O ∗ win (posS d c) (t + 1) ∗ todo (sendCred d c) (t + 1) b ∗ log (rchS d c) (t + 1 + 8) ∗ srcPts X d c s g -∗ Kt ⟨⟩)
          -∗ Run c (sentOp d s g) Kt) := by
  subst ht
  exact run_sent X K J d c s g hs b hb O hO Kt

/-! ## Credits -/

theorem any_of (k : Fin 4) (g : Fin 2) (B : Blk F) : bufPts d c k g fullShare B ⊢ (anySeg d c k g : sProp 𝕄) := by
  exact exists_intro (Φ := fun f => (bufSeg d k g).view.loc (c : Thread nD τ) ↦[(bufSeg d k g).view.set]{fullShare} f) (bufOf d c B)
theorem segAt_at (s : ℕ) (g : Fin 2) : segAt d c (2 * s + g.val) = (anySeg d c (slotOf s) g : sProp 𝕄) := by
  unfold segAt; rw [flat_div, flat_g]

/-- A forwarded block once it has left: the segments are whole again. -/
theorem free_pair (s : ℕ) (hs : s + 1 < d.hops) :
    iprop(srcPts X d c (s + 1) 0 ∗ srcPts X d c (s + 1) 1 ∗ halves X d c s) ⊢ (iprop(anySeg d c (slotOf s) 0 ∗ anySeg d c (slotOf s) 1) : sProp 𝕄) := by
  unfold halves
  rw [show rq d s = fullShare.right from if_pos hs]
  iintro ⟨H0, H1, G0, G1⟩
  isplitl [H0 G0]
  · iapply (any_of d c (slotOf s) 0 (X (org d c s)))
    iapply (join_half d c (slotOf s) 0 (X (org d c s)))
    isplitl [H0]; · iapply (src_succ X d c s 0); iexact H0
    iexact G0
  · iapply (any_of d c (slotOf s) 1 (X (org d c s)))
    iapply (join_half d c (slotOf s) 1 (X (org d c s)))
    isplitl [H1]; · iapply (src_succ X d c s 1); iexact H1
    iexact G1

theorem pair_release (s : ℕ) :
    iprop(ctx X K J ∗ win (reader d c) (2 * s) ∗ log (relAt d c) (2 * s + 8) ∗ anySeg d c (slotOf s) 0 ∗ anySeg d c (slotOf s) 1)
      ⊢ (|={Set.univ}=> (win (reader d c) (2 * s + 2) ∗ log (relAt d c) (2 * s + 10)) : sProp 𝕄) := by
  have r0 := seg_release X K J d c s 0
  have r1 := seg_release X K J d c s 1
  rw [show 2 * s + (0 : Fin 2).val = 2 * s from rfl] at r0
  rw [show 2 * s + (1 : Fin 2).val = 2 * s + 1 from rfl] at r1
  rw [show 2 * s + 10 = 2 * s + 1 + 1 + 8 by omega]
  iintro ⟨#Hc, Hw, #Hl, H0, H1⟩
  imod r0 $$ [Hw H0] with ⟨Hw, #Hl1⟩
  · isplitr; · iexact Hc
    isplitl [Hw]; · iexact Hw
    isplitl [H0] <;> iassumption
  imod r1 $$ [Hw H1] with ⟨Hw, #Hl2⟩
  · isplitr; · iexact Hc
    isplitl [Hw]; · iexact Hw
    isplitl [H1] <;> iassumption
  imodintro
  isplitl [Hw]; · iexact Hw
  iexact Hl2

theorem run_credit (s : ℕ) (hs : s < d.hops) (O : CellTallies nD τ sig ℕ) (Kt : PUnit → sProp 𝕄) :
    iprop(ctx X K J ∗ owesE c (O + creditsO d c (gN d s)) ∗ credSt X d c s ∗ srcPts X d c s 0 ∗ srcPts X d c s 1 ∗ log (rchR d c) (2 * s + 8) ∗ halves X d c s)
      ⊢ iprop((owesE c (O + creditsO d c (gN d (s + 1))) ∗ credSt X d c (s + 1) -∗ Kt ⟨⟩) -∗ Run c (creditOp d (frm d c) s) Kt) := by
  have h4 : 4 < d.hops := by cases d <;> decide
  unfold creditOp credSt
  cases s with
  | zero =>
    have e1 : gN d (0 + 1) = gN d 0 := by unfold gN; omega
    rw [if_neg (by omega), e1]
    iintro ⟨-, HO, ⟨Htok, Hw, Hl, Hre, Hh, Hk2⟩, H0, H1, -, Hhv⟩ Hk
    iapply (run_pure c Kt)
    iapply Hk
    isplitl [HO]; · iexact HO
    isplitl [Htok]; · iexact Htok
    isplitl [Hw]; · iexact Hw
    isplitl [Hl]; · iexact Hl
    isplitl [Hre]; · iexact Hre
    isplitl [Hhv H0 H1]
    · unfold hand
      isplitl [Hhv]; · iexact Hhv
      isplitl [H0]; · iapply (src_zero X d c 0); iexact H0
      iapply (src_zero X d c 1); iexact H1
    iexact Hk2
  | succ s =>
    by_cases h : s + 1 + 3 < d.hops
    · have e0 : gN d (s + 1) = s := by unfold gN; omega
      have e1 : gN d (s + 1 + 1) = s + 1 := by unfold gN; omega
      have hk : todo (F := F) (segAt d c) (2 * (d.hops - 4)) (2 * (s + 1 + 1 - 1)) = todo (segAt d c) (2 * (d.hops - 4)) (2 * (s + 1 - 1)) := by
        rw [todo_none _ (by omega), todo_none _ (by omega)]
      rw [if_pos ⟨by omega, h⟩, e0, e1, hk]
      unfold hand
      iintro ⟨#Hc, HO, ⟨Htok, Hw, #Hl, #Hre, ⟨Hhv', Hx0, Hx1⟩, Hk2⟩, H0, H1, #HrR, Hhv⟩ Hk
      ihave Hf := (free_pair X d c s (by omega)) $$ [H0 H1 Hhv']
      · isplitl [H0]; · iexact H0
        isplitl [H1] <;> iassumption
      icases Hf with ⟨Hf0, Hf1⟩
      iapply fupd_wp
      imod (pair_release X K J d c s) $$ [Hw Hf0 Hf1] with ⟨Hw, #Hl'⟩
      · isplitr; · iexact Hc
        isplitl [Hw]; · iexact Hw
        isplitr; · iexact Hl
        isplitl [Hf0] <;> iassumption
      imodintro
      iapply (run_csignal X K J d c s (by omega) O) $$ [HO Htok]
      · isplitr; · iexact Hc
        isplitl [HO]; · iexact HO
        isplitl [Htok]; · iexact Htok
        isplitr
        · iapply (known_intro d c (a := 2 * (s + 1) + 8) (p := 2 * s + 10) (by omega) (by omega))
          isplitr; · iexact Hl'
          iexact HrR
        iexact Hre
      iintro ⟨HO, Htok⟩
      iapply Hk
      rw [show 2 * (s + 1) = 2 * s + 2 by omega, show 2 * s + 2 + 8 = 2 * s + 10 by omega]
      isplitl [HO]; · iexact HO
      isplitl [Htok]; · iexact Htok
      isplitl [Hw]; · iexact Hw
      isplitr; · iexact Hl'
      isplitr; · iexact Hre
      isplitl [Hhv Hx0 Hx1]
      · isplitl [Hhv]; · iexact Hhv
        isplitl [Hx0] <;> iassumption
      iexact Hk2
    · have e1 : gN d (s + 1 + 1) = gN d (s + 1) := by unfold gN; omega
      have p0 : 2 * (d.hops - 4) ≤ 2 * s := by omega
      rw [if_neg (fun h' => h h'.2), e1]
      rw [show 2 * (s + 1 + 1 - 1) = 2 * s + 1 + 1 by omega, show 2 * (s + 1 - 1) = 2 * s by omega]
      unfold hand
      iintro ⟨#Hc, HO, ⟨Htok, Hw, #Hl, #Hre, ⟨Hhv', Hx0, Hx1⟩, Hk2⟩, H0, H1, -, Hhv⟩ Hk
      ihave Hf := (free_pair X d c s (by omega)) $$ [H0 H1 Hhv']
      · isplitl [H0]; · iexact H0
        isplitl [H1] <;> iassumption
      icases Hf with ⟨Hf0, Hf1⟩
      iapply (run_pure c Kt)
      iapply Hk
      isplitl [HO]; · iexact HO
      isplitl [Htok]; · iexact Htok
      isplitl [Hw]; · iexact Hw
      isplitr; · iexact Hl
      isplitr; · iexact Hre
      isplitl [Hhv Hx0 Hx1]
      · isplitl [Hhv]; · iexact Hhv
        isplitl [Hx0] <;> iassumption
      iapply (todo_push (segAt d c) (show 2 * (d.hops - 4) ≤ 2 * s + 1 by omega))
      isplitl [Hf1]; · iapply (Entails.of_eq (segAt_at (F := F) d c s 1).symm); iexact Hf1
      iapply (todo_push (segAt d c) p0)
      isplitl [Hf0]; · iapply (Entails.of_eq (segAt_at (F := F) d c s 0).symm); iexact Hf0
      iexact Hk2

end Cert.KernelIdeal.Ag

end
-- ==== Proof.Steps.lean ====
/- The steps one after another: both directions, and at the end the longer one alone. -/
module

public import proofs.«01_k».proof.Proof.Step

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

variable (X : Dev nD → Blk F) (Wt : Dev nD → Wts F) (K : GSem nD τ sig → ℕ) (J : Key → ℕ)
variable (d : Dir) (c : Dev nD)

/-- A direction before step `s`. -/
def dirSt (s : ℕ) : sProp 𝕄 := iprop(arrSt d c s ∗ depSt d c s ∗ credSt X d c s)
/-- What a direction owes before step `s`. -/
def oweAt (s : ℕ) : CellTallies nD τ sig ℕ := sendsO d c (2 * s + 2) + creditsO d c (gN d s)

theorem above_cred (s : ℕ) : Above (2 * s + 2) (creditsO d c (gN d s)) := by
  by_cases h : d.hops - 4 ≤ s - 1
  · rw [creditsO_none d c _ (by unfold gN; omega)]; exact above_zero _
  · exact above_creditsO d c _ _ (by unfold gN; omega)
theorem above_sends (s i : ℕ) (h : 2 * s + 2 ≤ i) : Above (2 * s + 2) (sendsO d c i) := above_sendsO d c _ _ (by omega)

theorem run_tileH (s : ℕ) (hs : s < d.hops) (D D' : Dev nD → Prop) (hD : ∀ o', D' o' → o' = org d c s ∨ D o') (Kt : PUnit → sProp 𝕄) :
    iprop(halves X d c s ∗ work X Wt c D) ⊢ iprop((halves X d c s ∗ work X Wt c D' -∗ Kt ⟨⟩) -∗ Run c (tileOp d s) Kt) := by
  unfold halves
  iintro ⟨⟨H0, H1⟩, Hw⟩ Hk
  iapply (run_tile X Wt d c s hs (rq d s) D D' hD Kt) $$ [H0 H1 Hw]
  · isplitl [H0]; · iexact H0
    isplitl [H1] <;> iassumption
  iintro ⟨H0, H1, Hw⟩
  iapply Hk
  isplitl [H0 H1]
  · isplitl [H0] <;> iassumption
  iexact Hw

theorem run_creditAt (s : ℕ) (hs : s < d.hops) (n : Dev nD) (hn : n = frm d c) (m : ℕ) (hm : 2 * s + 8 ≤ m) (O : CellTallies nD τ sig ℕ) (Kt : PUnit → sProp 𝕄) :
    iprop(ctx X K J ∗ owesE c (O + creditsO d c (gN d s)) ∗ credSt X d c s ∗ srcPts X d c s 0 ∗ srcPts X d c s 1 ∗ log (rchR d c) m ∗ halves X d c s)
      ⊢ iprop((owesE c (O + creditsO d c (gN d (s + 1))) ∗ credSt X d c (s + 1) -∗ Kt ⟨⟩) -∗ Run c (creditOp d n s) Kt) := by
  subst hn
  iintro ⟨Hc, HO, Hcs, H0, H1, Hl, Hh⟩
  iapply (run_credit X K J d c s hs O Kt)
  isplitl [Hc]; · iexact Hc
  isplitl [HO]; · iexact HO
  isplitl [Hcs]; · iexact Hcs
  isplitl [H0]; · iexact H0
  isplitl [H1]; · iexact H1
  isplitl [Hl]; · iapply (log_le (rchR d c) hm); iexact Hl
  iexact Hh

theorem step_both (l r : Dev nD) (s : ℕ) (h : s < 15) : (step l r s : Pg F PUnit)
    = (fwd .cw r s >>= fun _ => fwd .ccw l s >>= fun _ => tileOp .cw s >>= fun _ => tileOp .ccw s >>= fun _ =>
        sentOp .cw s 0 >>= fun _ => sentOp .ccw s 0 >>= fun _ => sentOp .cw s 1 >>= fun _ => sentOp .ccw s 1 >>= fun _ =>
        creditOp .cw l s >>= fun _ => creditOp .ccw r s) := by
  unfold step; simp only [if_pos h]
theorem step_one (l r : Dev nD) : (step l r 15 : Pg F PUnit)
    = (fwd .cw r 15 >>= fun _ => tileOp .cw 15 >>= fun _ =>
        sentOp .cw 15 0 >>= fun _ => sentOp .cw 15 1 >>= fun _ => creditOp .cw l 15 >>= fun _ => pure ⟨⟩) := rfl

theorem log_of_arr (s : ℕ) : arrSt d c s ⊢ (iprop(arrSt d c s ∗ □ log (rchR d c) (2 * s + 8)) : sProp 𝕄) := by
  unfold arrSt
  iintro ⟨H1, H2, #H3, H4⟩
  isplitl
  · isplitl [H1]; · iexact H1
    isplitl [H2]; · iexact H2
    isplitr; · iexact H3
    iexact H4
  imodintro
  iexact H3

theorem run_step (s : ℕ) (hs : s < 15) (D D' : Dev nD → Prop) (hD : ∀ o, D' o → o = org .ccw c s ∨ o = org .cw c s ∨ D o) (Kt : PUnit → sProp 𝕄) :
    iprop(ctx X K J ∗ owesE c (oweAt .cw c s + oweAt .ccw c s) ∗ dirSt X .cw c s ∗ dirSt X .ccw c s ∗ work X Wt c D)
      ⊢ iprop((owesE c (oweAt .cw c (s + 1) + oweAt .ccw c (s + 1)) ∗ dirSt X .cw c (s + 1) ∗ dirSt X .ccw c (s + 1) ∗ work X Wt c D' -∗ Kt ⟨⟩)
          -∗ Run c (step (nxt .ccw c) (nxt .cw c) s) Kt) := by
  have h1 : s < Dir.cw.hops := by show s < 16; omega
  have h2 : s < Dir.ccw.hops := hs
  have b1 : 2 * s + 1 < eN .cw (s + 1) := by unfold eN; omega
  have b2 : 2 * s + 1 < eN .ccw (s + 1) := by unfold eN; omega
  rw [step_both _ _ s hs]
  have a1 : Above (2 * s + 2) (creditsO .cw c (gN .cw s) + oweAt .ccw c s) :=
    above_add (above_cred .cw c s) (above_add (above_sends .ccw c s _ (Nat.le_refl _)) (above_cred .ccw c s))
  have a2 : Above (2 * s + 2) (creditsO .ccw c (gN .ccw s) + (creditsO .cw c (gN .cw s) + sendsO .cw c (2 * (s + 1) + 2))) :=
    above_add (above_cred .ccw c s) (above_add (above_cred .cw c s) (above_sends .cw c s _ (by omega)))
  have a3 : Above (2 * s + 2) (creditsO .ccw c (gN .ccw s) + (creditsO .cw c (gN .cw s) + sendsO .cw c (2 * (s + 1) + 2)) + sendsO .ccw c (2 * (s + 1) + 2)) :=
    above_add a2 (above_sends .ccw c s _ (by omega))
  have e1 : oweAt .cw c s + oweAt .ccw c s = creditsO .cw c (gN .cw s) + oweAt .ccw c s + sendsO .cw c (2 * s + 2) := by
    unfold oweAt; ac_rfl
  have e2 : creditsO .cw c (gN .cw s) + oweAt .ccw c s + sendsO .cw c (2 * (s + 1) + 2)
      = creditsO .ccw c (gN .ccw s) + (creditsO .cw c (gN .cw s) + sendsO .cw c (2 * (s + 1) + 2)) + sendsO .ccw c (2 * s + 2) := by
    unfold oweAt; ac_rfl
  have e3 : creditsO .ccw c (gN .ccw s) + (creditsO .cw c (gN .cw s) + sendsO .cw c (2 * (s + 1) + 2)) + sendsO .ccw c (2 * (s + 1) + 2)
      = creditsO .ccw c (gN .ccw s) + sendsO .cw c (2 * (s + 1) + 2) + sendsO .ccw c (2 * (s + 1) + 2) + creditsO .cw c (gN .cw s) := by ac_rfl
  have e4 : creditsO .ccw c (gN .ccw s) + sendsO .cw c (2 * (s + 1) + 2) + sendsO .ccw c (2 * (s + 1) + 2) + creditsO .cw c (gN .cw (s + 1))
      = oweAt .cw c (s + 1) + sendsO .ccw c (2 * (s + 1) + 2) + creditsO .ccw c (gN .ccw s) := by unfold oweAt; ac_rfl
  have e5 : oweAt .cw c (s + 1) + sendsO .ccw c (2 * (s + 1) + 2) + creditsO .ccw c (gN .ccw (s + 1)) = oweAt .cw c (s + 1) + oweAt .ccw c (s + 1) := by
    unfold oweAt; ac_rfl
  unfold dirSt depSt Run
  rw [wp_bind, show 2 * (s + 1) = 2 * s + 1 + 1 by omega]
  rw [show 2 * (s + 1) = 2 * s + 1 + 1 by omega] at a2 a3 e2 e3 e4 e5
  have f1 := run_fwd X K J .cw c s h1 _ a1
  have f2 := run_fwd X K J .ccw c s h2 _ a2
  rw [show 2 * (s + 1) = 2 * s + 1 + 1 by omega] at f1 f2
  iintro ⟨#Hc, HO, ⟨A1, ⟨P1, C1, #L1⟩, G1⟩, ⟨A2, ⟨P2, C2, #L2⟩, G2⟩, Hw⟩ Hk
  ihave HO := (owes_eq (F := F) c e1) $$ HO
  iapply (f1 _) $$ [HO A1 C1]
  · isplitr; · iexact Hc
    isplitl [HO]; · iexact HO
    isplitl [A1]; · iexact A1
    isplitl [C1]; · iexact C1
    iexact L1
  iintro ⟨HO, A1, C1, V1⟩
  ihave HO := (owes_eq (F := F) c e2) $$ HO
  rw [wp_bind]
  iapply (f2 _) $$ [HO A2 C2]
  · isplitr; · iexact Hc
    isplitl [HO]; · iexact HO
    isplitl [A2]; · iexact A2
    isplitl [C2]; · iexact C2
    iexact L2
  iintro ⟨HO, A2, C2, V2⟩
  ihave A1 := (log_of_arr .cw c (s + 1)) $$ A1
  icases A1 with ⟨A1, #R1⟩
  ihave A2 := (log_of_arr .ccw c (s + 1)) $$ A2
  icases A2 with ⟨A2, #R2⟩
  rw [wp_bind]
  iapply (run_tileH X Wt .cw c s h1 D (fun o => o = org .cw c s ∨ D o) (fun _ h => h)) $$ [V1 Hw]
  · isplitl [V1] <;> iassumption
  iintro ⟨V1, Hw⟩
  rw [wp_bind]
  iapply (run_tileH X Wt .ccw c s h2 (fun o => o = org .cw c s ∨ D o) D' hD) $$ [V2 Hw]
  · isplitl [V2] <;> iassumption
  iintro ⟨V2, Hw⟩
  rw [wp_bind]
  iapply (run_sentAt X K J .cw c s 0 h1 (2 * s) rfl (eN .cw (s + 1)) (by omega) _ a3) $$ [HO P1 C1]
  · isplitr; · iexact Hc
    isplitl [HO]; · iexact HO
    isplitl [P1]; · iexact P1
    isplitl [C1]; · iexact C1
    iexact L1
  iintro ⟨HO, P1, C1, #L1', S10⟩
  rw [wp_bind]
  iapply (run_sentAt X K J .ccw c s 0 h2 (2 * s) rfl (eN .ccw (s + 1)) (by omega) _ a3) $$ [HO P2 C2]
  · isplitr; · iexact Hc
    isplitl [HO]; · iexact HO
    isplitl [P2]; · iexact P2
    isplitl [C2]; · iexact C2
    iexact L2
  iintro ⟨HO, P2, C2, #L2', S20⟩
  rw [wp_bind]
  iapply (run_sentAt X K J .cw c s 1 h1 (2 * s + 1) rfl _ b1 _ a3) $$ [HO P1 C1]
  · isplitr; · iexact Hc
    isplitl [HO]; · iexact HO
    isplitl [P1]; · iexact P1
    isplitl [C1]; · iexact C1
    iexact L1'
  iintro ⟨HO, P1, C1, #L1'', S11⟩
  rw [wp_bind]
  iapply (run_sentAt X K J .ccw c s 1 h2 (2 * s + 1) rfl _ b2 _ a3) $$ [HO P2 C2]
  · isplitr; · iexact Hc
    isplitl [HO]; · iexact HO
    isplitl [P2]; · iexact P2
    isplitl [C2]; · iexact C2
    iexact L2'
  iintro ⟨HO, P2, C2, #L2'', S21⟩
  ihave HO := (owes_eq (F := F) c e3) $$ HO
  rw [wp_bind]
  iapply (run_creditAt X K J .cw c s h1 (nxt .ccw c) rfl (2 * (s + 1) + 8) (by omega)) $$ [HO G1 S10 S11 V1]
  · isplitr; · iexact Hc
    isplitl [HO]; · iexact HO
    isplitl [G1]; · iexact G1
    isplitl [S10]; · iexact S10
    isplitl [S11]; · iexact S11
    isplitr; · iexact R1
    iexact V1
  iintro ⟨HO, G1⟩
  ihave HO := (owes_eq (F := F) c e4) $$ HO
  iapply (run_creditAt X K J .ccw c s h2 (nxt .cw c) rfl (2 * (s + 1) + 8) (by omega)) $$ [HO G2 S20 S21 V2]
  · isplitr; · iexact Hc
    isplitl [HO]; · iexact HO
    isplitl [G2]; · iexact G2
    isplitl [S20]; · iexact S20
    isplitl [S21]; · iexact S21
    isplitr; · iexact R2
    iexact V2
  iintro ⟨HO, G2⟩
  ihave HO := (owes_eq (F := F) c e5) $$ HO
  iapply Hk
  isplitl [HO]; · iexact HO
  isplitl [A1 P1 C1 G1]
  · isplitl [A1]; · iexact A1
    isplitr [G1]
    · isplitl [P1]; · iexact P1
      isplitl [C1]; · iexact C1
      iexact L1''
    iexact G1
  isplitl [A2 P2 C2 G2]
  · isplitl [A2]; · iexact A2
    isplitr [G2]
    · isplitl [P2]; · iexact P2
      isplitl [C2]; · iexact C2
      iexact L2''
    iexact G2
  iexact Hw

theorem run_last (D D' : Dev nD → Prop) (hD : ∀ o, D' o → o = org .cw c 15 ∨ D o) (Kt : PUnit → sProp 𝕄) :
    iprop(ctx X K J ∗ owesE c (oweAt .cw c 15 + oweAt .ccw c 15) ∗ dirSt X .cw c 15 ∗ work X Wt c D)
      ⊢ iprop((owesE c 0 ∗ dirSt X .cw c 16 ∗ work X Wt c D' -∗ Kt ⟨⟩)
          -∗ Run c (step (nxt .ccw c) (nxt .cw c) 15) Kt) := by
  have h1 : 15 < Dir.cw.hops := by decide
  have z : ∀ n, 32 ≤ n → sendsO .cw c n = 0 := fun n hn => sendsO_none .cw c n hn
  have q1 : ∀ n, 15 ≤ n → creditsO .cw c (gN .cw n) = 0 := fun n hn => creditsO_none .cw c _ (by unfold gN; show 12 ≤ min (n - 1) 12; omega)
  have q2 : oweAt .ccw c 15 = 0 := by
    unfold oweAt
    rw [sendsO_none .ccw c _ (by decide), creditsO_none .ccw c _ (by decide), add_zero]
  have e0 : oweAt .cw c 15 + oweAt .ccw c 15 = 0 + sendsO .cw c (2 * 15 + 2) := by
    rw [q2]; unfold oweAt; rw [q1 15 (by omega), z _ (by omega)]; simp only [add_zero]
  have e1 : 0 + sendsO .cw c (2 * (15 + 1) + 2) = (0 : CellTallies nD τ sig ℕ) := by rw [z _ (by omega)]; simp only [add_zero]
  have e2 : (0 : CellTallies nD τ sig ℕ) = 0 + creditsO .cw c (gN .cw 15) := by rw [q1 15 (by omega)]; simp only [add_zero]
  have e3 : 0 + creditsO .cw c (gN .cw (15 + 1)) = (0 : CellTallies nD τ sig ℕ) := by rw [q1 _ (by omega)]; simp only [add_zero]
  have a0 : Above (2 * 15 + 2) (0 : CellTallies nD τ sig ℕ) := above_zero _
  rw [step_one]
  unfold dirSt depSt Run
  rw [wp_bind]
  iintro ⟨#Hc, HO, ⟨A1, ⟨P1, C1, #L1⟩, G1⟩, Hw⟩ Hk
  ihave HO := (owes_eq (F := F) c e0) $$ HO
  iapply (run_fwd X K J .cw c 15 h1 _ a0) $$ [HO A1 C1]
  · isplitr; · iexact Hc
    isplitl [HO]; · iexact HO
    isplitl [A1]; · iexact A1
    isplitl [C1]; · iexact C1
    iexact L1
  iintro ⟨HO, A1, C1, V1⟩
  ihave HO := (owes_eq (F := F) c e1) $$ HO
  ihave A1 := (log_of_arr .cw c (15 + 1)) $$ A1
  icases A1 with ⟨A1, #R1⟩
  rw [wp_bind]
  iapply (run_tileH X Wt .cw c 15 h1 D D' hD) $$ [V1 Hw]
  · isplitl [V1] <;> iassumption
  iintro ⟨V1, Hw⟩
  rw [wp_bind]
  iapply (run_sentAt X K J .cw c 15 0 h1 (2 * 15) rfl (eN .cw (15 + 1)) (by decide) _ a0) $$ [HO P1 C1]
  · isplitr; · iexact Hc
    isplitl [HO]; · iexact HO
    isplitl [P1]; · iexact P1
    isplitl [C1]; · iexact C1
    iexact L1
  iintro ⟨HO, P1, C1, #L1', S10⟩
  rw [wp_bind]
  iapply (run_sentAt X K J .cw c 15 1 h1 (2 * 15 + 1) rfl (eN .cw (15 + 1)) (by decide) _ a0) $$ [HO P1 C1]
  · isplitr; · iexact Hc
    isplitl [HO]; · iexact HO
    isplitl [P1]; · iexact P1
    isplitl [C1]; · iexact C1
    iexact L1'
  iintro ⟨HO, P1, C1, #L1'', S11⟩
  ihave HO := (owes_eq (F := F) c e2) $$ HO
  rw [wp_bind]
  iapply (run_creditAt X K J .cw c 15 h1 (nxt .ccw c) rfl (2 * (15 + 1) + 8) (by omega)) $$ [HO G1 S10 S11 V1]
  · isplitr; · iexact Hc
    isplitl [HO]; · iexact HO
    isplitl [G1]; · iexact G1
    isplitl [S10]; · iexact S10
    isplitl [S11]; · iexact S11
    isplitr; · iexact R1
    iexact V1
  iintro ⟨HO, G1⟩
  ihave HO := (owes_eq (F := F) c e3) $$ HO
  iapply (run_pure c Kt)
  iapply Hk
  isplitl [HO]; · iexact HO
  isplitl [A1 P1 C1 G1]
  · isplitl [A1]; · iexact A1
    isplitr [G1]
    · isplitl [P1]; · iexact P1
      isplitl [C1]; · iexact C1
      iexact L1''
    iexact G1
  iexact Hw

/-- The blocks whose rows are done before step `s`. -/
def doneAt (s : ℕ) (o : Dev nD) : Prop := o = c ∨ (∃ s', s' < s ∧ org .cw c s' = o) ∨ (∃ s', s' < min s 15 ∧ org .ccw c s' = o)
theorem doneAt_step (s : ℕ) (hs : s < 15) (o : Dev nD) (h : doneAt c (s + 1) o) : o = org .ccw c s ∨ o = org .cw c s ∨ doneAt c s o := by
  rcases h with h | ⟨s', h, e⟩ | ⟨s', h, e⟩
  · exact .inr (.inr (.inl h))
  · by_cases hh : s' = s
    · subst hh; exact .inr (.inl e.symm)
    · exact .inr (.inr (.inr (.inl ⟨s', by omega, e⟩)))
  · by_cases hh : s' = s
    · subst hh; exact .inl e.symm
    · exact .inr (.inr (.inr (.inr ⟨s', by omega, e⟩)))
theorem doneAt_last (o : Dev nD) (h : doneAt c 16 o) : o = org .cw c 15 ∨ doneAt c 15 o := by
  rcases h with h | ⟨s', h, e⟩ | ⟨s', h, e⟩
  · exact .inr (.inl h)
  · by_cases hh : s' = 15
    · subst hh; exact .inl e.symm
    · exact .inr (.inr (.inl ⟨s', by omega, e⟩))
  · exact .inr (.inr (.inr ⟨s', by omega, e⟩))
theorem doneAt_all (o : Dev nD) : doneAt c 16 o := org_cover c o

theorem steps_zero (l r : Dev nD) (s : ℕ) : (steps l r 0 s : Pg F PUnit) = pure ⟨⟩ := rfl
theorem steps_succ (l r : Dev nD) (n s : ℕ) : (steps l r (n + 1) s : Pg F PUnit) = (step l r s >>= fun _ => steps l r n (s + 1)) := rfl

theorem run_steps (n s : ℕ) (hs : n + s = 15) (Kt : PUnit → sProp 𝕄) :
    iprop(ctx X K J ∗ owesE c (oweAt .cw c s + oweAt .ccw c s) ∗ dirSt X .cw c s ∗ dirSt X .ccw c s ∗ work X Wt c (doneAt c s))
      ⊢ iprop((owesE c 0 ∗ dirSt X .cw c 16 ∗ dirSt X .ccw c 15 ∗ work X Wt c (fun _ => True) -∗ Kt ⟨⟩)
          -∗ Run c (steps (nxt .ccw c) (nxt .cw c) (n + 1) s) Kt) := by
  induction n generalizing s with
  | zero =>
    have hs' : s = 15 := by omega
    subst hs'
    rw [steps_succ, steps_zero]
    unfold Run
    rw [wp_bind]
    iintro ⟨#Hc, HO, D1, D2, Hw⟩ Hk
    iapply (run_last X Wt K J c (doneAt c 15) (fun _ => True) (fun o _ => doneAt_last c o (doneAt_all c o))) $$ [HO D1 Hw]
    · isplitr; · iexact Hc
      isplitl [HO]; · iexact HO
      isplitl [D1] <;> iassumption
    iintro ⟨HO, D1, Hw⟩
    iapply (run_pure c Kt)
    iapply Hk
    isplitl [HO]; · iexact HO
    isplitl [D1]; · iexact D1
    isplitl [D2] <;> iassumption
  | succ n ih =>
    rw [steps_succ]
    unfold Run
    rw [wp_bind]
    iintro ⟨#Hc, HO, D1, D2, Hw⟩ Hk
    iapply (run_step X Wt K J c s (by omega) (doneAt c s) (doneAt c (s + 1)) (doneAt_step c s (by omega))) $$ [HO D1 D2 Hw]
    · isplitr; · iexact Hc
      isplitl [HO]; · iexact HO
      isplitl [D1]; · iexact D1
      isplitl [D2] <;> iassumption
    iintro ⟨HO, D1, D2, Hw⟩
    iapply (ih (s + 1) (by omega)) $$ [HO D1 D2 Hw]
    · isplitr; · iexact Hc
      isplitl [HO]; · iexact HO
      isplitl [D1]; · iexact D1
      isplitl [D2] <;> iassumption
    iexact Hk

end Cert.KernelIdeal.Ag

end
-- ==== Proof.Body.lean ====
/- The body from its start to its end. -/
module

public import proofs.«01_k».proof.Proof.Steps

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Cert.KernelIdeal.Gen

variable {F : FTy → Type} [FloatOps F]

local notation "𝕄" => MT nD τ sig ℕ (Elt F) ℕ UU ℕ

variable (X : Dev nD → Blk F) (Wt : Dev nD → Wts F) (K : GSem nD τ sig → ℕ) (J : Key → ℕ)
variable (d : Dir) (c : Dev nD)

/-- What a direction owes at the start. -/
def oweDir : CellTallies nD τ sig ℕ := sendsO d c 0 + creditsO d c 0
/-- What a device owes at the start. -/
def owe0 : CellTallies nD τ sig ℕ := oweDir .cw c + oweDir .ccw c + barUnit .cw c + barUnit .ccw c

/-- A direction at the start of the body. -/
def dirPre : sProp 𝕄 :=
  iprop(win (posR d c) 0 ∗ win (posS d c) 0 ∗ log (rchR d c) 8 ∗ log (rchS d c) 8 ∗ todo (recvCred d c) 0 (2 * d.hops) ∗ todo (sendTok d c) 0 (2 * d.hops)
    ∗ todo (creditTok d c) 0 (d.hops - 4) ∗ todo (creditCred d c) 0 (d.hops - 4) ∗ atPos ER (creditCell c d) 0 ∅ 0 ∗ reached ER (creditCell c d) 0
    ∗ todo (reader0 d c) 0 8 ∗ todo (segAt d c) 0 8 ∗ dutyTok ER (barCell (nxt d c)) 0 (barDuty d))
/-- A direction once its own segments are free to be written. -/
def dirMid : sProp 𝕄 :=
  iprop(win (posR d c) 0 ∗ win (posS d c) 0 ∗ log (rchS d c) 8 ∗ todo (recvCred d c) 0 (2 * d.hops) ∗ todo (sendTok d c) 0 (2 * d.hops)
    ∗ todo (creditTok d c) 0 (d.hops - 4) ∗ todo (creditCred d c) 0 (d.hops - 4) ∗ atPos ER (creditCell c d) 0 ∅ 0 ∗ todo (reader d c) 0 8)

theorem dir_enter : iprop(ctx X K J ∗ dirPre d c)
    ⊢ (|={Set.univ}=> (dirMid d c ∗ dutyTok ER (barCell (nxt d c)) 0 (barDuty d) ∗ □ known d c 8 ∗ □ reached ER (creditCell c d) 0 ∗ □ log (rchR d c) 8 ∗ □ log (relAt d c) 8) : sProp 𝕄) := by
  unfold dirPre dirMid
  iintro ⟨#Hc, H1, H2, #H3, #H4, H5, H6, H7, H8, H9, #H10, H11, H12, H13⟩
  imod (deposit X K J d c 8 (by omega)) $$ [H11 H12] with ⟨Hr, #Hl⟩
  · isplitr; · iexact Hc
    isplitl [H11] <;> iassumption
  imodintro
  isplitr [H13]
  · isplitl [H1]; · iexact H1
    isplitl [H2]; · iexact H2
    isplitr; · iexact H4
    isplitl [H5]; · iexact H5
    isplitl [H6]; · iexact H6
    isplitl [H7]; · iexact H7
    isplitl [H8]; · iexact H8
    isplitl [H9]; · iexact H9
    iexact Hr
  isplitl [H13]; · iexact H13
  isplitr
  · imodintro
    iapply (known_intro d c (n := 8) (a := 8) (p := 8) (by omega) (by omega))
    isplitr; · iexact Hl
    iexact H3
  isplitr; · imodintro; iexact H10
  isplitr; · imodintro; iexact H3
  imodintro; iexact Hl

theorem credWait_zero : atPos ER (creditCell c d) 0 ∅ 0 ⊢ (credWait d c 0 : sProp 𝕄) := by
  unfold credWait
  iintro H
  iexists ∅
  isplitr; · ipureintro; exact ⟨Nat.zero_le _, Finset.empty_subset _⟩
  isplitl [H]; · iexact H
  rw [bigSep_empty]
  iempintro

/-- A direction before its first step, once both its first segments are sent. -/
theorem dirSt_zero :
    iprop(win (posR d c) 0 ∗ win (posS d c) 0 ∗ log (rchR d c) 8 ∗ log (rchS d c) 8 ∗ todo (recvCred d c) 0 (2 * d.hops) ∗ todo (sendTok d c) 2 (2 * d.hops)
      ∗ todo (creditTok d c) 0 (d.hops - 4) ∗ todo (creditCred d c) 0 (d.hops - 4) ∗ atPos ER (creditCell c d) 0 ∅ 0 ∗ todo (reader d c) 0 8
      ∗ known d (nxt d c) 8 ∗ log (relAt d c) 8 ∗ reached ER (creditCell (frm d c) d) 0 ∗ sendCred d c 0 ∗ sendCred d c 1)
      ⊢ (dirSt X d c 0 : sProp 𝕄) := by
  have e1 : eN d 0 = 1 + 1 := by cases d <;> rfl
  unfold dirSt arrSt depSt credSt hand
  rw [e1, show cN d 0 = 0 from Nat.zero_min _, show gN d 0 = 0 from Nat.zero_min _, todo_none (segAt d c) (show 2 * (0 - 1) ≤ 2 * (d.hops - 4) by omega),
    show win (reader d c) (2 * 0) = (todo (reader d c) 0 8 : sProp 𝕄) from rfl]
  iintro ⟨H1, H2, H3, H4, H5, H6, H7, H8, H9, H10, H11, H12, H13, H14, H15⟩
  isplitl [H1 H3 H5 H6 H8 H9 H11]
  · isplitl [H1]; · iexact H1
    isplitl [H5]; · iexact H5
    isplitl [H3]; · iexact H3
    isplitl [H6]; · iexact H6
    isplitl [H9]; · iapply (credWait_zero d c); iexact H9
    isplitl [H8]; · iexact H8
    iexact H11
  isplitl [H2 H4 H14 H15]
  · isplitl [H2]; · iexact H2
    isplitr [H4]
    · iapply (todo_push (sendCred d c) (show 2 * 0 ≤ 1 by omega))
      isplitl [H15]; · iexact H15
      iapply (todo_push (sendCred d c) (show 2 * 0 ≤ 0 by omega))
      isplitl [H14]; · iexact H14
      rw [todo_none (sendCred d c) (show 0 ≤ 2 * 0 by omega)]
      iempintro
    iexact H4
  isplitl [H7]; · iexact H7
  isplitl [H10]; · iexact H10
  isplitl [H12]; · iexact H12
  isplitl [H13]; · iexact H13
  isplitr; · iempintro
  iempintro

/-! ## The own block in shares -/

theorem x_segs (q : PosShare TreeShare) : xAll X c q ⊣⊢ (iprop(xPts X c 0 q ∗ xPts X c 1 q) : sProp 𝕄) := by
  have h : (xM.view.loc (c : Thread nD τ) ↦{q} (X c : Buf (Elt F) (xM.view.loc (c : Thread nD τ))) : sProp 𝕄)
      = (xM.view.loc (c : Thread nD τ) ↦[(xSeg 0).view.set ∪ (xSeg 1).view.set]{q} (X c : Buf (Elt F) (xM.view.loc (c : Thread nD τ)))) :=
    congrArg (fun S => (xM.view.loc (c : Thread nD τ) ↦[S]{q} (X c : Buf (Elt F) (xM.view.loc (c : Thread nD τ))) : sProp 𝕄)) x_cover.symm
  unfold xAll xPts
  rw [h]
  exact pointsTo_union x_disjoint
theorem x_shares : xAll X c fullShare ⊣⊢ (iprop(xAll X c fullShare.left ∗ (xAll X c fullShare.right.left ∗ xAll X c fullShare.right.right)) : sProp 𝕄) := by
  unfold xAll
  refine (pointsTo_share (PosShare.mem_left_op_right fullShare)).trans ?_
  exact ⟨BI.sep_mono (BI.Entails.refl _) (pointsTo_share (PosShare.mem_left_op_right fullShare.right)).1,
    BI.sep_mono (BI.Entails.refl _) (pointsTo_share (PosShare.mem_left_op_right fullShare.right)).2⟩

/-! ## The prologue -/

theorem zero_src (g : Fin 2) : xPts X c g (xq d) ⊢ (srcPts X d c 0 g : sProp 𝕄) := BI.Entails.refl _

theorem run_send0 (g : Fin 2) (t : ℕ) (ht : t = g.val) (n : Dev nD) (hn : n = nxt d c) (O : CellTallies nD τ sig ℕ) (Kt : PUnit → sProp 𝕄) :
    iprop(ctx X K J ∗ owesE c (O + sendsO d c t) ∗ xPts X c g (xq d) ∗ todo (sendTok d c) t (2 * d.hops) ∗ known d (nxt d c) 8 ∗ log (rchS d c) 8)
      ⊢ iprop((owesE c (O + sendsO d c (t + 1)) ∗ todo (sendTok d c) (t + 1) (2 * d.hops) ∗ sendCred d c t -∗ Kt ⟨⟩)
          -∗ Run c (sendOp d n 0 g) Kt) := by
  subst hn ht
  have hg := g.isLt
  have h := run_send X K J d c 0 g (by cases d <;> decide) O 8 8 (by omega) (by omega) Kt
  rw [Nat.mul_zero, Nat.zero_add] at h
  iintro ⟨Hc, HO, Hx, H⟩
  iapply h
  isplitl [Hc]; · iexact Hc
  isplitl [HO]; · iexact HO
  isplitl [Hx]; · iapply (zero_src X d c g); iexact Hx
  iexact H

theorem prologue_eq (l r : Dev nD) (v : Elt F .i32) (h : k0_chk3 v) : prologue (F := F) l r v h
    = (semSignalWord l barSem 1#32 >>= fun _ => semSignalWord r barSem 1#32 >>= fun _ => semWaitWord barSem 2#32 >>= fun _ =>
        sendOp .cw r 0 0 >>= fun _ => sendOp .ccw l 0 0 >>= fun _ => sendOp .cw r 0 1 >>= fun _ => sendOp .ccw l 0 1 >>= fun _ => ownOp v h) := rfl

theorem run_prologue (Kt : PUnit → sProp 𝕄) (v : Elt F .i32) (h : k0_chk3 v) (hv : k0_off1 v = ![128 * c.val, 0]) :
    iprop(ctx X K J ∗ owesE c (owe0 c) ∗ atPos ER (barCell c) 0 ∅ 0 ∗ cred (tallyAt (barCell c) 0 2) ∗ dirPre .cw c ∗ dirPre .ccw c
        ∗ xAll X c fullShare ∗ work X Wt c (fun _ => False))
      ⊢ iprop((owesE c (oweAt .cw c 0 + oweAt .ccw c 0) ∗ atPos ER (barCell c) 1 ∅ 0 ∗ dirSt X .cw c 0 ∗ dirSt X .ccw c 0
            ∗ xAll X c fullShare.right.right ∗ work X Wt c (doneAt c 0) -∗ Kt ⟨⟩)
          -∗ Run c (prologue (nxt .ccw c) (nxt .cw c) v h) Kt) := by
  have a1 : Above 1 (oweDir .cw c + oweDir .ccw c) :=
    above_add (above_add (above_sendsO .cw c 0 1 (by omega)) (above_creditsO .cw c 0 1 (by omega)))
      (above_add (above_sendsO .ccw c 0 1 (by omega)) (above_creditsO .ccw c 0 1 (by omega)))
  have e1 : oweDir .cw c + oweDir .ccw c = creditsO .cw c 0 + oweDir .ccw c + sendsO .cw c 0 := by unfold oweDir; ac_rfl
  have e2 : creditsO .cw c 0 + oweDir .ccw c + sendsO .cw c (0 + 1) = creditsO .cw c 0 + creditsO .ccw c 0 + sendsO .cw c 1 + sendsO .ccw c 0 := by unfold oweDir; ac_rfl
  have e3 : creditsO .cw c 0 + creditsO .ccw c 0 + sendsO .cw c 1 + sendsO .ccw c (0 + 1) = creditsO .cw c 0 + creditsO .ccw c 0 + sendsO .ccw c 1 + sendsO .cw c 1 := by ac_rfl
  have e4 : creditsO .cw c 0 + creditsO .ccw c 0 + sendsO .ccw c 1 + sendsO .cw c (1 + 1) = creditsO .cw c 0 + creditsO .ccw c 0 + sendsO .cw c 2 + sendsO .ccw c 1 := by ac_rfl
  have e5 : creditsO .cw c 0 + creditsO .ccw c 0 + sendsO .cw c 2 + sendsO .ccw c (1 + 1) = oweAt .cw c 0 + oweAt .ccw c 0 := by
    unfold oweAt
    rw [show gN .cw 0 = 0 from Nat.zero_min _, show gN .ccw 0 = 0 from Nat.zero_min _]
    ac_rfl
  rw [prologue_eq]
  unfold Run
  rw [wp_bind]
  iintro ⟨#Hc, HO, Hat, Hcr, D1, D2, Hx, Hw⟩ Hk
  iapply fupd_wp
  imod (dir_enter X K J .cw c) $$ [D1] with ⟨M1, T1, #N1, #Q1, #R1, #L1⟩
  · isplitr; · iexact Hc
    iexact D1
  imod (dir_enter X K J .ccw c) $$ [D2] with ⟨M2, T2, #N2, #Q2, #R2, #L2⟩
  · isplitr; · iexact Hc
    iexact D2
  imodintro
  unfold owe0
  iapply (run_bsignal X K J .ccw c (oweDir .cw c + oweDir .ccw c + barUnit .cw c)) $$ [HO T2]
  · isplitr; · iexact Hc
    isplitl [HO]; · iexact HO
    isplitl [T2]; · iexact T2
    isplitr; · iexact N1
    iexact Q2
  iintro HO
  rw [wp_bind]
  iapply (run_bsignal X K J .cw c (oweDir .cw c + oweDir .ccw c)) $$ [HO T1]
  · isplitr; · iexact Hc
    isplitl [HO]; · iexact HO
    isplitl [T1]; · iexact T1
    isplitr; · iexact N2
    iexact Q1
  iintro HO
  rw [wp_bind]
  iapply (run_bwait X K J c _ a1) $$ [HO Hat Hcr]
  · isplitr; · iexact Hc
    isplitl [HO]; · iexact HO
    isplitl [Hat] <;> iassumption
  iintro ⟨HO, Hat, #B1, #B2⟩
  unfold barPay
  icases B1 with ⟨#B1k, #B1r⟩
  icases B2 with ⟨#B2k, #B2r⟩
  ihave Hx := (x_shares X c).1 $$ Hx
  icases Hx with ⟨Xl, Xr, Xo⟩
  ihave Xl := (x_segs X c fullShare.left).1 $$ Xl
  icases Xl with ⟨Xl0, Xl1⟩
  ihave Xr := (x_segs X c fullShare.right.left).1 $$ Xr
  icases Xr with ⟨Xr0, Xr1⟩
  unfold dirMid
  icases M1 with ⟨P1, S1, #E1, V1, K1, G1, C1, A1, W1⟩
  icases M2 with ⟨P2, S2, #E2, V2, K2, G2, C2, A2, W2⟩
  ihave HO := (owes_eq (F := F) c e1) $$ HO
  rw [wp_bind]
  iapply (run_send0 X K J .cw c 0 0 rfl _ rfl) $$ [HO Xl0 K1]
  · isplitr; · iexact Hc
    isplitl [HO]; · iexact HO
    isplitl [Xl0]; · iexact Xl0
    isplitl [K1]; · iexact K1
    isplitr; · iexact B1k
    iexact E1
  iintro ⟨HO, K1, Z10⟩
  ihave HO := (owes_eq (F := F) c e2) $$ HO
  rw [wp_bind]
  iapply (run_send0 X K J .ccw c 0 0 rfl _ rfl) $$ [HO Xr0 K2]
  · isplitr; · iexact Hc
    isplitl [HO]; · iexact HO
    isplitl [Xr0]; · iexact Xr0
    isplitl [K2]; · iexact K2
    isplitr; · iexact B2k
    iexact E2
  iintro ⟨HO, K2, Z20⟩
  ihave HO := (owes_eq (F := F) c e3) $$ HO
  rw [wp_bind]
  iapply (run_send0 X K J .cw c 1 1 rfl _ rfl) $$ [HO Xl1 K1]
  · isplitr; · iexact Hc
    isplitl [HO]; · iexact HO
    isplitl [Xl1]; · iexact Xl1
    isplitl [K1]; · iexact K1
    isplitr; · iexact B1k
    iexact E1
  iintro ⟨HO, K1, Z11⟩
  ihave HO := (owes_eq (F := F) c e4) $$ HO
  rw [wp_bind]
  iapply (run_send0 X K J .ccw c 1 1 rfl _ rfl) $$ [HO Xr1 K2]
  · isplitr; · iexact Hc
    isplitl [HO]; · iexact HO
    isplitl [Xr1]; · iexact Xr1
    isplitl [K2]; · iexact K2
    isplitr; · iexact B2k
    iexact E2
  iintro ⟨HO, K2, Z21⟩
  ihave HO := (owes_eq (F := F) c e5) $$ HO
  iapply (run_own X Wt c v h hv fullShare.right.right (fun _ => False) (doneAt c 0) (fun o ho => by
      rcases ho with ho | ⟨s', hs', -⟩ | ⟨s', hs', -⟩
      · exact .inl ho
      · omega
      · omega)) $$ [Xo Hw]
  · isplitl [Xo] <;> iassumption
  iintro ⟨Xo, Hw⟩
  iapply Hk
  isplitl [HO]; · iexact HO
  isplitl [Hat]; · iexact Hat
  isplitl [P1 S1 V1 K1 G1 C1 A1 W1 Z10 Z11]
  · iapply (dirSt_zero X .cw c)
    isplitl [P1]; · iexact P1
    isplitl [S1]; · iexact S1
    isplitr; · iexact R1
    isplitr; · iexact E1
    isplitl [V1]; · iexact V1
    isplitl [K1]; · iexact K1
    isplitl [G1]; · iexact G1
    isplitl [C1]; · iexact C1
    isplitl [A1]; · iexact A1
    isplitl [W1]; · iexact W1
    isplitr; · iexact B1k
    isplitr; · iexact L1
    isplitr; · iexact B2r
    isplitl [Z10] <;> iassumption
  isplitl [P2 S2 V2 K2 G2 C2 A2 W2 Z20 Z21]
  · iapply (dirSt_zero X .ccw c)
    isplitl [P2]; · iexact P2
    isplitl [S2]; · iexact S2
    isplitr; · iexact R2
    isplitr; · iexact E2
    isplitl [V2]; · iexact V2
    isplitl [K2]; · iexact K2
    isplitl [G2]; · iexact G2
    isplitl [C2]; · iexact C2
    isplitl [A2]; · iexact A2
    isplitl [W2]; · iexact W2
    isplitr; · iexact B2k
    isplitr; · iexact L2
    isplitr; · iexact B1r
    isplitl [Z20] <;> iassumption
  isplitl [Xo]; · iexact Xo
  iexact Hw

/-! ## The body -/

theorem dev1_val (o : Dev nD) : k0_dev1 (BitVec.ofNat 32 o.val) = o.val := by revert o; decide
theorem dev2_val (o : Dev nD) : k0_dev2 (BitVec.ofNat 32 o.val) = o.val := by revert o; decide
theorem chk1_dev (o : Dev nD) : k0_chk1 (BitVec.ofNat 32 o.val) := by revert o; decide
theorem chk2_dev (o : Dev nD) : k0_chk2 (BitVec.ofNat 32 o.val) := by revert o; decide

/-- The own rows, the rest of the prologue and the steps. -/
def tailOf (l r : Dev nD) (v : Elt F .i32) (h : k0_chk3 v) : Pg F PUnit := prologue l r v h >>= fun _ => steps l r 16 0
/-- From the third word on. -/
def part2 (v0 : Elt F .i32) (h0 : k0_chk3 v0) (v1 : Elt F .i32) (h1 : k0_chk1 v1) : Pg F PUnit :=
  readMeta 2 >>= fun v2 => Prog.lift (TpuEff.assume (k0_chk2 v2) (k0_chk2.dec v2)) >>= fun h2 =>
    tailOf ⟨k0_dev1 v1, k0_dev1_lt v1 h1⟩ ⟨k0_dev2 v2, k0_dev2_lt v2 h2.down⟩ v0 h0
/-- From the second word on. -/
def part1 (v0 : Elt F .i32) (h0 : k0_chk3 v0) : Pg F PUnit :=
  readMeta 1 >>= fun v1 => Prog.lift (TpuEff.assume (k0_chk1 v1) (k0_chk1.dec v1)) >>= fun h1 => part2 v0 h0 v1 h1.down
theorem body_parts : body (F := F)
    = (readMeta 0 >>= fun v0 => Prog.lift (TpuEff.assume (k0_chk3 v0) (k0_chk3.dec v0)) >>= fun h0 => part1 v0 h0.down) := rfl

theorem run_assume {P : Prop} {dc : Decidable P} (h : P) (k : PLift P → Pg F PUnit) (Kt : PUnit → sProp 𝕄) :
    Run c (k ⟨h⟩) Kt ⊢ Run c (Prog.lift (TpuEff.assume P dc) >>= k) Kt :=
  wp_assume 𝒱₀ (c : Thread nD τ) none Set.univ h

theorem run_bind {β : Type} (p : Pg F β) (k : β → Pg F PUnit) (Kt : PUnit → sProp 𝕄) :
    Run c p (fun b => Run c (k b) Kt) ⊢ Run c (p >>= k) Kt := by
  unfold Run; rw [wp_bind]

/-- What the body starts from. -/
def bodyPre : sProp 𝕄 :=
  iprop(owesE c (owe0 c) ∗ atPos ER (barCell c) 0 ∅ 0 ∗ cred (tallyAt (barCell c) 0 2) ∗ dirPre .cw c ∗ dirPre .ccw c
    ∗ xAll X c fullShare ∗ work X Wt c (fun _ => False))
/-- What the body ends in. -/
def bodyEnd : sProp 𝕄 :=
  iprop(owesE c 0 ∗ atPos ER (barCell c) 1 ∅ 0 ∗ dirSt X .cw c 16 ∗ dirSt X .ccw c 15
    ∗ xAll X c fullShare.right.right ∗ work X Wt c (fun _ => True))

theorem run_tail (Kt : PUnit → sProp 𝕄) (v : Elt F .i32) (h : k0_chk3 v) (hv : k0_off1 v = ![128 * c.val, 0]) (l r : Dev nD) (hl : l = nxt .ccw c) (hr : r = nxt .cw c) :
    iprop(ctx X K J ∗ bodyPre X Wt c) ⊢ iprop((bodyEnd X Wt c -∗ Kt ⟨⟩) -∗ Run c (tailOf l r v h) Kt) := by
  subst hl hr
  unfold tailOf bodyPre bodyEnd
  iintro ⟨#Hc, H⟩ Hk
  iapply (run_bind c)
  iapply (run_prologue X Wt K J c _ v h hv) $$ [H]
  · isplitr; · iexact Hc
    iexact H
  iintro ⟨HO, Hat, D1, D2, Hx, Hw⟩
  iapply (run_steps X Wt K J c 15 0 (by omega)) $$ [HO D1 D2 Hw]
  · isplitr; · iexact Hc
    isplitl [HO]; · iexact HO
    isplitl [D1]; · iexact D1
    isplitl [D2] <;> iassumption
  iintro ⟨HO, D1, D2, Hw⟩
  iapply Hk
  isplitl [HO]; · iexact HO
  isplitl [Hat]; · iexact Hat
  isplitl [D1]; · iexact D1
  isplitl [D2]; · iexact D2
  isplitl [Hx] <;> iassumption

theorem bodyPre_word : bodyPre X Wt c ⊢ (iprop(metaPts c ∗ (metaPts c -∗ bodyPre X Wt c)) : sProp 𝕄) := by
  unfold bodyPre work
  iintro ⟨H1, H2, H3, H4, H5, H6, H7, H8⟩
  isplitl [H7]; · iexact H7
  iintro H7
  isplitl [H1]; · iexact H1
  isplitl [H2]; · iexact H2
  isplitl [H3]; · iexact H3
  isplitl [H4]; · iexact H4
  isplitl [H5]; · iexact H5
  isplitl [H6]; · iexact H6
  isplitl [H7] <;> iassumption

/-- A word of the table, read from what the body starts from. -/
theorem run_wordPre (i : Fin 34) (o : Dev nD) (ho : metaDev c i.val = o) (k : Elt F .i32 → Pg F PUnit) (Kt : PUnit → sProp 𝕄) :
    bodyPre X Wt c ⊢ iprop((bodyPre X Wt c -∗ Run c (k (BitVec.ofNat 32 o.val)) Kt) -∗ Run c (readMeta i >>= k) Kt) := by
  subst ho
  iintro H Hk
  ihave H := (bodyPre_word X Wt c) $$ H
  icases H with ⟨Hm, Hr⟩
  iapply (run_bind c)
  iapply (run_word c i) $$ Hm
  iintro Hm
  iapply Hk
  iapply Hr
  iexact Hm

theorem run_body (Kt : PUnit → sProp 𝕄) :
    iprop(ctx X K J ∗ bodyPre X Wt c) ⊢ iprop((bodyEnd X Wt c -∗ Kt ⟨⟩) -∗ Run c body Kt) := by
  rw [body_parts]
  iintro ⟨#Hc, H⟩ Hk
  iapply (run_wordPre X Wt c 0 c rfl) $$ H
  iintro H
  iapply (run_assume c (chk_org c))
  unfold part1
  iapply (run_wordPre X Wt c 1 (frm .cw c) rfl) $$ H
  iintro H
  iapply (run_assume c (chk1_dev (frm .cw c)))
  unfold part2
  iapply (run_wordPre X Wt c 2 (nxt .cw c) rfl) $$ H
  iintro H
  iapply (run_assume c (chk2_dev (nxt .cw c)))
  iapply (run_tail X Wt K J c Kt _ _ (off_org c) _ _ (Fin.ext (dev1_val (frm .cw c))) (Fin.ext (dev2_val (nxt .cw c)))) $$ [H]
  · isplitr; · iexact Hc
    iexact H
  iexact Hk

end Cert.KernelIdeal.Ag

end
-- ==== Proof.Cells.lean ====
/- How a device enters its body and what it leaves it with: its semaphores at zero, its receive buffers whole. -/
module

public import proofs.«01_k».proof.Proof.Body
public import Idealize.ShloMosaic.Lib.Pipeline.Kit
public import Idealize.ShloMosaic.Lib.Ring
public import Idealize.ShloMosaic.Harness.Basic

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Cert.KernelIdeal.Gen
open Idealize.ShloMosaic.Smoke (bigSep_pair bigSep_unpair)

variable {F : FTy → Type} [FloatOps F]

local notation "𝕄" => MT nD τ sig ℕ (Elt F) ℕ UU ℕ

/-! ## Eight numbers in a row are the segments of the slots -/

theorem window_image (a : ℕ) : (Finset.Ico a (a + 8)).image (fun t => (slotOf (t / 2), gOf t)) = (Finset.univ : Finset (Fin 4 × Fin 2)) := by
  ext ⟨k, g⟩
  simp only [Finset.mem_image, Finset.mem_Ico, Finset.mem_univ, iff_true]
  have hk := k.isLt
  have hg := g.isLt
  refine ⟨a + (2 * k.val + g.val + 8 - a % 8) % 8, by omega, Prod.ext (Fin.ext ?_) (Fin.ext ?_)⟩
  · show (a + (2 * k.val + g.val + 8 - a % 8) % 8) / 2 % 4 = k.val
    omega
  · show (a + (2 * k.val + g.val + 8 - a % 8) % 8) % 2 = g.val
    omega
theorem window_inj (a : ℕ) : Set.InjOn (fun t => (slotOf (t / 2), gOf t)) (Finset.Ico a (a + 8) : Finset ℕ) := by
  intro t ht t' ht' h
  have h1 : t / 2 % 4 = t' / 2 % 4 := congrArg (fun x : Fin 4 × Fin 2 => x.1.val) h
  have h2 : t % 2 = t' % 2 := congrArg (fun x : Fin 4 × Fin 2 => x.2.val) h
  have := Finset.mem_Ico.mp (Finset.mem_coe.mp ht)
  have := Finset.mem_Ico.mp (Finset.mem_coe.mp ht')
  omega
theorem win_segs (P : Fin 4 × Fin 2 → sProp 𝕄) (a : ℕ) : win (fun t => P (slotOf (t / 2), gOf t)) a = bigSep Finset.univ P := by
  rw [← window_image a, bigSep_image_of_injOn (window_inj a)]
  rfl

/-! ## The own cells by direction -/

theorem bigSep_dir (Φ : Dir → sProp 𝕄) : bigSep Finset.univ Φ = iprop(Φ .cw ∗ Φ .ccw) := by
  rw [show (Finset.univ : Finset Dir) = {.cw, .ccw} from by decide, bigSep_insert (by decide), bigSep_singleton]; rfl
/-- Those of the own cells that are a direction's. -/
def dirPart (Φ : Own → sProp 𝕄) (d : Dir) : sProp 𝕄 :=
  iprop(Φ (.inl d) ∗ (bigSep Finset.univ fun x : Fin 4 × Fin 2 => Φ (.inr (.inl (d, x)))) ∗ bigSep Finset.univ fun x : Fin 4 × Fin 2 => Φ (.inr (.inr (d, x))))
theorem own_dirs (Φ : Own → sProp 𝕄) : bigSep Finset.univ Φ ⊣⊢ (iprop(dirPart Φ .cw ∗ dirPart Φ .ccw) : sProp 𝕄) := by
  have e : bigSep Finset.univ Φ = iprop((Φ (.inl .cw) ∗ Φ (.inl .ccw))
      ∗ ((bigSep Finset.univ fun x : Fin 4 × Fin 2 => Φ (.inr (.inl (.cw, x)))) ∗ bigSep Finset.univ fun x : Fin 4 × Fin 2 => Φ (.inr (.inl (.ccw, x))))
      ∗ ((bigSep Finset.univ fun x : Fin 4 × Fin 2 => Φ (.inr (.inr (.cw, x)))) ∗ bigSep Finset.univ fun x : Fin 4 × Fin 2 => Φ (.inr (.inr (.ccw, x))))) := by
    rw [bigSep_univ_sum, bigSep_univ_sum, bigSep_univ_prod, bigSep_univ_prod, bigSep_dir, bigSep_dir, bigSep_dir]; rfl
  rw [e]
  unfold dirPart
  refine ⟨?_, ?_⟩
  · iintro ⟨⟨H1, H2⟩, ⟨H3, H4⟩, H5, H6⟩
    isplitl [H1 H3 H5]
    · isplitl [H1]; · iexact H1
      isplitl [H3] <;> iassumption
    isplitl [H2]; · iexact H2
    isplitl [H4] <;> iassumption
  · iintro ⟨⟨H1, H3, H5⟩, H2, H4, H6⟩
    isplitl [H1 H2]; · isplitl [H1] <;> iassumption
    isplitl [H3 H4]; · isplitl [H3] <;> iassumption
    isplitl [H5] <;> iassumption

variable (X : Dev nD → Blk F) (Wt : Dev nD → Wts F) (K : GSem nD τ sig → ℕ) (J : Key → ℕ)
variable (d : Dir) (c : Dev nD)

/-! ## Opening -/

/-- A cell opened: at its first round, which is known to be reached. -/
def opened (o : Own) : sProp 𝕄 := iprop(atPos ER ((c : Thread nD τ), ownSem o) 0 ∅ 0 ∗ reached ER ((c : Thread nD τ), ownSem o) 0)

theorem open_own : iprop(ctx X K J ∗ (bigSep Finset.univ fun o : Own => openTok ER ((c : Thread nD τ), ownSem o)) ∗ Pipeline.ownSems0 ownSem c)
    ⊢ (|={Set.univ}=> bigSep Finset.univ (opened c) : sProp 𝕄) := by
  refine BI.Entails.trans ?_ (bigSep_fupd Finset.univ (opened (F := F) c))
  refine (?_ : _ ⊢ _).trans (bigSep_with_persistent (R := ctx X K J)
    (Φ := fun o : Own => iprop(openTok ER ((c : Thread nD τ), ownSem o) ∗ semVal ((c : Thread nD τ), ownSem o) 0)) fun o _ => ?_)
  · unfold Pipeline.ownSems0
    iintro ⟨#Hc, H1, H2⟩
    isplitr; · iexact Hc
    iapply bigSep_pair
    isplitl [H1] <;> iassumption
  · iintro ⟨#Hc, H⟩
    ihave #HI := (ctx_inv X K J (own_mem c o)) $$ Hc
    iapply (Rounds.cell_open ER (sched X) (Set.mem_univ (K ((c : Thread nD τ), ownSem o))))
    isplitr; · iexact HI
    iexact H

theorem opened_dir : dirPart (opened c) d
    ⊢ (iprop(win (posR d c) 0 ∗ win (posS d c) 0 ∗ log (rchR d c) 8 ∗ log (rchS d c) 8 ∗ atPos ER (creditCell c d) 0 ∅ 0 ∗ reached ER (creditCell c d) 0) : sProp 𝕄) := by
  have small : ∀ t ∈ Finset.Ico 0 (0 + 8), t / 8 = 0 := fun t ht => by have := Finset.mem_Ico.mp ht; omega
  have eR : win (posR d c) 0 = (bigSep Finset.univ fun x : Fin 4 × Fin 2 => atPos ER (recvCell c d x.1 x.2) 0 ∅ 0 : sProp 𝕄) := by
    rw [← win_segs _ 0]; unfold win todo
    exact bigSep_congr fun t ht => by unfold posR; rw [small t ht]
  have eS : win (posS d c) 0 = (bigSep Finset.univ fun x : Fin 4 × Fin 2 => atPos ER (sendCell c d x.1 x.2) 0 ∅ 0 : sProp 𝕄) := by
    rw [← win_segs _ 0]; unfold win todo
    exact bigSep_congr fun t ht => by unfold posS; rw [small t ht]
  have lR : log (rchR d c) 8 = (bigSep Finset.univ fun x : Fin 4 × Fin 2 => reached ER (recvCell c d x.1 x.2) 0 : sProp 𝕄) := by
    rw [← win_segs _ 0]; unfold win todo log
    rw [← Finset.range_eq_Ico]
    exact bigSep_congr fun t ht => by unfold rchR; rw [show t / 8 = 0 by have := Finset.mem_range.mp ht; omega]
  have lS : log (rchS d c) 8 = (bigSep Finset.univ fun x : Fin 4 × Fin 2 => reached ER (sendCell c d x.1 x.2) 0 : sProp 𝕄) := by
    rw [← win_segs _ 0]; unfold win todo log
    rw [← Finset.range_eq_Ico]
    exact bigSep_congr fun t ht => by unfold rchS; rw [show t / 8 = 0 by have := Finset.mem_range.mp ht; omega]
  have e : dirPart (opened c) d = (iprop((atPos ER (creditCell c d) 0 ∅ 0 ∗ reached ER (creditCell c d) 0)
      ∗ (bigSep Finset.univ fun x : Fin 4 × Fin 2 => iprop(atPos ER (sendCell c d x.1 x.2) 0 ∅ 0 ∗ reached ER (sendCell c d x.1 x.2) 0))
      ∗ bigSep Finset.univ fun x : Fin 4 × Fin 2 => iprop(atPos ER (recvCell c d x.1 x.2) 0 ∅ 0 ∗ reached ER (recvCell c d x.1 x.2) 0)) : sProp 𝕄) := rfl
  rw [eR, eS, lR, lS, e]
  iintro ⟨⟨A, B⟩, H1, H2⟩
  ihave H1 := (bigSep_unpair (Φ := fun x : Fin 4 × Fin 2 => (atPos ER (sendCell c d x.1 x.2) 0 ∅ 0 : sProp 𝕄)) (Ψ := fun x => reached ER (sendCell c d x.1 x.2) 0)) $$ H1
  ihave H2 := (bigSep_unpair (Φ := fun x : Fin 4 × Fin 2 => (atPos ER (recvCell c d x.1 x.2) 0 ∅ 0 : sProp 𝕄)) (Ψ := fun x => reached ER (recvCell c d x.1 x.2) 0)) $$ H2
  icases H1 with ⟨S1, S2⟩
  icases H2 with ⟨R1, R2⟩
  isplitl [R1]; · iexact R1
  isplitl [S1]; · iexact S1
  isplitl [R2]; · iexact R2
  isplitl [S2]; · iexact S2
  isplitl [A] <;> iassumption

/-! ## The receive buffers -/

/-- A receive buffer at contents not known. -/
def scrAny : sProp 𝕄 := iprop(∃ f, (bufM d).view.loc (c : Thread nD τ) ↦{fullShare} f)

theorem scr_split : scrAny d c ⊢ (todo (segAt d c) 0 8 : sProp 𝕄) := by
  have e : todo (segAt d c) 0 8 = (bigSep Finset.univ fun x : Fin 4 × Fin 2 => anySeg d c x.1 x.2 : sProp 𝕄) :=
    win_segs (fun x : Fin 4 × Fin 2 => anySeg (F := F) d c x.1 x.2) 0
  rw [e]
  unfold scrAny
  refine exists_elim fun f => ?_
  have h : ((bufM d).view.loc (c : Thread nD τ) ↦{fullShare} f : sProp 𝕄) = ((bufM d).view.loc (c : Thread nD τ) ↦[Finset.univ.biUnion (segSet d c)]{fullShare} f) :=
    congrArg (fun S => ((bufM d).view.loc (c : Thread nD τ) ↦[S]{fullShare} f : sProp 𝕄)) (seg_cover d c).symm
  rw [h, pointsTo_biUnion _ _ fun t _ t' _ ht => seg_disjoint d c ht]
  exact bigSep_mono fun x _ => exists_intro (Φ := fun f => (bufSeg d x.1 x.2).view.loc (c : Thread nD τ) ↦[(bufSeg d x.1 x.2).view.set]{fullShare} f) f

theorem scr_join (B : Blk F) (a : ℕ) : win (segAt d c) a ⊢ (scrAny d c : sProp 𝕄) := by
  have e : win (segAt d c) a = (bigSep Finset.univ fun x : Fin 4 × Fin 2 => anySeg d c x.1 x.2 : sProp 𝕄) :=
    win_segs (fun x : Fin 4 × Fin 2 => anySeg (F := F) d c x.1 x.2) a
  rw [e]
  exact Ring.pointsTo_blocks_join_exists (segSet d c) (fun x x' h => seg_disjoint d c h) (seg_cover d c) (bufOf d c B)

/-! ## Closing -/

theorem close_win (P : ℕ → sProp 𝕄) (Q : ℕ → sProp 𝕄) (a : ℕ) (h : ∀ t, a ≤ t → iprop(ctx X K J ∗ P t) ⊢ (|={Set.univ}=> Q t : sProp 𝕄)) :
    iprop(ctx X K J ∗ win P a) ⊢ (|={Set.univ}=> win Q a : sProp 𝕄) := by
  unfold win todo
  refine BI.Entails.trans ?_ (bigSep_fupd _ _)
  exact bigSep_with_persistent (R := ctx X K J) fun t ht => h t (Finset.mem_Ico.mp ht).1

theorem close_recv : iprop(ctx X K J ∗ win (posR d c) (2 * d.hops))
    ⊢ (|={Set.univ}=> bigSep Finset.univ (fun x : Fin 4 × Fin 2 => semVal (recvCell c d x.1 x.2) 0) : sProp 𝕄) := by
  rw [← win_segs (fun x : Fin 4 × Fin 2 => (semVal (recvCell c d x.1 x.2) 0 : sProp 𝕄)) (2 * d.hops)]
  refine close_win X K J _ _ _ fun t ht => ?_
  unfold posR
  iintro ⟨#Hc, H⟩
  ihave #HI := (ctx_recv X K J c d (slotOf (t / 2)) (gOf t)) $$ Hc
  iapply (cell_close ER (sched X) (Set.mem_univ (K (recvCell c d (slotOf (t / 2)) (gOf t)))) id (R := t / 8)
    (fun r hr => duties_recv_none X c d (gOf t) (slotOf (t / 2)) (show d.hops ≤ 4 * r + t / 2 % 4 by omega)))
  isplitr; · iexact HI
  iexact H
theorem close_send : iprop(ctx X K J ∗ win (posS d c) (2 * d.hops))
    ⊢ (|={Set.univ}=> bigSep Finset.univ (fun x : Fin 4 × Fin 2 => semVal (sendCell c d x.1 x.2) 0) : sProp 𝕄) := by
  rw [← win_segs (fun x : Fin 4 × Fin 2 => (semVal (sendCell c d x.1 x.2) 0 : sProp 𝕄)) (2 * d.hops)]
  refine close_win X K J _ _ _ fun t ht => ?_
  unfold posS
  iintro ⟨#Hc, H⟩
  ihave #HI := (ctx_send X K J c d (slotOf (t / 2)) (gOf t)) $$ Hc
  iapply (cell_close ER (sched X) (Set.mem_univ (K (sendCell c d (slotOf (t / 2)) (gOf t)))) id (R := t / 8)
    (fun r hr => duties_send_none X c d (gOf t) (slotOf (t / 2)) (show d.hops ≤ 4 * r + t / 2 % 4 by omega)))
  isplitr; · iexact HI
  iexact H
theorem close_bar : iprop(ctx X K J ∗ atPos ER (barCell c) 1 ∅ 0) ⊢ (|={Set.univ}=> semVal (barCell c) 0 : sProp 𝕄) := by
  iintro ⟨#Hc, H⟩
  ihave #HI := (ctx_bar X K J c) $$ Hc
  iapply (cell_close ER (sched X) (Set.mem_univ (K (barCell c))) id (R := 1) (fun r hr => duties_bar_none X c hr))
  isplitr; · iexact HI
  iexact H
theorem close_credit : iprop(ctx X K J ∗ credWait d c (d.hops - 4)) ⊢ (|={Set.univ}=> semVal (creditCell c d) 0 : sProp 𝕄) := by
  unfold credWait
  iintro ⟨#Hc, %S, %hS, H, -⟩
  ihave #HI := (ctx_credit X K J c d) $$ Hc
  have hSe : S = Finset.range (d.hops - 4) := Finset.eq_of_subset_of_card_le hS.2 (by rw [Finset.card_range]; exact hS.1)
  imod (fupd_skip ER (sched X) (g := creditCell c d) (κ := K (creditCell c d)) (R := 0) (m := d.hops - 4) (T := S)
    (by rw [duties_credit, hSe]) (expect_credit X c d).symm (Set.mem_univ _)) $$ [H] with ⟨H, -⟩
  · isplitr; · iexact HI
    iexact H
  iapply (cell_close ER (sched X) (Set.mem_univ (K (creditCell c d))) id (R := 1) (fun r hr => duties_credit_none X c d hr))
  isplitr; · iexact HI
  iexact H

/-- A semaphore at zero. -/
def zeroAt (o : Own) : sProp 𝕄 := semVal ((c : Thread nD τ), ownSem o) 0

theorem close_dir (s : ℕ) (hs : s + 1 = d.hops) : iprop(ctx X K J ∗ dirSt X d c (s + 1))
    ⊢ (|={Set.univ}=> (dirPart (zeroAt c) d ∗ scrAny d c ∗ xPts X c 0 (xq d) ∗ xPts X c 1 (xq d)) : sProp 𝕄) := by
  have e1 : cN d (s + 1) = d.hops - 4 := by unfold cN; omega
  have e2 : rq d s = fullShare := by unfold rq; exact if_neg (by omega)
  have e3 : 2 * (d.hops - 4) + 8 = 2 * s + 1 + 1 := by have h4 : 4 ≤ d.hops := (by cases d <;> decide); omega
  have e4 : 2 * s = 2 * (d.hops - 1) := by omega
  have e5 : dirPart (zeroAt c) d = (iprop(semVal (creditCell c d) 0
      ∗ (bigSep Finset.univ fun x : Fin 4 × Fin 2 => semVal (sendCell c d x.1 x.2) 0)
      ∗ bigSep Finset.univ fun x : Fin 4 × Fin 2 => semVal (recvCell c d x.1 x.2) 0) : sProp 𝕄) := rfl
  rw [e5]
  unfold dirSt arrSt depSt credSt hand halves
  dsimp only
  rw [e1, e2, hs]
  iintro ⟨#Hc, ⟨R1, -, -, -, C1, -⟩, ⟨S1, -⟩, -, -, -, -, ⟨⟨B0, B1⟩, X0, X1⟩, G⟩
  imod (close_recv X K J d c) $$ [R1] with R1
  · isplitr; · iexact Hc
    iexact R1
  imod (close_send X K J d c) $$ [S1] with S1
  · isplitr; · iexact Hc
    iexact S1
  imod (close_credit X K J d c) $$ [C1] with C1
  · isplitr; · iexact Hc
    iexact C1
  imodintro
  isplitl [R1 S1 C1]
  · isplitl [C1]; · iexact C1
    isplitl [S1] <;> iassumption
  isplitl [B0 B1 G]
  · iapply (scr_join d c (X (org d c s)) (2 * (d.hops - 4)))
    unfold win
    rw [e3]
    iapply (todo_push (segAt d c) (show 2 * (d.hops - 4) ≤ 2 * s + 1 by omega))
    isplitl [B1]
    · iapply (Entails.of_eq (segAt_at d c s 1).symm); iapply (any_of d c (slotOf s) 1); iexact B1
    iapply (todo_push (segAt d c) (show 2 * (d.hops - 4) ≤ 2 * s by omega))
    isplitl [B0]
    · iapply (Entails.of_eq (segAt_at d c s 0).symm); iapply (any_of d c (slotOf s) 0); iexact B0
    rw [e4]
    iexact G
  isplitl [X0]; · iexact X0
  iexact X1

end Cert.KernelIdeal.Ag

end
-- ==== Proof.ProgEq.lean ====
module
public import proofs.«01_k».proof.Proof.Prog
@[expose] public section
noncomputable section
namespace Cert.KernelIdeal.Ag
open Idealize.ShloMosaic Idealize.ShloMosaic.TcCoe Idealize.SL.Sem
open Cert.KernelIdeal.Gen
variable {F : FTy → Type} [FloatOps F]

set_option maxRecDepth 1000000 in
set_option maxHeartbeats 0 in
/-- The printed body, on what the pipeline calls it with, is the program of steps. -/
theorem body_eq (t : Fin cfg0.N) : bodyAt0 (F := F) t = body := rfl
end Cert.KernelIdeal.Ag
end
-- ==== Proof.Region.lean ====
/- The kernel as a region of the host program: what it is entered with and what it leaves. -/
module

public import proofs.«01_k».proof.Proof.Cells
public import proofs.«01_k».proof.Proof.ProgEq
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.FrameBody

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (X : Dev nD → Blk F) (Wt : Dev nD → Wts F)
variable (d : Dir) (c : Dev nD)

/-- What the launch deals to a direction. -/
def dirTk : sProp 𝕄 :=
  iprop(todo (recvCred d c) 0 (2 * d.hops) ∗ todo (sendTok d c) 0 (2 * d.hops) ∗ todo (creditTok d c) 0 (d.hops - 4) ∗ todo (creditCred d c) 0 (d.hops - 4)
    ∗ todo (reader0 d c) 0 8 ∗ dutyTok ER (barCell (nxt d c)) 0 (barDuty d))
/-- What the launch deals to a device. -/
def Tk : sProp 𝕄 :=
  iprop(∃ (K : GSem nD τ sig → ℕ) (J : Key → ℕ), ctx X K J ∗ atPos ER (barCell c) 0 ∅ 0 ∗ cred (tallyAt (barCell c) 0 2)
    ∗ (bigSep Finset.univ fun o : Own => openTok ER ((c : Thread nD τ), ownSem o)) ∗ dirTk .cw c ∗ dirTk .ccw c)
/-- The same with the device's own cells open. -/
def Xk : sProp 𝕄 :=
  iprop(∃ (K : GSem nD τ sig → ℕ) (J : Key → ℕ), ctx X K J ∗ atPos ER (barCell c) 0 ∅ 0 ∗ cred (tallyAt (barCell c) 0 2)
    ∗ bigSep Finset.univ (opened c) ∗ dirTk .cw c ∗ dirTk .ccw c)

theorem hopen : iprop(Tk X c ∗ Pipeline.ownSems0 ownSem c ∗ levAts L lv) ⊢ (|={Set.univ}=> Xk X c : sProp 𝕄) := by
  unfold Tk Xk
  iintro ⟨⟨%K, %J, #Hc, H1, H2, H3, H4, H5⟩, H6, -⟩
  imod (open_own X K J c) $$ [H3 H6] with H3
  · isplitr; · iexact Hc
    isplitl [H3] <;> iassumption
  imodintro
  iexists K; iexists J
  isplitr; · iexact Hc
  isplitl [H1]; · iexact H1
  isplitl [H2]; · iexact H2
  isplitl [H3]; · iexact H3
  isplitl [H4] <;> iassumption

theorem dirPre_intro : iprop(dirPart (opened c) d ∗ dirTk d c ∗ scrAny d c) ⊢ (dirPre d c : sProp 𝕄) := by
  unfold dirTk dirPre
  iintro ⟨Ho, ⟨H1, H2, H3, H4, H5, H6⟩, Hs⟩
  ihave Ho := (opened_dir d c) $$ Ho
  icases Ho with ⟨P1, P2, P3, P4, P5, P6⟩
  ihave Hs := (scr_split d c) $$ Hs
  isplitl [P1]; · iexact P1
  isplitl [P2]; · iexact P2
  isplitl [P3]; · iexact P3
  isplitl [P4]; · iexact P4
  isplitl [H1]; · iexact H1
  isplitl [H2]; · iexact H2
  isplitl [H3]; · iexact H3
  isplitl [H4]; · iexact H4
  isplitl [P5]; · iexact P5
  isplitl [P6]; · iexact P6
  isplitl [H5]; · iexact H5
  isplitl [Hs] <;> iassumption

/-- What the body is entered with, beside what it owes. -/
def devPre : sProp 𝕄 :=
  iprop(Xk X c ∗ scrAny .cw c ∗ scrAny .ccw c ∗ xAll X c fullShare ∗ work X Wt c (fun _ => False))
/-- What the body leaves, beside what it owes. -/
def devPost : sProp 𝕄 :=
  iprop((semVal (barCell c) 0 ∗ Pipeline.ownSems0 ownSem c) ∗ scrAny .cw c ∗ scrAny .ccw c ∗ xAll X c fullShare ∗ work X Wt c (fun _ => True))

theorem own_zero : bigSep Finset.univ (zeroAt c) ⊢ (Pipeline.ownSems0 ownSem c : sProp 𝕄) := BI.Entails.refl _

theorem bodyEnd_close (K : GSem nD τ sig → ℕ) (J : Key → ℕ) :
    iprop(ctx X K J ∗ bodyEnd X Wt c) ⊢ (|={Set.univ}=> (owesE c 0 ∗ devPost X Wt c) : sProp 𝕄) := by
  have h1 := close_dir X K J .cw c 15 rfl
  rw [show xq .cw = fullShare.left from rfl] at h1
  have h2 := close_dir X K J .ccw c 14 rfl
  rw [show xq .ccw = fullShare.right.left from rfl] at h2
  unfold bodyEnd devPost
  iintro ⟨#Hc, HO, Hb, D1, D2, Hx, Hw⟩
  imod (close_bar X K J c) $$ [Hb] with Hb
  · isplitr; · iexact Hc
    iexact Hb
  imod h1 $$ [D1] with ⟨Z1, S1, A1, B1⟩
  · isplitr; · iexact Hc
    iexact D1
  imod h2 $$ [D2] with ⟨Z2, S2, A2, B2⟩
  · isplitr; · iexact Hc
    iexact D2
  imodintro
  isplitl [HO]; · iexact HO
  isplitl [Hb Z1 Z2]
  · isplitl [Hb]; · iexact Hb
    ihave Z := ((own_dirs (zeroAt c)).2) $$ [Z1 Z2]
    · isplitl [Z1] <;> iassumption
    iapply (own_zero c); iexact Z
  isplitl [S1]; · iexact S1
  isplitl [S2]; · iexact S2
  isplitr [Hw]
  · iapply ((x_shares X c).2)
    isplitl [A1 B1]
    · iapply ((x_segs X c _).2)
      isplitl [A1] <;> iassumption
    isplitl [A2 B2]
    · iapply ((x_segs X c _).2)
      isplitl [A2] <;> iassumption
    iexact Hx
  iexact Hw

theorem run_device (Kt : PUnit → sProp 𝕄) :
    iprop(owesE c (owe0 c) ∗ devPre X Wt c) ⊢ iprop((owesE c 0 ∗ devPost X Wt c -∗ Kt ⟨⟩) -∗ Run c body Kt) := by
  unfold devPre Xk
  iintro ⟨HO, ⟨%K, %J, #Hc, Hat, Hcr, Hop, T1, T2⟩, S1, S2, Hx, Hw⟩ Hk
  ihave Hop := ((own_dirs (opened c)).1) $$ Hop
  icases Hop with ⟨O1, O2⟩
  iapply (wp_fupd frame (wpE (defs₀ (F := F)) 𝒱₀ (c : Thread nD τ) none) (E := Set.univ) body Kt)
  iapply (run_body X Wt K J c (fun a => iprop(|={Set.univ}=> Kt a))) $$ [HO Hat Hcr O1 O2 T1 T2 S1 S2 Hx Hw]
  · isplitr; · iexact Hc
    unfold bodyPre
    isplitl [HO]; · iexact HO
    isplitl [Hat]; · iexact Hat
    isplitl [Hcr]; · iexact Hcr
    isplitl [O1 T1 S1]
    · iapply (dirPre_intro .cw c)
      isplitl [O1]; · iexact O1
      isplitl [T1] <;> iassumption
    isplitl [O2 T2 S2]
    · iapply (dirPre_intro .ccw c)
      isplitl [O2]; · iexact O2
      isplitl [T2] <;> iassumption
    isplitl [Hx] <;> iassumption
  iintro H
  imod (bodyEnd_close X Wt c K J) $$ [H] with H
  · isplitr; · iexact Hc
    iexact H
  imodintro
  iapply Hk; iexact H

/-! ## The region -/

/-- What the region's arrays hold when it is entered: the index array, the device's rows, its columns, anything. -/
structure Entry (Vin : Dev nD → Valuation τ sig (Elt F)) : Prop where
  meta_eq : ∀ c, Vin c main_v61 = (metaOf c : S34.Idx → BitVec 32)
  x_eq : ∀ c, Vin c main_v63 = X c
  w_eq : ∀ c, Vin c main_v64 = Wt c

variable (Vin : Dev nD → Valuation τ sig (Elt F))

def regArr (w : Fin cfg0.W) : Buf (Elt F) ((cfg0.win w).arr.view.loc (c : Thread nD τ)) := match w with
  | ⟨0, _⟩ => metaOf c
  | ⟨1, _⟩ => X c
  | ⟨2, _⟩ => Wt c
  | ⟨3, _⟩ => Vin c main_v65
def regAfter (w : Fin cfg0.W) : (cfg0.win w).block.Idx → Elt F (cfg0.win w).elt := match w with
  | ⟨0, _⟩ => metaOf c
  | ⟨1, _⟩ => X c
  | ⟨2, _⟩ => Wt c
  | ⟨3, _⟩ => outOf X Wt c

/-- What the region holds of its own before its one point, and after it. -/
def Φin : sProp 𝕄 := iprop(Xk X c ∗ (scrAny .cw c ∗ scrAny .ccw c) ∗ ∃ r, prngReg c r)
def Φout : sProp 𝕄 := iprop((semVal (barCell c) 0 ∗ Pipeline.ownSems0 ownSem c) ∗ (scrAny .cw c ∗ scrAny .ccw c) ∗ ∃ r, prngReg c r)

def dat0 : Dat τ (Elt F) ℕ ℕ UU ℕ cfg0 c where
  A w := regArr X Wt c Vin w
  after w _ := regAfter X Wt c w
  Φ t := if t.val = 0 then Φin X c else Φout c
  q _ := fullShare
  owed t := if t.val = 0 then owe0 c else 0

def pdats : (p : Fin 1) → (c : Dev nD) → Dat τ (Elt F) ℕ ℕ UU ℕ (Pipeline.pin (pcfgs (F := F)) (fun p => (cfgs p).toPCfg_adm) p) c
  | 0 => fun c => dat0 X Wt c Vin

theorem owesAt_intro (t : Fin (cfg0.N + 1)) (O : CellTallies nD τ sig ℕ) (h : (dat0 X Wt c Vin).owed t = O) :
    owesE c O ⊢ ((dat0 X Wt c Vin).owesAt 0 t : sProp 𝕄) := by
  unfold Dat.owesAt Pipeline.owesWithin Dat.bound owesE
  rw [h]
  iintro ⟨%W, HO⟩
  iexists W
  isplitr; · ipureintro; exact fun _ _ => Or.inl trivial
  iexact HO
theorem owesAt_elim (t : Fin (cfg0.N + 1)) (O : CellTallies nD τ sig ℕ) (h : (dat0 X Wt c Vin).owed t = O) :
    ((dat0 X Wt c Vin).owesAt 0 t : sProp 𝕄) ⊢ owesE c O := by
  unfold Dat.owesAt Pipeline.owesWithin owesE
  rw [h]
  iintro ⟨%W, -, HO⟩
  iexists W; iexact HO

theorem whole_emb (w : Fin cfg0.W) (t : Fin cfg0.N) (j : ((cfg0.win w).xblock (cfg0.grid.coords t)).Idx) (a) :
    (((cfg0.win w).rect t).emb j a).val = (j a).val := by
  rw [Rect.emb_apply]
  match w with
  | ⟨0, _⟩ => show 0 * _ + 1 * (j a).val = (j a).val; rw [Nat.zero_mul, Nat.zero_add, Nat.one_mul]
  | ⟨1, _⟩ => show 0 * _ + 1 * (j a).val = (j a).val; rw [Nat.zero_mul, Nat.zero_add, Nat.one_mul]
  | ⟨2, _⟩ => show 0 * _ + 1 * (j a).val = (j a).val; rw [Nat.zero_mul, Nat.zero_add, Nat.one_mul]
  | ⟨3, _⟩ => show 0 * _ + 1 * (j a).val = (j a).val; rw [Nat.zero_mul, Nat.zero_add, Nat.one_mul]

theorem before_0 (e) : (dat0 X Wt c Vin).before (0 : Fin 4) t0_0 e = (metaOf c : S34.Idx → BitVec 32) := by
  rw [Dat.before_fetched _ _ _ (fetch0_0 t0_0)]
  funext j
  have hm : (cfg0.win (0 : Fin 4)).moved (cfg0.grid.coords t0_0) j = true := ((cfg0.win (0 : Fin 4)).moved_iff _ j).mpr fun a => (j a).isLt
  unfold Dat.fetched Pipeline.Window.fill
  rw [dif_pos hm]
  exact congrArg (metaOf c) (funext fun a => Fin.ext (whole_emb (0 : Fin 4) t0_0 _ a))
theorem before_1 (e) : (dat0 X Wt c Vin).before (1 : Fin 4) t0_0 e = X c := by
  rw [Dat.before_fetched _ _ _ (fetch0_1 t0_0)]
  funext j
  have hm : (cfg0.win (1 : Fin 4)).moved (cfg0.grid.coords t0_0) j = true := ((cfg0.win (1 : Fin 4)).moved_iff _ j).mpr fun a => (j a).isLt
  unfold Dat.fetched Pipeline.Window.fill
  rw [dif_pos hm]
  exact congrArg (X c) (funext fun a => Fin.ext (whole_emb (1 : Fin 4) t0_0 _ a))
theorem before_2 (e) : (dat0 X Wt c Vin).before (2 : Fin 4) t0_0 e = Wt c := by
  rw [Dat.before_fetched _ _ _ (fetch0_2 t0_0)]
  funext j
  have hm : (cfg0.win (2 : Fin 4)).moved (cfg0.grid.coords t0_0) j = true := ((cfg0.win (2 : Fin 4)).moved_iff _ j).mpr fun a => (j a).isLt
  unfold Dat.fetched Pipeline.Window.fill
  rw [dif_pos hm]
  exact congrArg (Wt c) (funext fun a => Fin.ext (whole_emb (2 : Fin 4) t0_0 _ a))

theorem owns_at (b : Ref sig .tc) (f : b.ty.Contents (Elt F)) :
    (owns (c : Thread nD τ) (Memref.whole b) fullShare f : sProp 𝕄) ⊣⊢ (((c : Thread nD τ).loc b) ↦{fullShare} f) := by
  unfold owns
  simp only [Memref.view_whole, View.read_whole, View.set_whole]
  constructor
  · iintro ⟨%g, %hg, H⟩
    subst hg
    iexact H
  · iintro H
    iexists f
    isplitr; · ipureintro; rfl
    iexact H

theorem owns_meta : (owns (c : Thread nD τ) (Memref.whole cc0_stg0_0) fullShare (metaOf c : S34.Idx → BitVec 32) : sProp 𝕄) ⊣⊢ metaPts c := owns_at c cc0_stg0_0 (metaOf c)
theorem owns_x : (owns (c : Thread nD τ) (Memref.whole cc0_stg1_0) fullShare (X c) : sProp 𝕄) ⊣⊢ xAll X c fullShare := owns_at c cc0_stg1_0 (X c)
theorem owns_w : (owns (c : Thread nD τ) (Memref.whole cc0_stg2_0) fullShare (Wt c) : sProp 𝕄) ⊣⊢ wPts Wt c := owns_at c cc0_stg2_0 (Wt c)

theorem stage_0 : iprop(∃ e, owns (c : Thread nD τ) ((cfg0.win (0 : Fin 4)).stage (cfg0.slots t0_0 (0 : Fin 4))) fullShare ((dat0 X Wt c Vin).before (0 : Fin 4) t0_0 e)) ⊢ (metaPts c : sProp 𝕄) := by
  iintro ⟨%e, H⟩
  ihave H := (Entails.of_eq (congrArg (fun f => owns (c : Thread nD τ) ((cfg0.win (0 : Fin 4)).stage (cfg0.slots t0_0 (0 : Fin 4))) fullShare f) (before_0 X Wt c Vin e))) $$ H
  iapply ((owns_meta c).1) $$ H
theorem stage_1 : iprop(∃ e, owns (c : Thread nD τ) ((cfg0.win (1 : Fin 4)).stage (cfg0.slots t0_0 (1 : Fin 4))) fullShare ((dat0 X Wt c Vin).before (1 : Fin 4) t0_0 e)) ⊢ (xAll X c fullShare : sProp 𝕄) := by
  iintro ⟨%e, H⟩
  ihave H := (Entails.of_eq (congrArg (fun f => owns (c : Thread nD τ) ((cfg0.win (1 : Fin 4)).stage (cfg0.slots t0_0 (1 : Fin 4))) fullShare f) (before_1 X Wt c Vin e))) $$ H
  iapply ((owns_x X c).1) $$ H
theorem stage_2 : iprop(∃ e, owns (c : Thread nD τ) ((cfg0.win (2 : Fin 4)).stage (cfg0.slots t0_0 (2 : Fin 4))) fullShare ((dat0 X Wt c Vin).before (2 : Fin 4) t0_0 e)) ⊢ (wPts Wt c : sProp 𝕄) := by
  iintro ⟨%e, H⟩
  ihave H := (Entails.of_eq (congrArg (fun f => owns (c : Thread nD τ) ((cfg0.win (2 : Fin 4)).stage (cfg0.slots t0_0 (2 : Fin 4))) fullShare f) (before_2 X Wt c Vin e))) $$ H
  iapply ((owns_w Wt c).1) $$ H
theorem stage_3 : iprop(∃ e, owns (c : Thread nD τ) ((cfg0.win (3 : Fin 4)).stage (cfg0.slots t0_0 (3 : Fin 4))) fullShare ((dat0 X Wt c Vin).before (3 : Fin 4) t0_0 e)) ⊢ (outPts X Wt c (fun _ => False) : sProp 𝕄) := by
  iintro ⟨%e, H⟩
  unfold outPts
  iexists ((dat0 X Wt c Vin).before (3 : Fin 4) t0_0 e)
  isplitr; · ipureintro; exact fun _ h => h.elim
  iapply ((owns_at c cc0_stg3_0 ((dat0 X Wt c Vin).before (3 : Fin 4) t0_0 e)).1) $$ H
theorem out_end : outPts X Wt c (fun _ => True) ⊢ (outM.view.loc (c : Thread nD τ) ↦{fullShare} (outOf X Wt c : Buf (Elt F) (outM.view.loc (c : Thread nD τ))) : sProp 𝕄) := by
  unfold outPts
  iintro ⟨%f, %hf, H⟩
  obtain rfl : f = outOf X Wt c := funext fun i => hf i trivial
  iexact H

theorem regBody : (defs₀ (F := F)) .tc cfg0.body (cfg0.bodyArgs t0_0 (cfg0.slots t0_0)) = body := body_eq t0_0

theorem body_obligation : BodyObligation (dat0 X Wt c Vin) (defs₀ (F := F)) 𝒱₀ 0 Set.univ := fun t => by
  obtain rfl := fin_N0 t
  have e0 : (dat0 X Wt c Vin).Φ t0_0.castSucc = Φin X c := rfl
  have e1 : (dat0 X Wt c Vin).Φ t0_0.succ = Φout c := rfl
  rw [bigSep_W0, bigSep_W0, e0, e1]
  refine (?_ : _ ⊢ _).trans (Entails.of_eq (congrArg (fun p => Run c p _) (regBody (F := F)).symm))
  unfold Φin
  iintro ⟨⟨Hk, ⟨S1, S2⟩, Hp⟩, HO, H0, H1, H2, H3⟩
  ihave H0 := (stage_0 X Wt c Vin) $$ H0
  ihave H1 := (stage_1 X Wt c Vin) $$ H1
  ihave H2 := (stage_2 X Wt c Vin) $$ H2
  ihave H3 := (stage_3 X Wt c Vin) $$ H3
  ihave HO := (owesAt_elim X Wt c Vin t0_0.castSucc (owe0 c) rfl) $$ HO
  iapply (run_device X Wt c) $$ [Hk S1 S2 HO H0 H1 H2 H3]
  · isplitl [HO]; · iexact HO
    unfold devPre work
    isplitl [Hk]; · iexact Hk
    isplitl [S1]; · iexact S1
    isplitl [S2]; · iexact S2
    isplitl [H1]; · iexact H1
    isplitl [H0]; · iexact H0
    isplitl [H2] <;> iassumption
  unfold devPost work Φout
  iintro ⟨HO, Hz, S1, S2, H1, H0, H2, H3⟩
  isplitl [Hz S1 S2 Hp]
  · isplitl [Hz]; · iexact Hz
    isplitl [S1 S2]
    · isplitl [S1] <;> iassumption
    iexact Hp
  isplitl [HO]; · iapply (owesAt_intro X Wt c Vin t0_0.succ 0 rfl); iexact HO
  isplitl [H0]; · iapply ((owns_meta c).2) $$ H0
  isplitl [H1]; · iapply ((owns_x X c).2) $$ H1
  isplitl [H2]; · iapply ((owns_w Wt c).2) $$ H2
  ihave H3 := (out_end X Wt c) $$ H3
  iapply ((owns_at c cc0_stg3_0 (outOf X Wt c)).2) $$ H3

theorem rest_scr : (Pipeline.scopedRest (Ix := ℕ) (Name := ℕ) (U := UU) (Lvl := ℕ) (Val := Elt F) spec0 c : sProp 𝕄) = iprop(scrAny .cw c ∗ scrAny .ccw c) := scopedRest0_eq c

theorem hin : iprop(Pipeline.scopedRest (Ix := ℕ) (Name := ℕ) (U := UU) (Lvl := ℕ) (Val := Elt F) spec0 c ∗ (∃ r, prngReg c r) ∗ StableHlo.held (c : Thread nD τ) ∅ (Vin c) ∗ Xk X c)
    ⊢ ((dat0 X Wt c Vin).Φ 0 : sProp 𝕄) := by
  have e0 : (dat0 X Wt c Vin).Φ 0 = Φin X c := rfl
  rw [e0, rest_scr]
  unfold Φin
  iintro ⟨Hs, Hp, -, Hx⟩
  isplitl [Hx]; · iexact Hx
  isplitl [Hs] <;> iassumption

/-- What the region keeps for the end: the barrier's counter, at zero. -/
def Yk : sProp 𝕄 := semVal (barCell c) 0

theorem hout (W' : Valuation τ sig (Elt F)) : (dat0 X Wt c Vin).Φ (Fin.last cfg0.N)
    ⊢ (iprop(Pipeline.scopedRest (Ix := ℕ) (Name := ℕ) (U := UU) (Lvl := ℕ) (Val := Elt F) spec0 c ∗ (∃ r, prngReg c r) ∗ StableHlo.held (c : Thread nD τ) ∅ W'
        ∗ Pipeline.ownSems0 ownSem c ∗ Yk c) : sProp 𝕄) := by
  have e0 : (dat0 X Wt c Vin).Φ (Fin.last cfg0.N) = Φout c := rfl
  rw [e0, rest_scr]
  unfold Φout Yk StableHlo.held
  rw [bigSep_empty]
  iintro ⟨⟨Hb, Hz⟩, Hs, Hp⟩
  isplitl [Hs]; · iexact Hs
  isplitl [Hp]; · iexact Hp
  isplitr; · iempintro
  isplitl [Hz] <;> iassumption

theorem above_owe0 : Above 0 (owe0 c) := by
  have hd : ∀ d, Above 0 (oweDir d c) := fun d => above_add (above_sendsO d c 0 0 (by decide)) (above_creditsO d c 0 0 (by decide))
  exact above_add (above_add (above_add (hd .cw) (hd .ccw)) (above_barUnit .cw c)) (above_barUnit .ccw c)

/-- What the buffers hold when the region is left. -/
def Vout (c : Dev nD) : Valuation τ sig (Elt F) := Function.update (Vin c) main_v65 (outOf X Wt c)

theorem arr_entry (h : Entry X Wt Vin) (w : Fin cfg0.W) : regArr X Wt c Vin w = Vin c (Proc.devRef .tc (Pipeline.arrRef spec0 w)) := match w with
  | ⟨0, _⟩ => (h.meta_eq c).symm
  | ⟨1, _⟩ => (h.x_eq c).symm
  | ⟨2, _⟩ => (h.w_eq c).symm
  | ⟨3, _⟩ => rfl

theorem arr_out : (dat0 X Wt c Vin).arrAt (3 : Fin 4) cfg0.N = outOf X Wt c := by
  refine (dat0 X Wt c Vin).arrAt_eq_of_cover (3 : Fin 4) _ (fun t _ => ?_) fun i => ⟨t0_0, flush0_3 _, ?_⟩
  · funext j
    exact congrArg (outOf X Wt c) (funext fun a => Fin.ext (whole_emb (3 : Fin 4) t j a).symm)
  · refine Finset.mem_map.mpr ⟨i, Finset.mem_univ _, ?_⟩
    exact funext fun a => Fin.ext (whole_emb (3 : Fin 4) t0_0 i a)

theorem arr_exit (h : Entry X Wt Vin) (w : Fin cfg0.W) :
    (dat0 X Wt c Vin).arrAt w cfg0.N = Vout X Wt Vin c (Proc.devRef .tc (Pipeline.arrRef spec0 w)) := by
  unfold Vout
  match w with
  | ⟨0, _⟩ => exact ((dat0 X Wt c Vin).arrAt_in (0 : Fin 4) rfl _).trans ((h.meta_eq c).symm.trans (Function.update_of_ne (by decide) _ _).symm)
  | ⟨1, _⟩ => exact ((dat0 X Wt c Vin).arrAt_in (1 : Fin 4) rfl _).trans ((h.x_eq c).symm.trans (Function.update_of_ne (by decide) _ _).symm)
  | ⟨2, _⟩ => exact ((dat0 X Wt c Vin).arrAt_in (2 : Fin 4) rfl _).trans ((h.w_eq c).symm.trans (Function.update_of_ne (by decide) _ _).symm)
  | ⟨3, _⟩ => exact (arr_out X Wt c Vin).trans (Function.update_self (Proc.devRef .tc main_v65) (outOf X Wt c) (Vin c)).symm

/-- The buffers of the host program that are no array of the region. -/
def restRefs : Finset (DevRef τ sig) := Pipeline.ucRefs τ sig \ Pipeline.arrRefs spec0

theorem kitP : Pipeline.PLaunchFacts (nD := nD) (τ := τ) (pcfgs (F := F)) 0 where
  cellOf_inj a := by rw [Subsingleton.elim a (fun p => (cfgs p).toPCfg_adm)]; exact cellOf_inj
  win := winFacts0
  pre := Pipeline.PreFacts.none _
  block_pos := block_pos0
  arr_whole := arr_whole0
  stage_whole := stage_whole0

theorem cutOwed (t : Fin (cfg0.N + 1)) (g : GSem nD τ sig) (i : ℕ) (h : 0 < (dat0 X Wt c Vin).owed t g i) : i ∈ L g ∧ 0 < lv g i := by
  have e : (dat0 X Wt c Vin).owed t = if t.val = 0 then owe0 c else 0 := rfl
  rw [e] at h
  split at h
  · exact above_owe0 c g i h
  · exact absurd h (Nat.lt_irrefl 0)

theorem rest_same (c : Dev nD) (b : DevRef τ sig) (hb : b ∈ restRefs \ (∅ : Finset (DevRef τ sig))) : Vout X Wt Vin c b = Vin c b := by
  refine Function.update_of_ne (fun e => ?_) _ _
  subst e
  have := (Finset.mem_sdiff.mp (Finset.mem_sdiff.mp hb).1).2
  exact this (by decide)

theorem ownFacts : Pipeline.OwnSemFacts spec0 ownSem := by decide

theorem stage_use : ∀ (w : Fin cfg0.W) (s : Fin (cfg0.win w).nbuf), useOf (.dma ((cfg0.win w).sem s)) = .other := by decide
theorem stage_mem (w : Fin cfg0.W) (s : Fin (cfg0.win w).nbuf) : 0 ∈ L ((c : Thread nD τ), .dma ((cfg0.win w).sem s)) := by rw [L_tc]; decide
theorem stage_lv (w : Fin cfg0.W) (s : Fin (cfg0.win w).nbuf) : lv ((c : Thread nD τ), .dma ((cfg0.win w).sem s)) 0 ≤ 0 := by
  show lvOf (useOf (.dma ((cfg0.win w).sem s))) 0 ≤ 0
  rw [stage_use]; exact Nat.le_refl 0

set_option backward.isDefEq.respectTransparency.types false in
def region (h : Entry X Wt Vin) :
    Pipeline.RegionSeg (pcfgs (F := F)) (fun p => (cfgs p).toPCfg_adm) (pdats X Wt Vin) 0 defs₀ 𝒱₀ L lv 0 :=
  Pipeline.RegionSeg.ofTalk (pcfgs (F := F)) (fun p => (cfgs p).toPCfg_adm) (pdats X Wt Vin) 0 defs₀ 𝒱₀ L lv 0 ownSem ownFacts
    ∅ restRefs (Finset.empty_subset _) kitP rfl (fun c => (body_obligation X Wt c Vin).loose)
    (fun _ => 0) owe0 (fun c => (zero_add _).symm) (fun c => rfl) (fun _ => rfl) (fun c => (dat0 X Wt c Vin).share_full fun _ => rfl)
    Vin (Vout X Wt Vin) (rest_same X Wt Vin)
    (Tk X) Yk (Xk X) Yk (hopen X) (fun c => hin X Wt c Vin) (fun c => hout X Wt c Vin (Vout X Wt Vin c))
    (fun c => by iintro H; imodintro; iexact H)
    (fun _ => 0)
    ⟨fun c w s => stage_mem c w s, fun c w s => stage_lv c w s, fun c t g i hg => cutOwed X Wt c Vin t g i hg⟩
    (fun _ => iprop(emp))
    (fun c w => arr_entry X Wt c Vin h w) (fun c w => arr_exit X Wt c Vin h w)

end Cert.KernelIdeal.Ag

end
-- ==== Proof.Deal.lean ====
/- What the launch makes for the whole ring is dealt to the devices: to each what it pays with, what it is owed and what it reads with. -/
module

public import proofs.«01_k».proof.Proof.Region

@[expose] public section

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok)
open Cert.KernelIdeal.Gen

variable {F : FTy → Type} [FloatOps F]

local notation "𝕄" => MT nD τ sig ℕ (Elt F) ℕ UU ℕ

variable (d : Dir) (c : Dev nD)

/-! ## Over the ring -/

/-- The devices each taking another's, the whole is the same. -/
theorem around (e : Dir → Dev nD ≃ Dev nD) (P : Dir → Dev nD → sProp 𝕄) :
    (bigSep Finset.univ fun c => bigSep Finset.univ fun d => P d c) = bigSep Finset.univ fun c => bigSep Finset.univ fun d => P d (e d c) := by
  rw [bigSep_univ_comm, bigSep_univ_comm (fun c d => P d (e d c))]
  exact bigSep_congr fun d _ => bigSep_univ_equiv (e d) (P d)
theorem fin_range (n : ℕ) (P : ℕ → sProp 𝕄) : (bigSep Finset.univ fun i : Fin n => P i.val) = bigSep (Finset.range n) P := by
  have h := bigSep_map (s := Finset.univ) (Fin.valEmbedding (n := n)) (Φ := P)
  rw [Fin.map_valEmbedding_univ, Nat.Iio_eq_range] at h
  exact h.symm

/-! ## What a device is owed -/

/-- What a device is owed of a direction: the units of its segments as they arrive, and its credits. -/
def inDir : CellTallies nD τ sig ℕ :=
  (∑ j ∈ Finset.Ico 0 (2 * d.hops), tallyAt (recvCell c d (slotOf (j / 2)) (gOf j)) (j / 2) N) + ∑ r ∈ Finset.Ico 0 (d.hops - 4), tallyAt (creditCell c d) r 1
def incoming : CellTallies nD τ sig ℕ := inDir .cw c + inDir .ccw c + tallyAt (barCell c) 0 1 + tallyAt (barCell c) 0 1

theorem owed_dir : ∑ c, oweDir d c = ∑ c, inDir d c := by
  unfold oweDir inDir
  rw [Finset.sum_add_distrib, Finset.sum_add_distrib]
  exact congrArg₂ (· + ·)
    (Equiv.sum_comp (nxtEquiv d) fun c => ∑ j ∈ Finset.Ico 0 (2 * d.hops), (tallyAt (recvCell c d (slotOf (j / 2)) (gOf j)) (j / 2) N : CellTallies nD τ sig ℕ))
    (Equiv.sum_comp (frmEquiv d) fun c => ∑ r ∈ Finset.Ico 0 (d.hops - 4), (tallyAt (creditCell c d) r 1 : CellTallies nD τ sig ℕ))
theorem owed_bar : ∑ c, barUnit d c = ∑ c, (tallyAt (barCell c) 0 1 : CellTallies nD τ sig ℕ) :=
  Equiv.sum_comp (nxtEquiv d) fun c => (tallyAt (barCell c) 0 1 : CellTallies nD τ sig ℕ)
theorem owed_total : ∑ c, owe0 c = ∑ c, incoming c := by
  unfold owe0 incoming
  simp only [Finset.sum_add_distrib]
  rw [owed_dir, owed_dir, owed_bar, owed_bar]

/-- At cells of one device only. -/
def AtDev (c : Dev nD) (T : CellTallies nD τ sig ℕ) : Prop := ∀ g : GSem nD τ sig, g.1 ≠ (c : Thread nD τ) → T g = 0
theorem atDev_add {T T' : CellTallies nD τ sig ℕ} (h : AtDev c T) (h' : AtDev c T') : AtDev c (T + T') := fun g hg => by
  rw [Pi.add_apply, h g hg, h' g hg, add_zero]
theorem atDev_sum {I : Type} (s : Finset I) (T : I → CellTallies nD τ sig ℕ) (h : ∀ i ∈ s, AtDev c (T i)) : AtDev c (∑ i ∈ s, T i) := fun g hg => by
  rw [Finset.sum_apply]; exact Finset.sum_eq_zero fun i hi => h i hi g hg
theorem atDev_tally (sm : SemLoc sig) (i n : ℕ) : AtDev c (tallyAt ((c : Thread nD τ), sm) i n) := fun g hg =>
  tallyAt_ne_cell (fun e => hg (congrArg Prod.fst e)) _ _
theorem atDev_inDir : AtDev c (inDir d c) :=
  atDev_add c (atDev_sum c _ _ fun j _ => atDev_tally c _ _ _) (atDev_sum c _ _ fun r _ => atDev_tally c _ _ _)
theorem atDev_incoming : AtDev c (incoming c) :=
  atDev_add c (atDev_add c (atDev_add c (atDev_inDir .cw c) (atDev_inDir .ccw c)) (atDev_tally c _ _ _)) (atDev_tally c _ _ _)

/-- A tally at cells of one device is the sum of what it has at each. -/
theorem atDev_cells {T : CellTallies nD τ sig ℕ} (h : AtDev c T) : ∑ sm : SemLoc sig, tallyOn ((c : Thread nD τ), sm) (T ((c : Thread nD τ), sm)) = T := by
  funext g
  rw [Finset.sum_apply]
  by_cases hg : g.1 = (c : Thread nD τ)
  · obtain ⟨th, sm⟩ := g
    obtain rfl : th = (c : Thread nD τ) := hg
    rw [Finset.sum_eq_single sm (fun sm' _ hne => tallyOn_ne (fun e => hne (congrArg Prod.snd e).symm) _) (fun hn => absurd (Finset.mem_univ sm) hn), tallyOn_self]
  · rw [h g hg]
    exact Finset.sum_eq_zero fun sm _ => tallyOn_ne (fun e => hg (congrArg Prod.fst e)) _

theorem credit_at (sm : SemLoc sig) :
    launchCredit (Pipeline.owing owe0) 0 ((c : Thread nD τ), sm) = incoming c ((c : Thread nD τ), sm) := by
  have e : launchCredit (Pipeline.owing owe0) 0 ((c : Thread nD τ), sm) = (∑ c, owe0 c) ((c : Thread nD τ), sm) := by
    refine Finsupp.ext fun i => ?_
    rw [Pipeline.launchCredit_owing, Finset.sum_apply, Finsupp.finsetSum_apply]
  rw [e, owed_total, Finset.sum_apply]
  refine Finset.sum_eq_single c (fun c' _ hne => atDev_incoming c' _ fun e => hne ?_) (fun hn => absurd (Finset.mem_univ c) hn)
  exact (congrArg (fun t : Thread nD τ => t.1) e).symm

theorem cred_over {I : Type} [DecidableEq I] (s : Finset I) (T : I → CellTallies nD τ sig ℕ) : (cred (∑ i ∈ s, T i) : sProp 𝕄) = bigSep s fun i => cred (T i) := by
  induction s using Finset.induction_on with
  | empty => rw [Finset.sum_empty, cred_zero, bigSep_empty]; rfl
  | insert i s hi ih => rw [Finset.sum_insert hi, bigSep_insert hi, BI.Entails.antisymm (cred_add _ _).1 (cred_add _ _).2, ih]; rfl

theorem launch_incoming : (Pipeline.launchCred owe0 c : sProp 𝕄) = cred (incoming c) := by
  unfold Pipeline.launchCred
  rw [← atDev_cells c (atDev_incoming c), cred_over]
  exact bigSep_congr fun sm _ => by rw [credit_at]

/-- The credits of a direction's waits. -/
def inCred : sProp 𝕄 := iprop(todo (recvCred d c) 0 (2 * d.hops) ∗ todo (creditCred d c) 0 (d.hops - 4))

theorem cred_inDir : cred (inDir d c) ⊢ (inCred d c : sProp 𝕄) := by
  unfold inDir inCred todo
  refine (cred_add _ _).1.trans ?_
  rw [cred_over, cred_over]
  exact BI.Entails.refl _

theorem creds : (Pipeline.launchCred owe0 c : sProp 𝕄) ⊢ iprop(cred (tallyAt (barCell c) 0 2) ∗ bigSep Finset.univ fun d => inCred d c) := by
  have e : incoming c = (inDir .cw c + inDir .ccw c) + tallyAt (barCell c) 0 2 := by
    unfold incoming; rw [add_assoc, tallyAt_add]
  rw [launch_incoming, e, bigSep_dir]
  iintro H
  ihave H := ((cred_add _ _).1) $$ H
  icases H with ⟨H, Hb⟩
  ihave H := ((cred_add _ _).1) $$ H
  icases H with ⟨H1, H2⟩
  isplitl [Hb]; · iexact Hb
  isplitl [H1]
  · iapply (cred_inDir .cw c); iexact H1
  · iapply (cred_inDir .ccw c); iexact H2

/-! ## The rights to pay -/

/-- A right to pay: at a barrier; for a transfer at the sender and at the receiver; for a credit. -/
abbrev Pay : Type := Dir ⊕ (Dir × (Fin 32 ⊕ (Fin 32 ⊕ Fin 12)))
def payOf : Pay → SemLoc sig × ℕ × ℕ
  | .inl d => (.reg barSem, 0, barDuty d)
  | .inr (d, .inl t) => (.dma (sSem d (slotOf (t.val / 2)) (gOf t.val)), t.val / 8, 0)
  | .inr (d, .inr (.inl t)) => (.dma (rSem d (slotOf (t.val / 2)) (gOf t.val)), t.val / 8, 0)
  | .inr (d, .inr (.inr r)) => (.reg (cSem d), 0, r.val)
def usePay : Pay → Use × ℕ × ℕ
  | .inl d => (.bar, 0, barDuty d)
  | .inr (d, .inl t) => (.send d (slotOf (t.val / 2)) (gOf t.val), t.val / 8, 0)
  | .inr (d, .inr (.inl t)) => (.recv d (slotOf (t.val / 2)) (gOf t.val), t.val / 8, 0)
  | .inr (d, .inr (.inr r)) => (.credit d, 0, r.val)
theorem usePay_eq (p : Pay) : usePay p = (useOf (payOf p).1, (payOf p).2) := by
  rcases p with d | ⟨d, t | t | r⟩
  · unfold usePay payOf; rw [use_bar]
  · unfold usePay payOf; rw [use_send]
  · unfold usePay payOf; rw [use_recv]
  · unfold usePay payOf; rw [use_credit]
theorem number_eq {t t' : ℕ} (h1 : slotOf (t / 2) = slotOf (t' / 2)) (h2 : gOf t = gOf t') (h3 : t / 8 = t' / 8) : t = t' := by
  have h1 : t / 2 % 4 = t' / 2 % 4 := congrArg Fin.val h1
  have h2 : t % 2 = t' % 2 := congrArg Fin.val h2
  omega
theorem usePay_inj : Function.Injective usePay := by
  rintro (d | ⟨d, t | t | r⟩) (d' | ⟨d', t' | t' | r'⟩) h <;> simp only [usePay, Prod.mk.injEq, Use.send.injEq, Use.recv.injEq, Use.credit.injEq, reduceCtorEq, false_and, true_and, and_true] at h
  · cases d <;> cases d' <;> first | rfl | exact absurd h (by decide)
  · obtain ⟨⟨rfl, h1, h2⟩, h3⟩ := h
    obtain rfl := Fin.ext (number_eq h1 h2 h3)
    rfl
  · obtain ⟨⟨rfl, h1, h2⟩, h3⟩ := h
    obtain rfl := Fin.ext (number_eq h1 h2 h3)
    rfl
  · obtain ⟨rfl, h1⟩ := h
    obtain rfl := Fin.ext h1
    rfl
theorem payOf_inj : Function.Injective payOf := fun p p' h => usePay_inj (by rw [usePay_eq, usePay_eq, h])
def payEmb : Dev nD × Pay ↪ GSem nD τ sig × ℕ × ℕ :=
  ⟨fun x => (((x.1 : Thread nD τ), (payOf x.2).1), (payOf x.2).2), fun _ _ h =>
    Prod.ext (congrArg (fun t : GSem nD τ sig × ℕ × ℕ => t.1.1.1) h)
      (payOf_inj (Prod.ext (congrArg (fun t : GSem nD τ sig × ℕ × ℕ => t.1.2) h) (congrArg (fun t : GSem nD τ sig × ℕ × ℕ => t.2) h)))⟩
def pays : Finset (GSem nD τ sig × ℕ × ℕ) := Finset.univ.map payEmb

def barTok : sProp 𝕄 := dutyTok ER (barCell c) 0 (barDuty d)
def sTok (t : ℕ) : sProp 𝕄 := dutyTok ER (sendCell c d (slotOf (t / 2)) (gOf t)) (t / 8) 0
def rTok (t : ℕ) : sProp 𝕄 := dutyTok ER (recvCell c d (slotOf (t / 2)) (gOf t)) (t / 8) 0
def cTok (r : ℕ) : sProp 𝕄 := dutyTok ER (creditCell c d) 0 r
def wTok (t : ℕ) : sProp 𝕄 := writeTok ES (c, d, slotOf (t / 2), gOf t) (t / 8 + 1)
/-- The rights to pay at a device's own cells. -/
def paysAt : sProp 𝕄 :=
  iprop(barTok d c ∗ bigSep (Finset.range 32) (sTok d c) ∗ bigSep (Finset.range 32) (rTok d c) ∗ bigSep (Finset.range 12) (cTok d c))

theorem pays_dev : (bigSep Finset.univ fun p : Pay => (dutyTok ER ((c : Thread nD τ), (payOf p).1) (payOf p).2.1 (payOf p).2.2 : sProp 𝕄))
    = bigSep Finset.univ fun d => paysAt d c := by
  unfold paysAt
  rw [bigSep_univ_sum, bigSep_univ_prod, bigSep_sep']
  refine congrArg₂ (fun A B : sProp 𝕄 => iprop(A ∗ B)) rfl (bigSep_congr fun d _ => ?_)
  rw [bigSep_univ_sum, bigSep_univ_sum, ← fin_range, ← fin_range, ← fin_range]
  rfl
theorem pays_eq : bigSep pays (fun x => (dutyTok ER x.1 x.2.1 x.2.2 : sProp 𝕄)) = bigSep Finset.univ fun c => bigSep Finset.univ fun d => paysAt d c := by
  unfold pays
  rw [bigSep_map, bigSep_univ_prod]
  exact bigSep_congr fun c _ => pays_dev c

/-! ## The rights to write and to read -/

def wEmb : Dev nD × Dir × Fin 32 ↪ Key × ℕ :=
  ⟨fun x => ((x.1, x.2.1, slotOf (x.2.2.val / 2), gOf x.2.2.val), x.2.2.val / 8), fun x y h => by
    obtain ⟨c, d, t⟩ := x
    obtain ⟨c', d', t'⟩ := y
    simp only [Prod.mk.injEq] at h
    obtain ⟨⟨rfl, rfl, h1, h2⟩, h3⟩ := h
    obtain rfl := Fin.ext (number_eq h1 h2 h3)
    rfl⟩
theorem writes : bigSep ((Finset.univ : Finset Key) ×ˢ Finset.range 4) (fun x => (writeTok ES x.1 (x.2 + 1) : sProp 𝕄))
    ⊢ bigSep Finset.univ fun c => bigSep Finset.univ fun d => bigSep (Finset.range 32) (wTok d c) := by
  have hs : (Finset.univ : Finset (Dev nD × Dir × Fin 32)).map wEmb ⊆ (Finset.univ : Finset Key) ×ˢ Finset.range 4 := fun x hx => by
    obtain ⟨y, -, rfl⟩ := Finset.mem_map.mp hx
    refine Finset.mem_product.mpr ⟨Finset.mem_univ _, Finset.mem_range.mpr ?_⟩
    show y.2.2.val / 8 < 4
    have := y.2.2.isLt
    omega
  refine (show _ ⊢ _ from bigSep_subset hs).trans (Entails.of_eq ?_)
  rw [bigSep_map, bigSep_univ_prod]
  refine bigSep_congr fun c _ => ?_
  rw [bigSep_univ_prod]
  refine bigSep_congr fun d _ => ?_
  rw [← fin_range]
  rfl
theorem readers : bigSep Finset.univ (fun k : Key => (readerAt ES k 0 : sProp 𝕄))
    = bigSep Finset.univ fun c => bigSep Finset.univ fun d => todo (reader0 d c) 0 8 := by
  rw [bigSep_univ_prod]
  refine bigSep_congr fun c _ => ?_
  rw [bigSep_univ_prod]
  refine bigSep_congr fun d _ => ?_
  exact (win_segs (fun x : Fin 4 × Fin 2 => (readerAt ES (c, d, x.1, x.2) 0 : sProp 𝕄)) 0).symm

/-! ## A direction's deal -/

/-- What a device pays a direction with. -/
def paysTo : sProp 𝕄 :=
  iprop(barTok d (nxt d c) ∗ bigSep (Finset.range 32) (sTok d c) ∗ bigSep (Finset.range 32) (rTok d (nxt d c)) ∗ bigSep (Finset.range 12) (cTok d (frm d c)))

theorem pays_around : (bigSep Finset.univ fun c => bigSep Finset.univ fun d => (paysAt d c : sProp 𝕄)) = bigSep Finset.univ fun c => bigSep Finset.univ fun d => paysTo d c := by
  unfold paysAt paysTo
  simp only [bigSep_sep']
  rw [around nxtEquiv barTok, around nxtEquiv (fun d c => bigSep (Finset.range 32) (rTok (F := F) d c)),
    around frmEquiv (fun d c => bigSep (Finset.range 12) (cTok (F := F) d c))]
  rfl
theorem writes_around : (bigSep Finset.univ fun c => bigSep Finset.univ fun d => bigSep (Finset.range 32) (wTok (F := F) d c))
    = bigSep Finset.univ fun c => bigSep Finset.univ fun d => bigSep (Finset.range 32) (wTok (F := F) d (nxt d c)) :=
  around nxtEquiv fun d c => bigSep (Finset.range 32) (wTok (F := F) d c)

theorem ico_sub {n m : ℕ} (h : n ≤ m) : Finset.Ico 0 n ⊆ Finset.range m := fun x hx => by
  have := Finset.mem_Ico.mp hx
  exact Finset.mem_range.mpr (by omega)

theorem sends_deal : iprop(bigSep (Finset.range 32) (sTok d c) ∗ bigSep (Finset.range 32) (rTok d (nxt d c)) ∗ bigSep (Finset.range 32) (wTok d (nxt d c)))
    ⊢ (todo (sendTok d c) 0 (2 * d.hops) : sProp 𝕄) := by
  have h32 := ico_sub (show 2 * d.hops ≤ 32 by have := hops_le d; omega)
  unfold todo
  refine (show _ ⊢ _ from BI.sep_mono (bigSep_subset h32) (BI.sep_mono (bigSep_subset h32) (bigSep_subset h32))).trans (Entails.of_eq ?_)
  have e : (bigSep (Finset.Ico 0 (2 * d.hops)) fun t => iprop(sTok d c t ∗ rTok d (nxt d c) t ∗ wTok d (nxt d c) t) : sProp 𝕄)
      = bigSep (Finset.Ico 0 (2 * d.hops)) (sendTok d c) := rfl
  rw [← e, bigSep_sep', bigSep_sep']
  rfl

/-- What a direction is dealt. -/
def dealt : sProp 𝕄 :=
  iprop(paysTo d c ∗ bigSep (Finset.range 32) (wTok d (nxt d c)) ∗ todo (reader0 d c) 0 8 ∗ inCred d c)

theorem deal_dir : dealt d c ⊢ (dirTk d c : sProp 𝕄) := by
  have h12 := ico_sub (show d.hops - 4 ≤ 12 by have := hops_le d; omega)
  have hc : bigSep (Finset.range 12) (cTok d (frm d c)) ⊢ (todo (creditTok d c) 0 (d.hops - 4) : sProp 𝕄) := bigSep_subset h12
  have hb : barTok d (nxt d c) ⊢ (dutyTok ER (barCell (nxt d c)) 0 (barDuty d) : sProp 𝕄) := BI.Entails.refl _
  unfold dealt paysTo inCred dirTk
  iintro ⟨⟨H1, H2, H3, H4⟩, H5, H6, H7, H8⟩
  isplitl [H7]; · iexact H7
  isplitl [H2 H3 H5]
  · iapply (sends_deal d c)
    isplitl [H2]; · iexact H2
    isplitl [H3] <;> iassumption
  isplitl [H4]; · iapply hc; iexact H4
  isplitl [H8]; · iexact H8
  isplitl [H6]; · iexact H6
  iapply hb; iexact H1

end Cert.KernelIdeal.Ag

end
-- ==== Proof.Start.lean ====
/- The run: the launch makes what every device is entered with, and every buffer ends as the last valuation says, every counter at zero. -/
module

public import proofs.«01_k».proof.Proof.Deal
public import proofs.«01_k».proof.Proof.Gen.KernelIdeal.Regions
public import Idealize.ShloMosaic.Lib.Quiescent

@[expose] public section

set_option maxRecDepth 1180

noncomputable section

namespace Cert.KernelIdeal.Ag

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slot slotInv readerAt released writeTok initSlots)
open Idealize.ShloMosaic.Pipeline (Dat Seg RegionSeg)
open Idealize.ShloMosaic.Smoke (bigSep_pair bigSep_unpair)
open Cert.KernelIdeal.Gen

variable {F : FTy → Type} [FloatOps F]

local notation "𝕄" => MT nD τ sig ℕ (Elt F) ℕ UU ℕ

variable (X : Dev nD → Blk F) (Wt : Dev nD → Wts F)
variable (c : Dev nD)

/-! ## The cells at the launch -/

theorem cells_apart : Disjoint barCells ownCells := by
  rw [Finset.disjoint_left]
  intro g h1 h2
  obtain ⟨c, -, rfl⟩ := Finset.mem_map.mp h1
  obtain ⟨x, -, h⟩ := Finset.mem_map.mp h2
  exact ownSem_ne_bar x.2 (congrArg Prod.snd h)

theorem only_bar : ∀ sm : SemLoc sig, sm.isScoped .tc = false → sm = .reg barSem := by decide

theorem unscoped_bar : (unscopedSems0 c : sProp 𝕄) = semVal (barCell c) 0 := by
  unfold unscopedSems0
  rw [show (Finset.univ.filter fun sm : SemLoc sig => ¬ sm.isScoped .tc) = {SemLoc.reg barSem} from by decide, bigSep_singleton]

/-! ## What the launch makes -/

abbrev roundsU : URounds (GSem nD τ sig) ℕ := launchOf barCells ownCells pays
abbrev slotsU : USlots Key := initSlots Finset.univ 4
def u₀ : UU :=
  (initOf (Pipeline.cells cfgs cellOf_inj) (Pipeline.launchToks cfgs cellOf_inj), (roundsU, slotsU))

/-- The protocol's element, on device 0 until it is dealt. -/
def Gp (c : Dev nD) : sProp 𝕄 := if c = 0 then iprop(BI.own (ER roundsU) ∗ BI.own (ES slotsU)) else iprop(emp)
theorem Gp_all : bigSep Finset.univ Gp ⊢ (iprop(BI.own (ER roundsU) ∗ BI.own (ES slotsU)) : sProp 𝕄) := by
  have e : Gp (F := F) 0 = iprop(BI.own (ER roundsU) ∗ BI.own (ES slotsU)) := if_pos rfl
  rw [← e]
  exact bigSep_elim (Finset.mem_univ _)
theorem Gp_intro : iprop(BI.own (ER roundsU) ∗ BI.own (ES slotsU)) ⊢ (bigSep Finset.univ Gp : sProp 𝕄) := by
  have e : Gp (F := F) 0 = iprop(BI.own (ER roundsU) ∗ BI.own (ES slotsU)) := if_pos rfl
  have he : bigSep (Finset.univ.erase (0 : Dev nD)) (Gp (F := F)) = iprop(emp) :=
    (bigSep_congr fun c hc => (if_neg (Finset.ne_of_mem_erase hc) : Gp (F := F) c = (BI.emp : sProp 𝕄))).trans (bigSep_emp_const _)
  rw [bigSep_univ_at _ (0 : Dev nD), he, e]
  iintro H
  isplitl [H]; · iexact H
  iempintro

theorem own_both (a : URounds (GSem nD τ sig) ℕ) (b : USlots Key) :
    BI.own ((embR : Emb UTalk 𝕄) (a, b)) ⊢ (iprop(BI.own (ER a) ∗ BI.own (ES b)) : sProp 𝕄) := own_pair_emb embR a b

/-! ## The global step -/

/-- A device's part: its barrier's position, its rights to open its cells, its directions' deals. -/
def part : sProp 𝕄 :=
  iprop((atPos ER (barCell c) 0 ∅ 0 ∗ cred (tallyAt (barCell c) 0 2) ∗ bigSep Finset.univ fun o : Own => openTok ER ((c : Thread nD τ), ownSem o))
    ∗ bigSep Finset.univ fun d => dealt d c)

theorem part_intro (K : GSem nD τ sig → ℕ) (J : Key → ℕ) : iprop(ctx X K J ∗ part c) ⊢ (Tk X c : sProp 𝕄) := by
  have e : (bigSep Finset.univ fun d => (dealt d c : sProp 𝕄)) = iprop(dealt .cw c ∗ dealt .ccw c) := bigSep_dir _
  unfold part Tk
  rw [e]
  iintro ⟨#Hc, ⟨H1, H2, H3⟩, H4, H5⟩
  iexists K; iexists J
  isplitr; · iexact Hc
  isplitl [H1]; · iexact H1
  isplitl [H2]; · iexact H2
  isplitl [H3]; · iexact H3
  isplitl [H4]
  · iapply (deal_dir .cw c); iexact H4
  · iapply (deal_dir .ccw c); iexact H5

theorem over_bars (Φ : GSem nD τ sig → sProp 𝕄) : bigSep barCells Φ = bigSep Finset.univ fun c => Φ (barCell c) := bigSep_map barEmb
theorem over_own (Φ : GSem nD τ sig → sProp 𝕄) : bigSep ownCells Φ = bigSep Finset.univ fun c : Dev nD => bigSep Finset.univ fun o => Φ ((c : Thread nD τ), ownSem o) := by
  unfold ownCells
  rw [bigSep_map, bigSep_univ_prod]
  rfl

theorem parts : iprop((bigSep Finset.univ fun c => atPos ER (barCell c) 0 ∅ 0)
      ∗ (bigSep Finset.univ fun c => iprop(cred (tallyAt (barCell c) 0 2) ∗ bigSep Finset.univ fun d => inCred d c))
      ∗ (bigSep Finset.univ fun c : Dev nD => bigSep Finset.univ fun o => openTok ER ((c : Thread nD τ), ownSem o))
      ∗ (bigSep Finset.univ fun c => bigSep Finset.univ fun d => paysTo d c)
      ∗ (bigSep Finset.univ fun c => bigSep Finset.univ fun d => bigSep (Finset.range 32) (wTok d (nxt d c)))
      ∗ bigSep Finset.univ fun c => bigSep Finset.univ fun d => todo (reader0 d c) 0 8)
    ⊢ (bigSep Finset.univ part : sProp 𝕄) := by
  unfold part dealt
  simp only [bigSep_sep']
  iintro ⟨H1, ⟨H2, H3⟩, H4, H5, H6, H7⟩
  isplitl [H1 H2 H4]
  · isplitl [H1]; · iexact H1
    isplitl [H2] <;> iassumption
  isplitl [H5]; · iexact H5
  isplitl [H6]; · iexact H6
  isplitl [H7] <;> iassumption

theorem tk_all (K : GSem nD τ sig → ℕ) (J : Key → ℕ) : iprop(ctx X K J ∗ bigSep Finset.univ part) ⊢ (bigSep Finset.univ (Tk X) : sProp 𝕄) :=
  bigSep_with_persistent (R := ctx X K J) (Φ := part (F := F)) fun c _ => part_intro X c K J

theorem deal_all : iprop(levAts L lv ∗ (bigSep Finset.univ fun c : Dev nD => semVal (barCell c) 0)
      ∗ (bigSep Finset.univ fun c => Pipeline.launchCred owe0 c) ∗ BI.own (ER roundsU) ∗ BI.own (ES slotsU))
    ⊢ (|={Set.univ}=> bigSep Finset.univ (Tk X) : sProp 𝕄) := by
  have hv := Entails.of_eq (over_bars (F := F) fun g => semVal g 0).symm
  have hc : (bigSep Finset.univ fun c => (Pipeline.launchCred owe0 c : sProp 𝕄))
      ⊢ bigSep Finset.univ fun c => iprop(cred (tallyAt (barCell c) 0 2) ∗ bigSep Finset.univ fun d => inCred d c) := bigSep_mono fun c _ => creds c
  have hp := Entails.of_eq ((pays_eq (F := F)).trans pays_around)
  have hw := (writes (F := F)).trans (Entails.of_eq writes_around)
  have hS := Release.slots_init (ES (F := F)) (Es := Set.univ) (Finset.univ : Finset Key) 4 fun k : Key => anySeg (F := F) k.2.1 k.1 k.2.2.1 k.2.2.2
  iintro ⟨#HL, Hv, Hcr, HR, HS⟩
  imod (Rounds.fund_launch (ER (F := F)) (sched X) cells_apart (fun g _ h => h) pays) $$ [Hv HR] with ⟨%K, -, #HI, #Hr, Hat, Ho, Hd⟩
  · isplitl [Hv]
    · iapply hv $$ Hv
    · iexact HR
  imod hS $$ HS with ⟨%J, -, #HJ, Hrd, Hwr⟩
  imodintro
  iapply (tk_all X K J)
  isplitr
  · unfold ctx levs
    isplitr; · iexact HL
    isplitr; · iexact HI
    isplitr; · iexact HJ
    iexact Hr
  iapply (parts (F := F))
  isplitl [Hat]; · iapply (Entails.of_eq (over_bars (F := F) fun g => atPos ER g 0 ∅ 0)) $$ Hat
  isplitl [Hcr]; · iapply hc $$ Hcr
  isplitl [Ho]; · iapply (Entails.of_eq (over_own (F := F) fun g => openTok ER g)) $$ Ho
  isplitl [Hd]; · iapply hp $$ Hd
  isplitl [Hwr]; · iapply hw $$ Hwr
  iapply (Entails.of_eq (readers (F := F))) $$ Hrd

/-! ## The run -/

/-- What a device has beside the buffers: before the region, and after it. -/
def rest : Fin 2 → Dev nD → sProp 𝕄
  | 0, c => iprop(Tk X c ∗ (∃ r, prngReg c r) ∗ ∃ W, owes (c : Thread nD τ) (owe0 c) W)
  | 1, c => iprop(Yk c ∗ ∃ W, owes (c : Thread nD τ) (0 : CellTallies nD τ sig ℕ) W)

variable (m : (ℓ : Loc nD τ sig) → Buf (Elt F) ℓ) (ρ : Dev nD → PrngReg)

/-- The own blocks and the weights, as the host program hands them over. -/
def Xm (c : Dev nD) : Blk F := V9 m c main_v63
def Wm (c : Dev nD) : Wts F := V9 m c main_v64
/-- Every buffer at the end. -/
def Vend (c : Dev nD) : Valuation τ sig (Elt F) := Vout (Xm m) (Wm m) (V9 m) c

theorem held_parts (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) restRefs V) :=
  StableHlo.held_sub_split (c : Thread nD τ) (Pipeline.arrRefs_sub_ucRefs spec0 (by decide)) V

variable (h : Entry (Xm m) (Wm m) (V9 m))

theorem enter : iprop(StableHlo.held (c : Thread nD τ) (Pipeline.ucRefs τ sig) (V9 m c) ∗ rest (Xm m) 0 c) ⊢ (region (Xm m) (Wm m) (V9 m) h).pre c := by
  show _ ⊢ iprop(StableHlo.held (c : Thread nD τ) (Pipeline.arrRefs (τ := τ) spec0) (V9 m c) ∗ (∃ r, prngReg c r)
    ∗ (StableHlo.held (c : Thread nD τ) restRefs (V9 m c) ∗ emp) ∗ Tk (Xm m) c ∗ ∃ Wd, owes (c : Thread nD τ) (0 + owe0 c) Wd)
  rw [held_parts, zero_add]
  unfold rest
  iintro ⟨⟨Ha, Hb⟩, Ht, Hp, HO⟩
  isplitl [Ha]; · iexact Ha
  isplitl [Hp]; · iexact Hp
  isplitl [Hb]
  · isplitl [Hb]; · iexact Hb
    iempintro
  isplitl [Ht] <;> iassumption

theorem leave : (region (Xm m) (Wm m) (V9 m) h).post c ⊢ iprop(StableHlo.held (c : Thread nD τ) (Pipeline.ucRefs τ sig) (Vend m c) ∗ rest (Xm m) 1 c) := by
  show iprop(StableHlo.held (c : Thread nD τ) (Pipeline.arrRefs (τ := τ) spec0) (Vend m c) ∗ (∃ r, prngReg c r)
    ∗ (StableHlo.held (c : Thread nD τ) restRefs (Vend m c) ∗ emp) ∗ Yk c ∗ ∃ Wd, owes (c : Thread nD τ) (0 : CellTallies nD τ sig ℕ) Wd) ⊢ _
  rw [held_parts]
  unfold rest
  iintro ⟨Ha, -, ⟨Hb, -⟩, Hy, HO⟩
  isplitl [Ha Hb]
  · isplitl [Ha] <;> iassumption
  isplitl [Hy] <;> iassumption

/-- What a core holds at the start and is no part of the deal. -/
def kept : sProp 𝕄 :=
  iprop(StableHlo.held (c : Thread nD τ) (Pipeline.ucRefs τ sig) (V0 m c) ∗ (∃ r, prngReg c r) ∗ ∃ W, owes (c : Thread nD τ) (owe0 c) W)

theorem start_core : iprop(unscopedBufs c (fun b => m ((c : Thread nD τ).loc b)) ∗ unscopedSems0 c
      ∗ owes (c : Thread nD τ) (owe0 c) ∅ ∗ Pipeline.launchCred owe0 c ∗ prngReg c (ρ c) ∗ Gp c)
    ⊢ (iprop(kept c m ∗ semVal (barCell c) 0 ∗ Pipeline.launchCred owe0 c ∗ Gp c) : sProp 𝕄) := by
  rw [show unscopedBufs c (fun b => m ((c : Thread nD τ).loc b)) = StableHlo.held (c : Thread nD τ) (Pipeline.ucRefs τ sig) (V0 m c)
    from Pipeline.unscopedBufs_held c (V0 m c), unscoped_bar]
  unfold kept
  iintro ⟨H1, H2, H3, H4, H5, H6⟩
  isplitl [H1 H3 H5]
  · isplitl [H1]; · iexact H1
    isplitl [H5]; · iexists (ρ c); iexact H5
    iexists ∅; iexact H3
  isplitl [H2]; · iexact H2
  isplitl [H4] <;> iassumption

theorem start_core_all : (bigSep Finset.univ fun c : Dev nD => iprop(unscopedBufs c (fun b => m ((c : Thread nD τ).loc b)) ∗ unscopedSems0 c
      ∗ owes (c : Thread nD τ) (owe0 c) ∅ ∗ Pipeline.launchCred owe0 c ∗ prngReg c (ρ c) ∗ Gp c))
    ⊢ (iprop((bigSep Finset.univ fun c => kept c m) ∗ (bigSep Finset.univ fun c : Dev nD => semVal (barCell c) 0)
        ∗ (bigSep Finset.univ fun c => Pipeline.launchCred owe0 c) ∗ bigSep Finset.univ Gp) : sProp 𝕄) := by
  refine (show _ ⊢ _ from bigSep_mono fun c _ => start_core c m ρ).trans (Entails.of_eq ?_)
  rw [bigSep_sep', bigSep_sep', bigSep_sep']

theorem start_all :
    iprop((bigSep Finset.univ fun c : Dev nD => iprop(unscopedBufs c (fun b => m ((c : Thread nD τ).loc b)) ∗ unscopedSems0 c
          ∗ owes (c : Thread nD τ) (owe0 c) ∅ ∗ Pipeline.launchCred owe0 c ∗ prngReg c (ρ c) ∗ Gp c)) ∗ levAts L lv)
      ⊢ (|={Set.univ}=> bigSep Finset.univ fun c : Dev nD =>
          iprop(StableHlo.held (c : Thread nD τ) (Pipeline.ucRefs τ sig) (V0 m c) ∗ rest (Xm m) 0 c) : sProp 𝕄) := by
  have hfin : ∀ c ∈ (Finset.univ : Finset (Dev nD)), iprop(kept c m ∗ Tk (Xm m) c)
      ⊢ (iprop(StableHlo.held (c : Thread nD τ) (Pipeline.ucRefs τ sig) (V0 m c) ∗ rest (Xm m) 0 c) : sProp 𝕄) := fun c _ => by
    unfold kept rest
    iintro ⟨⟨H1, H2, H3⟩, H4⟩
    isplitl [H1]; · iexact H1
    isplitl [H4]; · iexact H4
    isplitl [H2] <;> iassumption
  iintro ⟨H, #HL⟩
  ihave H := (start_core_all m ρ) $$ H
  icases H with ⟨Hk, Hv, Hc, HG⟩
  ihave HG := (Gp_all (F := F)) $$ HG
  icases HG with ⟨HR, HS⟩
  imod (deal_all (Xm m)) $$ [Hv Hc HR HS] with HT
  · isplitr; · iexact HL
    isplitl [Hv]; · iexact Hv
    isplitl [Hc]; · iexact Hc
    isplitl [HR] <;> iassumption
  imodintro
  iapply (show (bigSep Finset.univ fun c : Dev nD => iprop(kept c m ∗ Tk (Xm m) c)) ⊢ _ from bigSep_mono hfin)
  iapply bigSep_pair
  isplitl [Hk] <;> iassumption

/-- What is read at the end on a device. -/
def Ends (c : Dev nD) (s : MemSt nD τ sig (Elt F)) : Prop :=
  (∀ b ∈ Pipeline.ucRefs τ sig, s.mem ((c : Dev nD), b) = Vend m c b) ∧ s.sem (barCell c) = 0

theorem read_end (s' : Phys nD τ sig (Elt F)) :
    iprop((StableHlo.held (c : Thread nD τ) (Pipeline.ucRefs τ sig) (Vend m c) ∗ Yk c) ∗ SI s') ⊢ (|={Set.univ}=> iprop(⌜Ends m c s'.mem⌝ ∗ SI s') : sProp 𝕄) := by
  unfold StableHlo.held Yk
  iintro ⟨⟨Hh, Hb⟩, HSI⟩
  ihave Hr := (pointsTo_read_all (Pipeline.ucRefs τ sig) (fun b => ((c : Thread nD τ).1, b)) (Vend m c) s') $$ [Hh HSI]
  · isplitl [Hh] <;> iassumption
  icases Hr with ⟨%hr, HSI⟩
  icombine HSI Hb gives %hb
  imodintro
  isplitr
  · ipureintro
    exact ⟨hr, by simpa using hb⟩
  · iexact HSI

include h in
set_option backward.isDefEq.respectTransparency.types false in
/-- Every execution ends, with every buffer as the last valuation says and every counter at zero. -/
theorem run_main : θ_run defs (onTc (τ := τ) (main (F := F))) ⟨m, fun _ => 0, ρ⟩
    (fun r => (∀ (c : Dev nD) (b : DevRef τ sig), b ∈ Pipeline.ucRefs τ sig → r.2.mem ((c : Dev nD), b) = Vend m c b) ∧ r.2.sem = fun _ => 0) :=
  Pipeline.θ_run_regions_kit_dev_sems (pcfgs (F := F)) adm (pdats (Xm m) (Wm m) (V9 m)) 0 cellOf_inj EP defs₀ 𝒱₀ L lv m ρ main
    (segs m 𝒱₀ L lv (rest (Xm m)) 0 (pdats (Xm m) (Wm m) (V9 m)) (region (Xm m) (Wm m) (V9 m) h))
    (fun c Q => by
      rewrite [main_chain c, Seg.run_eq_chain,
        show (segs m 𝒱₀ L lv (rest (Xm m)) 0 (pdats (Xm m) (Wm m) (V9 m)) (region (Xm m) (Wm m) (V9 m) h) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()) ] from rfl]
      dsimp (config := { failIfUnchanged := false }) only
      exact .rfl)
    (fun c => by simp only [segs, Seg.pipes_host, Seg.pipes_region, Seg.pipes_nil]; decide)
    (O₀ := owe0) (hL := L_of_ne) (G := Gp) (u₀ := u₀)
    (hu₀ := by
      unfold u₀
      iintro Hu
      ihave H := (ownU_pair _ _) $$ Hu
      icases H with ⟨HP, HX⟩
      imodintro
      isplitl [HP]; · iexact HP
      iapply (Gp_intro (F := F))
      iapply (own_both (F := F)) $$ HX)
    (T₀ := fun c => iprop(StableHlo.held (c : Thread nD τ) (Pipeline.ucRefs τ sig) (V0 m c) ∗ rest (Xm m) 0 c))
    (Tₙ := fun c => iprop(StableHlo.held (c : Thread nD τ) (Pipeline.ucRefs τ sig) (Vend m c) ∗ Yk c))
    (hch := fun c => ⟨.rfl, .rfl, .rfl, .rfl, .rfl, .rfl, .rfl, .rfl, .rfl, enter c m h, (leave c m h).trans (by
      show iprop(StableHlo.held (c : Thread nD τ) (Pipeline.ucRefs τ sig) (Vend m c)
          ∗ (Yk c ∗ ∃ W, owes (c : Thread nD τ) (0 : CellTallies nD τ sig ℕ) W))
        ⊢ iprop((StableHlo.held (c : Thread nD τ) (Pipeline.ucRefs τ sig) (Vend m c) ∗ Yk c) ∗ ∃ W, owes (c : Thread nD τ) (0 : CellTallies nD τ sig ℕ) W)
      iintro ⟨H1, H2, H3⟩
      isplitr [H3]
      · isplitl [H1] <;> iassumption
      · iexact H3)⟩)
    (hinit := start_all m ρ)
    (QY := Ends m)
    (hfin := fun c s' => read_end c m s')
    (hQ := fun s hs hz => ⟨fun c b hb => (hs c).1 b hb,
      sem_eq_zero hz fun c sm hsm => by
        obtain rfl := only_bar sm hsm
        exact (hs c).2⟩)

end Cert.KernelIdeal.Ag

end
-- ==== Proof.Meta.lean ====
/- The table of device numbers the host makes for each device: its own, its two neighbours', and those of the blocks in the order they arrive. -/
module

public import Idealize.ShloMosaic.Lib.StableHlo.RunRead
public import proofs.«01_k».proof.Proof.Start

@[expose] public section

noncomputable section

namespace Cert.KernelIdeal.Ag

open Idealize.ShloMosaic Idealize.ShloMosaic.TcCoe
open Cert.KernelIdeal Cert.KernelIdeal.Gen

/-! ## The integer arithmetic, at fixed shapes -/

/-- Words over a shape. -/
abbrev Ws (s : Shape) : Type := s.Idx → BitVec 32

/-- The cycle's table. -/
def tab : Ws S32 := fun i => lit0 (S32.rowMajor i)
theorem tab_eq (i : S32.Idx) : tab i = BitVec.ofNat 32 (cyc (i 0)).val := by
  revert i; decide +kernel

/-- A negative index counted from the end, as the host writes it. -/
def wrap (s : Shape) (h : S_.BroadcastsInDim s ![]) (x : Ws s) : Ws s :=
  select (cmpi .slt x (broadcastInDim s ![] h (constantI S_ 32 0#32))) (addi x (broadcastInDim s ![] h (constantI S_ 32 32#32))) x

/-- The positions' table, written through the cycle's. -/
def inv : Ws S32 :=
  Host.scatter scatter_S32_S32x1_S32_n_0_0_1 (fun _ b => b) (broadcastInDim S32 ![] bcast_S_S32 (constantI S_ 32 0#32))
    (broadcastInDim S32x1 ![0] bcast_S32_S32x1_0 (wrap S32 bcast_S_S32 tab)) (iotaInDim S32 32 0)
theorem inv_eq (i : S32.Idx) : inv i = BitVec.ofNat 32 (pos (i 0)).val := by
  revert i; decide +kernel

/-- One word of a table, at an index word. -/
def cell (x : Ws S32) (s : Ws S_) : Ws S_ := fun i =>
  shapeCast S_ (Host.dynamicSlice S1 x (fun _ => (s (Shape.Idx.first h_S_)).toInt) sliceFits_S32_S1) shapeCasts_S1_S_ i

/-- The number a table's word is read at: a small word wrapped, or as it is. -/
def wrap0 (x : Ws S_) : Ws S_ := select (cmpi .slt x (constantI S_ 32 0#32)) (addi x (constantI S_ 32 32#32)) x

/-- The divisor 32 as the host guards it against zero. -/
def base : Ws S_ := select (cmpi .eq (constantI S_ 32 32#32) (constantI S_ 32 0#32)) (constantI S_ 32 1#32) (constantI S_ 32 32#32)

/-- The remainder of sign of the divisor, of one word. -/
def rem0 (x : Ws S_) : Ws S_ :=
  select (andi (cmpi .ne (cmpi .slt (Host.remsi x base) (constantI S_ 32 0#32)) (cmpi .slt base (constantI S_ 32 0#32)))
    (cmpi .ne (Host.remsi x base) (constantI S_ 32 0#32))) (addi (Host.remsi x base) base) (Host.remsi x base)

/-- The remainder of sign of the divisor, of a vector. -/
def remV (s : Shape) (h : S_.BroadcastsInDim s ![]) (x : Ws s) : Ws s :=
  select
    (andi (cmpi .ne (cmpi .slt (Host.remsi x (broadcastInDim s ![] h base)) (broadcastInDim s ![] h (constantI S_ 32 0#32)))
        (broadcastInDim s ![] h (cmpi .slt base (constantI S_ 32 0#32))))
      (cmpi .ne (Host.remsi x (broadcastInDim s ![] h base)) (broadcastInDim s ![] h (constantI S_ 32 0#32))))
    (addi (Host.remsi x (broadcastInDim s ![] h base)) (broadcastInDim s ![] h base))
    (Host.remsi x (broadcastInDim s ![] h base))

/-- A device's own number. -/
def own (c : Dev nD) : Ws S_ := Host.remui (Host.divui (constantI S_ 32 (Dev.word c)) (constantI S_ 32 1#32)) (constantI S_ 32 32#32)
/-- Its position. -/
def at_ (c : Dev nD) : Ws S_ := cell inv (wrap0 (own c))
/-- The device a step before it. -/
def bef (c : Dev nD) : Ws S_ := cell tab (wrap0 (rem0 (subi (at_ c) (constantI S_ 32 1#32))))
/-- The device a step after it. -/
def aft (c : Dev nD) : Ws S_ := cell tab (wrap0 (rem0 (addi (at_ c) (constantI S_ 32 1#32))))
/-- The devices before it, in order. -/
def befs (c : Dev nD) : Ws S16 :=
  Host.gather gather_S32_S16x1_S16_n_0_n_n_0_1_1 tab (broadcastInDim S16x1 ![0] bcast_S16_S16x1_0 (wrap S16 bcast_S_S16
    (remV S16 bcast_S_S16 (subi (broadcastInDim S16 ![] bcast_S_S16 (subi (at_ c) (constantI S_ 32 1#32))) (iotaInDim S16 32 0)))))
/-- The devices after it, in order. -/
def afts (c : Dev nD) : Ws S15 :=
  Host.gather gather_S32_S15x1_S15_n_0_n_n_0_1_1 tab (broadcastInDim S15x1 ![0] bcast_S15_S15x1_0 (wrap S15 bcast_S_S15
    (remV S15 bcast_S_S15 (addi (broadcastInDim S15 ![] bcast_S_S15 (addi (at_ c) (constantI S_ 32 1#32))) (iotaInDim S15 32 0)))))

theorem own_eq (c : Dev nD) (i : S_.Idx) : own c i = BitVec.ofNat 32 c.val := by revert c i; decide +kernel
theorem at_eq (c : Dev nD) (i : S_.Idx) : at_ c i = BitVec.ofNat 32 (pos c).val := by revert c i; decide +kernel
theorem bef_eq (c : Dev nD) (i : S_.Idx) : bef c i = BitVec.ofNat 32 (frm .cw c).val := by revert c i; decide +kernel
theorem aft_eq (c : Dev nD) (i : S_.Idx) : aft c i = BitVec.ofNat 32 (nxt .cw c).val := by revert c i; decide +kernel
theorem befs_eq (c : Dev nD) (i : S16.Idx) : befs c i = BitVec.ofNat 32 (org .cw c (i 0).val).val := by revert c i; decide +kernel
theorem afts_eq (c : Dev nD) (i : S15.Idx) : afts c i = BitVec.ofNat 32 (org .ccw c (i 0).val).val := by revert c i; decide +kernel

/-- The table as the host joins it. -/
def joined (c : Dev nD) : Ws S34 :=
  concatenate S34 0 [⟨S3, concatenate S3 0 [⟨S1, broadcastInDim S1 ![] bcast_S_S1 (own c)⟩, ⟨S1, broadcastInDim S1 ![] bcast_S_S1 (bef c)⟩,
      ⟨S1, broadcastInDim S1 ![] bcast_S_S1 (aft c)⟩] concatenates_S1_S1_S1_S3_d0⟩, ⟨S16, befs c⟩, ⟨S15, afts c⟩]
    concatenates_S3_S16_S15_S34_d0
theorem joined_eq (c : Dev nD) (i : S34.Idx) : joined c i = metaOf c i := by revert c i; decide +kernel

end Cert.KernelIdeal.Ag
-- ==== Proof.Host.lean ====
/- The host's stretches read: the table, the blocks and the weights the kernel is entered with. -/
module

public import proofs.«01_k».proof.Proof.Meta

@[expose] public section

noncomputable section

namespace Cert.KernelIdeal.Ag

open Idealize.ShloMosaic Idealize.ShloMosaic.TcCoe Idealize.ShloMosaic.StableHlo
open Cert.KernelIdeal Cert.KernelIdeal.Gen

variable {F : FTy → Type} [FloatOps F]

section Stretches
variable (V : Valuation τ sig (Elt F)) (c : Dev nD)

theorem s0_c : after (hostOps0 c) V main_c = tab := by after_reads_simp; rfl
theorem s0_v13 : after (hostOps0 c) V main_v13 = own c := by after_reads_simp; rfl
theorem s0_v18 : after (hostOps0 c) V main_v18 = at_ c := by
  after_reads_simp [unaryIndexed_result_read, indexContents_cons, indexContents_empty, Matrix.cons_val_fin_one]; rfl
theorem s0_v19 : after (hostOps0 c) V main_v19 = subi (at_ c) (constantI S_ 32 1#32) := by
  after_reads_simp [unaryIndexed_result_read, indexContents_cons, indexContents_empty, Matrix.cons_val_fin_one]; rfl
theorem s0_c8 : after (hostOps0 c) V main_c_8 = constantI S_ 32 32#32 := by after_reads_simp

theorem s1_v20 (h8 : V main_c_8 = constantI S_ 32 32#32) : after hostOps0_1 V main_v20 = rem0 (V main_v19) := by
  after_reads_simp; rw [h8]; rfl
theorem s2_v25 : after hostOps0_2 V main_v25 = cell (V main_c) (wrap0 (V main_v20)) := by
  after_reads_simp [unaryIndexed_result_read, indexContents_cons, indexContents_empty, Matrix.cons_val_fin_one]; rfl
theorem s2_v26 : after hostOps0_2 V main_v26 = addi (V main_v18) (constantI S_ 32 1#32) := by after_reads_simp
theorem s2_c12 : after hostOps0_2 V main_c_12 = constantI S_ 32 32#32 := by after_reads_simp
theorem s3_v27 (h8 : V main_c_12 = constantI S_ 32 32#32) : after hostOps0_3 V main_v27 = rem0 (V main_v26) := by
  after_reads_simp; rw [h8]; rfl
theorem s4_v32 : after hostOps0_4 V main_v32 = cell (V main_c) (wrap0 (V main_v27)) := by
  after_reads_simp [unaryIndexed_result_read, indexContents_cons, indexContents_empty, Matrix.cons_val_fin_one]; rfl
theorem s4_v36 : after hostOps0_4 V main_v36
    = subi (broadcastInDim S16 ![] bcast_S_S16 (subi (V main_v18) (constantI S_ 32 1#32))) (iotaInDim S16 32 0) := by after_reads_simp
theorem s4_c16 : after hostOps0_4 V main_c_16 = constantI S_ 32 32#32 := by after_reads_simp
theorem s5_v37 (h8 : V main_c_16 = constantI S_ 32 32#32) : after hostOps0_5 V main_v37 = remV S16 bcast_S_S16 (V main_v36) := by
  after_reads_simp; rw [h8]; rfl
theorem s6_v44 : after hostOps0_6 V main_v44
    = Host.gather gather_S32_S16x1_S16_n_0_n_n_0_1_1 (V main_c) (broadcastInDim S16x1 ![0] bcast_S16_S16x1_0 (wrap S16 bcast_S_S16 (V main_v37))) := by
  after_reads_simp; rfl
theorem s6_v48 : after hostOps0_6 V main_v48
    = addi (broadcastInDim S15 ![] bcast_S_S15 (addi (V main_v18) (constantI S_ 32 1#32))) (iotaInDim S15 32 0) := by after_reads_simp
theorem s6_c20 : after hostOps0_6 V main_c_20 = constantI S_ 32 32#32 := by after_reads_simp
theorem s7_v49 (h8 : V main_c_20 = constantI S_ 32 32#32) : after hostOps0_7 V main_v49 = remV S15 bcast_S_S15 (V main_v48) := by
  after_reads_simp; rw [h8]; rfl
theorem s8_v61 : after hostOps0_8 V main_v61
    = concatenate S34 0 [⟨S3, concatenate S3 0 [⟨S1, broadcastInDim S1 ![] bcast_S_S1 (V main_v13)⟩, ⟨S1, broadcastInDim S1 ![] bcast_S_S1 (V main_v25)⟩,
      ⟨S1, broadcastInDim S1 ![] bcast_S_S1 (V main_v32)⟩] concatenates_S1_S1_S1_S3_d0⟩, ⟨S16, V main_v44⟩,
      ⟨S15, Host.gather gather_S32_S15x1_S15_n_0_n_n_0_1_1 (V main_c) (broadcastInDim S15x1 ![0] bcast_S15_S15x1_0 (wrap S15 bcast_S_S15 (V main_v49)))⟩]
    concatenates_S3_S16_S15_S34_d0 := by
  after_reads_simp; rfl
theorem s8_v63 : after hostOps0_8 V main_v63 = shapeCast S2x64x4096 (truncf .bf16 (V main_arg0) bitsLt_bf16_f32) shapeCasts_S128x4096_S2x64x4096 := by
  after_reads_simp; rfl
theorem s8_v64 : after hostOps0_8 V main_v64 = truncf .bf16 (V main_arg1) bitsLt_bf16_f32 := by
  after_reads_simp

end Stretches

variable (m : (ℓ : Loc nD τ sig) → Buf (Elt F) ℓ) (c : Dev nD)

/-! ## What stands at each boundary -/

attribute [local irreducible] tab own at_ remV rem0 wrap wrap0 cell

/-- A reference the stretches after the first leave alone stands as the first left it. -/
theorem keep2 (r : Ref sig .tc) (h1 : r ∉ hostOps0_1_W) : V2 m c r = V1 m c r := V2_of m c r h1
theorem keep4 (r : Ref sig .tc) (h1 : r ∉ hostOps0_1_W) (h2 : r ∉ hostOps0_2_W) (h3 : r ∉ hostOps0_3_W) : V4 m c r = V1 m c r :=
  ((V4_of m c r h3).trans (V3_of m c r h2)).trans (V2_of m c r h1)
theorem keep6 (r : Ref sig .tc) (h1 : r ∉ hostOps0_1_W) (h2 : r ∉ hostOps0_2_W) (h3 : r ∉ hostOps0_3_W) (h4 : r ∉ hostOps0_4_W)
    (h5 : r ∉ hostOps0_5_W) : V6 m c r = V1 m c r :=
  ((V6_of m c r h5).trans (V5_of m c r h4)).trans (keep4 m c r h1 h2 h3)
theorem keep8 (r : Ref sig .tc) (h1 : r ∉ hostOps0_1_W) (h2 : r ∉ hostOps0_2_W) (h3 : r ∉ hostOps0_3_W) (h4 : r ∉ hostOps0_4_W)
    (h5 : r ∉ hostOps0_5_W) (h6 : r ∉ hostOps0_6_W) (h7 : r ∉ hostOps0_7_W) : V8 m c r = V1 m c r :=
  ((V8_of m c r h7).trans (V7_of m c r h6)).trans (keep6 m c r h1 h2 h3 h4 h5)

theorem at_v20 : V2 m c main_v20 = rem0 (subi (at_ c) (constantI S_ 32 1#32)) :=
  (s1_v20 (V1 m c) (s0_c8 (V0 m c) c)).trans (congrArg rem0 (s0_v19 (V0 m c) c))
theorem at_v25 : V3 m c main_v25 = bef c :=
  (s2_v25 (V2 m c)).trans (congrArg₂ (fun a b => cell a (wrap0 b)) ((keep2 m c main_c (by decide)).trans (s0_c (V0 m c) c)) (at_v20 m c))
theorem at_v26 : V3 m c main_v26 = addi (at_ c) (constantI S_ 32 1#32) :=
  (s2_v26 (V2 m c)).trans (congrArg (fun a => addi a (constantI S_ 32 1#32)) ((keep2 m c main_v18 (by decide)).trans (s0_v18 (V0 m c) c)))
theorem at_v27 : V4 m c main_v27 = rem0 (addi (at_ c) (constantI S_ 32 1#32)) :=
  (s3_v27 (V3 m c) (s2_c12 (V2 m c))).trans (congrArg rem0 (at_v26 m c))
theorem at_v32 : V5 m c main_v32 = aft c :=
  (s4_v32 (V4 m c)).trans (congrArg₂ (fun a b => cell a (wrap0 b))
    ((keep4 m c main_c (by decide) (by decide) (by decide)).trans (s0_c (V0 m c) c)) (at_v27 m c))
theorem at_v36 : V5 m c main_v36 = subi (broadcastInDim S16 ![] bcast_S_S16 (subi (at_ c) (constantI S_ 32 1#32))) (iotaInDim S16 32 0) := by
  refine (s4_v36 (V4 m c)).trans ?_
  rw [(keep4 m c main_v18 (by decide) (by decide) (by decide)).trans (s0_v18 (V0 m c) c)]
theorem at_v37 : V6 m c main_v37 = remV S16 bcast_S_S16 (subi (broadcastInDim S16 ![] bcast_S_S16 (subi (at_ c) (constantI S_ 32 1#32))) (iotaInDim S16 32 0)) := by
  refine (s5_v37 (V5 m c) (s4_c16 (V4 m c))).trans ?_
  rw [at_v36 m c]
theorem at_v44 : V7 m c main_v44 = befs c := by
  refine (s6_v44 (V6 m c)).trans ?_
  rw [(keep6 m c main_c (by decide) (by decide) (by decide) (by decide) (by decide)).trans (s0_c (V0 m c) c), at_v37 m c]
  rfl
theorem at_v48 : V7 m c main_v48 = addi (broadcastInDim S15 ![] bcast_S_S15 (addi (at_ c) (constantI S_ 32 1#32))) (iotaInDim S15 32 0) := by
  refine (s6_v48 (V6 m c)).trans ?_
  rw [(keep6 m c main_v18 (by decide) (by decide) (by decide) (by decide) (by decide)).trans (s0_v18 (V0 m c) c)]
theorem at_v49 : V8 m c main_v49 = remV S15 bcast_S_S15 (addi (broadcastInDim S15 ![] bcast_S_S15 (addi (at_ c) (constantI S_ 32 1#32))) (iotaInDim S15 32 0)) := by
  refine (s7_v49 (V7 m c) (s6_c20 (V6 m c))).trans ?_
  rw [at_v48 m c]
theorem table_at : V9 m c main_v61 = metaOf c := by
  refine (s8_v61 (V8 m c)).trans ?_
  rw [(keep8 m c main_v13 (by decide) (by decide) (by decide) (by decide) (by decide) (by decide) (by decide)).trans (s0_v13 (V0 m c) c),
    (keep8 m c main_c (by decide) (by decide) (by decide) (by decide) (by decide) (by decide) (by decide)).trans (s0_c (V0 m c) c),
    ((V8_of m c main_v25 (by decide)).trans <| (V7_of m c main_v25 (by decide)).trans <| (V6_of m c main_v25 (by decide)).trans <|
      (V5_of m c main_v25 (by decide)).trans <| (V4_of m c main_v25 (by decide)).trans (at_v25 m c)),
    ((V8_of m c main_v32 (by decide)).trans <| (V7_of m c main_v32 (by decide)).trans <| (V6_of m c main_v32 (by decide)).trans (at_v32 m c)),
    ((V8_of m c main_v44 (by decide)).trans (at_v44 m c)), at_v49 m c]
  exact funext fun i => joined_eq c i

theorem arg0_at : V9 m c main_arg0 = m ((c : Thread nD τ).loc main_arg0) :=
  (V10_of m (fun _ r c => V9 m c r) c main_arg0 (by decide)).symm.trans (V10_main_arg0 m _ c)
theorem arg1_at : V9 m c main_arg1 = m ((c : Thread nD τ).loc main_arg1) :=
  (V10_of m (fun _ r c => V9 m c r) c main_arg1 (by decide)).symm.trans (V10_main_arg1 m _ c)

theorem entry : Entry (Xm m) (Wm m) (V9 m) := ⟨table_at m, fun _ => rfl, fun _ => rfl⟩

/-! ## The frame -/

theorem mem_uc (r : Ref sig .tc) (h : r.isScoped = false) : Proc.devRef (τ := τ) .tc r ∈ Pipeline.ucRefs τ sig :=
  Finset.mem_filter.mpr ⟨StableHlo.devRef_mem_tcRefs r, by simp [h]⟩

theorem end_arg0 : Vend m c main_arg0 = m ((c : Thread nD τ).loc main_arg0) :=
  (Function.update_of_ne (StableHlo.devRef_ne_of_ne (by decide) : (Proc.devRef .tc main_arg0 : DevRef τ sig) ≠ Proc.devRef .tc main_v65)
    (outOf (Xm m) (Wm m) c) (V9 m c)).trans (arg0_at m c)
theorem end_arg1 : Vend m c main_arg1 = m ((c : Thread nD τ).loc main_arg1) :=
  (Function.update_of_ne (StableHlo.devRef_ne_of_ne (by decide) : (Proc.devRef .tc main_arg1 : DevRef τ sig) ≠ Proc.devRef .tc main_v65)
    (outOf (Xm m) (Wm m) c) (V9 m c)).trans (arg1_at m c)
theorem end_out : Vend m c main_v65 = outOf (Xm m) (Wm m) c := by
  unfold Vend Vout
  exact Function.update_self (Proc.devRef .tc main_v65) (outOf (Xm m) (Wm m) c) (V9 m c)

/-- Every run ends with the arguments as launched, the result at the closed form, the counters at zero. -/
theorem run_value (ρ : Dev nD → PrngReg) :
    θ_run defs (onTc main) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v65) = outOf (Xm m) (Wm m) c) ∧ r.2.sem = fun _ => 0) :=
  (θ_run defs (onTc main) ⟨m, fun _ => 0, ρ⟩).mono (fun r h => ⟨fun c =>
    ⟨(h.1 c _ (mem_uc main_arg0 (by decide))).trans (end_arg0 m c), (h.1 c _ (mem_uc main_arg1 (by decide))).trans (end_arg1 m c),
      (h.1 c _ (mem_uc main_v65 (by decide))).trans (end_out m c)⟩, h.2⟩) (run_main m ρ (entry m))

end Cert.KernelIdeal.Ag
-- ==== Proof.Value.lean ====
/- The values, read at the extended reals: the rows a device holds at the end are its columns of the reference's result. -/
module

public import proofs.«01_k».proof.Proof.Host
public import proofs.«01_k».proof.Proof.Gen.ReferenceIdeal.Run
public import Idealize.ShloMosaic.Lib.StackMember
public import Idealize.ShloMosaic.Lib.MatmulPlain
public import Idealize.ShloMosaic.Lib.Layout
public import Idealize.ShloMosaic.Lib.Quiescent

@[expose] public section

noncomputable section

namespace Cert.KernelIdeal.Ag

open Idealize.ShloMosaic Idealize.ShloMosaic.TcCoe Idealize.ShloMosaic.ValueIdx
open Cert.KernelIdeal Cert.KernelIdeal.Gen
open scoped BigOperators

/-- One entry of a tile: the product's entry, cut off below at zero. -/
theorem pay_apply (X : Blk Ideal) (W : Wts Ideal) (r : Fin 128) (l : Fin 256) :
    (k0_pay1 (F := Ideal) X W (ix2 r l) : EReal)
      = max (∑ k : Fin 4096, shapeCast S128x4096 X shapeCasts_S2x64x4096_S128x4096 (ix2 r k) * W (ix2 k l)) 0 := by
  have hm := Ideal.matmul_plain_apply (M := 128) (K := 4096) (N := 256) (φ₁ := .bf16) (φ₂ := .bf16) none
    (shapeCast S128x4096 X shapeCasts_S2x64x4096_S128x4096) W (constant S128x256 .f32 0x00000000#32) r l
  have hz : (constant (F := Ideal) S128x256 .f32 0x00000000#32 (ix2 r l) : EReal) = 0 := Ideal.ofBits_zero_f32
  rw [hz, zero_add] at hm
  have hp : k0_pay1 (F := Ideal) X W = fun i => max (FloatOps.matmul (F := Ideal) (φ₁ := .bf16) (φ₂ := .bf16) (DotDims.plain 128 4096 256) none
      (shapeCast S128x4096 X shapeCasts_S2x64x4096_S128x4096) W (constant S128x256 .f32 0x00000000#32) i) (Ideal.ofBits .f32 0x00000000#32) := by
    unfold k0_pay1
    simp only [shapeCast_self]
    rfl
  rw [hp]
  show max _ _ = _
  rw [hm, Ideal.ofBits_zero_f32]

end Cert.KernelIdeal.Ag

namespace Cert.ReferenceIdeal.Value

open Idealize.ShloMosaic Idealize.ShloMosaic.TcCoe Idealize.ShloMosaic.ValueIdx
open Cert.ReferenceIdeal Cert.ReferenceIdeal.Gen
open scoped BigOperators

/-- What the reference ends with. -/
def relu (A : FVec Ideal S4096x4096 .f32) (B : FVec Ideal S4096x8192 .f32) : FVec Ideal S4096x8192 .f32 :=
  maximumf (Host.dotGeneral dot_S4096x4096_S4096x8192_S4096x8192_1_0_0_1_n_n none A B)
    (broadcastInDim S4096x8192 ![] bcast_S_S4096x8192 (constant S_ .f32 0x00000000#32))

theorem relu_apply (A : FVec Ideal S4096x4096 .f32) (B : FVec Ideal S4096x8192 .f32) (r : Fin 4096) (l : Fin 8192) :
    (relu A B (ix2 r l) : EReal) = max (∑ k : Fin 4096, A (ix2 r k) * B (ix2 k l)) 0 := by
  have hd := Idealize.ShloMosaic.StackMember.dotGeneral_plain_apply (m := 4096) (k := 4096) (n := 8192) (φ₁ := .f32) (φ₂ := .f32) none A B r l
  show max (Host.dotGeneral (DotDims.plain 4096 4096 8192) none A B (ix2 r l)) (Ideal.ofBits .f32 0x00000000#32) = _
  rw [hd, Ideal.ofBits_zero_f32]

end Cert.ReferenceIdeal.Value

namespace Cert.KernelIdeal.Ag

open Idealize.ShloMosaic Idealize.ShloMosaic.TcCoe Idealize.ShloMosaic.ValueIdx
open Cert.KernelIdeal Cert.KernelIdeal.Gen
open scoped BigOperators

variable (m : (ℓ : Loc nD τ sig) → Buf (Elt Ideal) ℓ)
variable (A : (⟨2, ![4096, 4096]⟩ : Shape).Idx → EReal) (B : (⟨2, ![4096, 8192]⟩ : Shape).Idx → EReal)

/-- The block of rows a device brings, as a matrix, is its argument. -/
theorem rows_eq (o : Dev nD) : shapeCast S128x4096 (Xm m o) shapeCasts_S2x64x4096_S128x4096
    = (m ((o : Thread nD τ).loc main_arg0) : S128x4096.Idx → EReal) := by
  have h8 : V8 m o main_arg0 = m ((o : Thread nD τ).loc main_arg0) := (V9_of m o main_arg0 (by decide)).symm.trans (arg0_at m o)
  have hx : Xm m o = shapeCast S2x64x4096 (truncf (F := Ideal) (φ := .f32) .bf16 (V8 m o main_arg0) bitsLt_bf16_f32) shapeCasts_S128x4096_S2x64x4096 := s8_v63 (V8 m o)
  rw [hx, h8, shapeCast_shapeCast]
  rfl
/-- The columns of the weights a device holds are its argument. -/
theorem cols_eq (c : Dev nD) : Wm m c = (m ((c : Thread nD τ).loc main_arg1) : S4096x256.Idx → EReal) := by
  have h8 : V8 m c main_arg1 = m ((c : Thread nD τ).loc main_arg1) := (V9_of m c main_arg1 (by decide)).symm.trans (arg1_at m c)
  have hx : Wm m c = truncf (F := Ideal) (φ := .f32) .bf16 (V8 m c main_arg1) bitsLt_bf16_f32 := s8_v64 (V8 m c)
  rw [hx, h8]
  rfl

theorem out_block
    (hA : ∀ o : Dev nD, m ((o : Thread nD τ).loc main_arg0) = Layout.block ⟨2, ![128, 4096]⟩ ⟨2, ![4096, 4096]⟩ 0 32 o A)
    (hB : ∀ o : Dev nD, m ((o : Thread nD τ).loc main_arg1) = Layout.block ⟨2, ![4096, 256]⟩ ⟨2, ![4096, 8192]⟩ 1 32 o B) (c : Dev nD) :
    outOf (Xm m) (Wm m) c = Layout.block ⟨2, ![4096, 256]⟩ ⟨2, ![4096, 8192]⟩ 1 32 c (ReferenceIdeal.Value.relu A B) := by
  funext i
  have h0 : (i 0).val < 4096 := (i 0).isLt
  have h1 : (i 1).val < 256 := (i 1).isLt
  have hc : c.val < 32 := c.isLt
  have hp := pay_apply (Xm m (blkOf i)) (Wm m c) (⟨(i 0).val % 128, Nat.mod_lt _ (by decide)⟩ : Fin 128) (i 1)
  refine hp.trans ?_
  rw [rows_eq, cols_eq, hA, hB]
  show _ = ReferenceIdeal.Value.relu A B _
  refine Eq.trans ?_ (congrArg (ReferenceIdeal.Value.relu A B)
    (show ix2 (⟨(i 0).val, h0⟩ : Fin 4096) (⟨c.val * 256 + (i 1).val, by omega⟩ : Fin 8192) = _ from ?_))
  · rw [ReferenceIdeal.Value.relu_apply]
    refine congrArg (fun s => max s (0 : EReal)) (Finset.sum_congr rfl fun k _ => congrArg₂ (· * ·) (congrArg A ?_) (congrArg B ?_))
    · funext a; apply Fin.ext
      match a with
      | ⟨0, _⟩ => show (i 0).val / 128 * 128 + (i 0).val % 128 = (i 0).val; omega
      | ⟨1, _⟩ => rfl
    · funext a; apply Fin.ext
      match a with
      | ⟨0, _⟩ => rfl
      | ⟨1, _⟩ => rfl
  · funext a; apply Fin.ext
    match a with
    | ⟨0, _⟩ => rfl
    | ⟨1, _⟩ => rfl

end Cert.KernelIdeal.Ag
-- ==== Proof.KProgEq.lean ====
module
public import proofs.«01_k».proof.Proof.KProg
@[expose] public section
noncomputable section
namespace Cert.Kernel.Ag
open Idealize.ShloMosaic Idealize.ShloMosaic.TcCoe Idealize.SL.Sem
open Cert.Kernel.Gen
variable {F : FTy → Type} [FloatOps F]

set_option maxRecDepth 1000000 in
set_option maxHeartbeats 0 in
/-- The printed body, on what the pipeline calls it with, is the program of steps. -/
theorem body_eq (t : Fin cfg0.N) : bodyAt0 (F := F) t = body := rfl
end Cert.Kernel.Ag
end
-- ==== Proof.lean ====
/- The claims put together: the two kernels' frames, the reference's, and the values. -/
module

public import proofs.«01_k».proof.Defs
public import proofs.«01_k».proof.Proof.Value
public import proofs.«01_k».proof.Proof.KHost
public import proofs.«01_k».proof.Proof.Gen.ReferenceIdeal.Run

@[expose] public section

noncomputable section

namespace Cert.Proof

open Idealize.ShloMosaic Idealize.ShloMosaic.TcCoe Idealize.SL.Sem

/-- The kernel at bit patterns ends with its arguments as launched and every counter at zero. -/
theorem frame_bits : quiescent_Kernel (hKernel := Cert.Kernel.Gen.facts) := fun m g _ =>
  (θ_run Cert.Kernel.defs (onTc Cert.Kernel.main) ⟨m, fun _ => 0, g⟩).mono (fun _ h => ⟨fun c => ⟨(h.1 c).1, (h.1 c).2.1⟩, h.2⟩)
    (Cert.Kernel.Ag.run_value (F := Bits) m g)

/-- The same of the kernel at the extended reals. -/
theorem frame_ideal : quiescent_KernelIdeal (hKernelIdeal := Cert.KernelIdeal.Gen.facts) := fun m g _ =>
  (θ_run Cert.KernelIdeal.defs (onTc Cert.KernelIdeal.main) ⟨m, fun _ => 0, g⟩).mono (fun _ h => ⟨fun c => ⟨(h.1 c).1, (h.1 c).2.1⟩, h.2⟩)
    (Cert.KernelIdeal.Ag.run_value (F := Ideal) m g)

/-- The reference, which has no counters at all. -/
theorem frame_ref : quiescent_ReferenceIdeal (hReferenceIdeal := Cert.ReferenceIdeal.Gen.facts) := fun m g _ =>
  (θ_run Cert.ReferenceIdeal.defs (onTc Cert.ReferenceIdeal.main) ⟨m, fun _ => 0, g⟩).mono
    (fun r h => ⟨fun c => (h c).2, sem_eq_zero_of_no_sems (by decide) r.2⟩) (Cert.ReferenceIdeal.Value.run (F := Ideal) m g)

/-- Every device's result is its columns of the reference's. -/
theorem values : algebraic_KernelIdeal_ReferenceIdeal (hKernelIdeal := Cert.KernelIdeal.Gen.facts)
    (hReferenceIdeal := Cert.ReferenceIdeal.Gen.facts) := fun m g m' g' _ hag =>
  ⟨Cert.ReferenceIdeal.Value.relu (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs (onTc Cert.KernelIdeal.main) ⟨m, fun _ => 0, g⟩).mono
      (fun _ h c => ⟨(h.1 c).2.2.trans (Cert.KernelIdeal.Ag.out_block m _ _ (fun o => (hag o).1) (fun o => (hag o).2) c), (h.1 c).1, (h.1 c).2.1⟩)
      (Cert.KernelIdeal.Ag.run_value (F := Ideal) m g),
    (θ_run Cert.ReferenceIdeal.defs (onTc Cert.ReferenceIdeal.main) ⟨m', fun _ => 0, g'⟩).mono (fun _ h => h 0)
      (Cert.ReferenceIdeal.Value.run (F := Ideal) m' g')⟩

theorem claim : Cert.Claim := ⟨Cert.Kernel.Gen.facts, Cert.KernelIdeal.Gen.facts, Cert.ReferenceIdeal.Gen.facts,
  frame_bits, frame_ideal, frame_ref, trivial, values⟩

end Cert.Proof

end
